-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInRefIdeal (m : (ℓ : Loc Cert.MlaInRefIdeal.nD Cert.MlaInRefIdeal.τ Cert.MlaInRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnPrompt (m : (ℓ : Loc Cert.FfnPrompt.nD Cert.FfnPrompt.τ Cert.FfnPrompt.sig) → Buf (Elt Bits) ℓ) : Prop :=
  True

def Pre_FfnPromptIdeal (m : (ℓ : Loc Cert.FfnPromptIdeal.nD Cert.FfnPromptIdeal.τ Cert.FfnPromptIdeal.sig) → Buf (Elt Ideal) ℓ) : Prop :=
  True

def Pre_FfnPromptRefIdeal (m : (ℓ : Loc Cert.FfnPromptRefIdeal.nD Cert.FfnPromptRefIdeal.τ Cert.FfnPromptRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1)
      ∧ r.2.mem ((c.tc : Thread Cert.MlaIn.nD Cert.MlaIn.τ).loc Cert.MlaIn.main_arg2) = m ((c.tc : Thread Cert.MlaIn.nD Cert.MlaIn.τ).loc Cert.MlaIn.main_arg2)
      ∧ r.2.mem ((c.tc : Thread Cert.MlaIn.nD Cert.MlaIn.τ).loc Cert.MlaIn.main_arg3) = m ((c.tc : Thread Cert.MlaIn.nD Cert.MlaIn.τ).loc Cert.MlaIn.main_arg3)
      ∧ r.2.mem ((c.tc : Thread Cert.MlaIn.nD Cert.MlaIn.τ).loc Cert.MlaIn.main_arg4) = m ((c.tc : Thread Cert.MlaIn.nD Cert.MlaIn.τ).loc Cert.MlaIn.main_arg4))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
      ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
      ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
      ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4))
      ∧ r.2.sem = fun _ => 0)

def quiescent_MlaInRefIdeal [hMlaInRefIdeal : Cert.MlaInRefIdeal.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1)
      ∧ r.2.mem ((c.tc : Thread Cert.MlaInRefIdeal.nD Cert.MlaInRefIdeal.τ).loc Cert.MlaInRefIdeal.main_arg2) = m ((c.tc : Thread Cert.MlaInRefIdeal.nD Cert.MlaInRefIdeal.τ).loc Cert.MlaInRefIdeal.main_arg2)
      ∧ r.2.mem ((c.tc : Thread Cert.MlaInRefIdeal.nD Cert.MlaInRefIdeal.τ).loc Cert.MlaInRefIdeal.main_arg3) = m ((c.tc : Thread Cert.MlaInRefIdeal.nD Cert.MlaInRefIdeal.τ).loc Cert.MlaInRefIdeal.main_arg3)
      ∧ r.2.mem ((c.tc : Thread Cert.MlaInRefIdeal.nD Cert.MlaInRefIdeal.τ).loc Cert.MlaInRefIdeal.main_arg4) = m ((c.tc : Thread Cert.MlaInRefIdeal.nD Cert.MlaInRefIdeal.τ).loc Cert.MlaInRefIdeal.main_arg4))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnPrompt [hFfnPrompt : Cert.FfnPrompt.Facts] : Prop :=
  ∀ (m : (ℓ : Loc Cert.FfnPrompt.nD Cert.FfnPrompt.τ Cert.FfnPrompt.sig) → Buf (Elt Bits) ℓ) (g : Dev Cert.FfnPrompt.nD → PrngReg), Pre_FfnPrompt m →
    θ_run (Cert.FfnPrompt.defs (F := Bits)) (onTc (τ := Cert.FfnPrompt.τ) (Cert.FfnPrompt.main (F := Bits))) ⟨m, fun _ => 0, g⟩ (fun r => (∀ c : Dev Cert.FfnPrompt.nD,
      r.2.mem ((c.tc : Thread Cert.FfnPrompt.nD Cert.FfnPrompt.τ).loc Cert.FfnPrompt.main_arg0) = m ((c.tc : Thread Cert.FfnPrompt.nD Cert.FfnPrompt.τ).loc Cert.FfnPrompt.main_arg0)
      ∧ r.2.mem ((c.tc : Thread Cert.FfnPrompt.nD Cert.FfnPrompt.τ).loc Cert.FfnPrompt.main_arg1) = m ((c.tc : Thread Cert.FfnPrompt.nD Cert.FfnPrompt.τ).loc Cert.FfnPrompt.main_arg1)
      ∧ r.2.mem ((c.tc : Thread Cert.FfnPrompt.nD Cert.FfnPrompt.τ).loc Cert.FfnPrompt.main_arg2) = m ((c.tc : Thread Cert.FfnPrompt.nD Cert.FfnPrompt.τ).loc Cert.FfnPrompt.main_arg2)
      ∧ r.2.mem ((c.tc : Thread Cert.FfnPrompt.nD Cert.FfnPrompt.τ).loc Cert.FfnPrompt.main_arg3) = m ((c.tc : Thread Cert.FfnPrompt.nD Cert.FfnPrompt.τ).loc Cert.FfnPrompt.main_arg3)
      ∧ r.2.mem ((c.tc : Thread Cert.FfnPrompt.nD Cert.FfnPrompt.τ).loc Cert.FfnPrompt.main_arg4) = m ((c.tc : Thread Cert.FfnPrompt.nD Cert.FfnPrompt.τ).loc Cert.FfnPrompt.main_arg4)
      ∧ r.2.mem ((c.tc : Thread Cert.FfnPrompt.nD Cert.FfnPrompt.τ).loc Cert.FfnPrompt.main_arg5) = m ((c.tc : Thread Cert.FfnPrompt.nD Cert.FfnPrompt.τ).loc Cert.FfnPrompt.main_arg5)
      ∧ r.2.mem ((c.tc : Thread Cert.FfnPrompt.nD Cert.FfnPrompt.τ).loc Cert.FfnPrompt.main_arg6) = m ((c.tc : Thread Cert.FfnPrompt.nD Cert.FfnPrompt.τ).loc Cert.FfnPrompt.main_arg6)
      ∧ r.2.mem ((c.tc : Thread Cert.FfnPrompt.nD Cert.FfnPrompt.τ).loc Cert.FfnPrompt.main_arg7) = m ((c.tc : Thread Cert.FfnPrompt.nD Cert.FfnPrompt.τ).loc Cert.FfnPrompt.main_arg7))
      ∧ r.2.sem = fun _ => 0)

def quiescent_FfnPromptIdeal [hFfnPromptIdeal : Cert.FfnPromptIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg), Pre_FfnPromptIdeal m →
    θ_run (Cert.FfnPromptIdeal.defs (F := Ideal)) (onTc (τ := Cert.FfnPromptIdeal.τ) (Cert.FfnPromptIdeal.main (F := Ideal))) ⟨m, fun _ => 0, g⟩ (fun r => (∀ c : Dev Cert.FfnPromptIdeal.nD,
      r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
      ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
      ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
      ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
      ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4)
      ∧ r.2.mem ((c.tc : Thread Cert.FfnPromptIdeal.nD Cert.FfnPromptIdeal.τ).loc Cert.FfnPromptIdeal.main_arg5) = m ((c.tc : Thread Cert.FfnPromptIdeal.nD Cert.FfnPromptIdeal.τ).loc Cert.FfnPromptIdeal.main_arg5)
      ∧ r.2.mem ((c.tc : Thread Cert.FfnPromptIdeal.nD Cert.FfnPromptIdeal.τ).loc Cert.FfnPromptIdeal.main_arg6) = m ((c.tc : Thread Cert.FfnPromptIdeal.nD Cert.FfnPromptIdeal.τ).loc Cert.FfnPromptIdeal.main_arg6)
      ∧ r.2.mem ((c.tc : Thread Cert.FfnPromptIdeal.nD Cert.FfnPromptIdeal.τ).loc Cert.FfnPromptIdeal.main_arg7) = m ((c.tc : Thread Cert.FfnPromptIdeal.nD Cert.FfnPromptIdeal.τ).loc Cert.FfnPromptIdeal.main_arg7))
      ∧ r.2.sem = fun _ => 0)

def quiescent_FfnPromptRefIdeal [hFfnPromptRefIdeal : Cert.FfnPromptRefIdeal.Facts] : Prop :=
  ∀ (m : (ℓ : Loc Cert.FfnPromptRefIdeal.nD Cert.FfnPromptRefIdeal.τ Cert.FfnPromptRefIdeal.sig) → Buf (Elt Ideal) ℓ) (g : Dev Cert.FfnPromptRefIdeal.nD → PrngReg), Pre_FfnPromptRefIdeal m →
    θ_run (Cert.FfnPromptRefIdeal.defs (F := Ideal)) (onTc (τ := Cert.FfnPromptRefIdeal.τ) (Cert.FfnPromptRefIdeal.main (F := Ideal))) ⟨m, fun _ => 0, g⟩ (fun r => (∀ c : Dev Cert.FfnPromptRefIdeal.nD,
      r.2.mem ((c.tc : Thread Cert.FfnPromptRefIdeal.nD Cert.FfnPromptRefIdeal.τ).loc Cert.FfnPromptRefIdeal.main_arg0) = m ((c.tc : Thread Cert.FfnPromptRefIdeal.nD Cert.FfnPromptRefIdeal.τ).loc Cert.FfnPromptRefIdeal.main_arg0)
      ∧ r.2.mem ((c.tc : Thread Cert.FfnPromptRefIdeal.nD Cert.FfnPromptRefIdeal.τ).loc Cert.FfnPromptRefIdeal.main_arg1) = m ((c.tc : Thread Cert.FfnPromptRefIdeal.nD Cert.FfnPromptRefIdeal.τ).loc Cert.FfnPromptRefIdeal.main_arg1)
      ∧ r.2.mem ((c.tc : Thread Cert.FfnPromptRefIdeal.nD Cert.FfnPromptRefIdeal.τ).loc Cert.FfnPromptRefIdeal.main_arg2) = m ((c.tc : Thread Cert.FfnPromptRefIdeal.nD Cert.FfnPromptRefIdeal.τ).loc Cert.FfnPromptRefIdeal.main_arg2)
      ∧ r.2.mem ((c.tc : Thread Cert.FfnPromptRefIdeal.nD Cert.FfnPromptRefIdeal.τ).loc Cert.FfnPromptRefIdeal.main_arg3) = m ((c.tc : Thread Cert.FfnPromptRefIdeal.nD Cert.FfnPromptRefIdeal.τ).loc Cert.FfnPromptRefIdeal.main_arg3)
      ∧ r.2.mem ((c.tc : Thread Cert.FfnPromptRefIdeal.nD Cert.FfnPromptRefIdeal.τ).loc Cert.FfnPromptRefIdeal.main_arg4) = m ((c.tc : Thread Cert.FfnPromptRefIdeal.nD Cert.FfnPromptRefIdeal.τ).loc Cert.FfnPromptRefIdeal.main_arg4)
      ∧ r.2.mem ((c.tc : Thread Cert.FfnPromptRefIdeal.nD Cert.FfnPromptRefIdeal.τ).loc Cert.FfnPromptRefIdeal.main_arg5) = m ((c.tc : Thread Cert.FfnPromptRefIdeal.nD Cert.FfnPromptRefIdeal.τ).loc Cert.FfnPromptRefIdeal.main_arg5)
      ∧ r.2.mem ((c.tc : Thread Cert.FfnPromptRefIdeal.nD Cert.FfnPromptRefIdeal.τ).loc Cert.FfnPromptRefIdeal.main_arg6) = m ((c.tc : Thread Cert.FfnPromptRefIdeal.nD Cert.FfnPromptRefIdeal.τ).loc Cert.FfnPromptRefIdeal.main_arg6)
      ∧ r.2.mem ((c.tc : Thread Cert.FfnPromptRefIdeal.nD Cert.FfnPromptRefIdeal.τ).loc Cert.FfnPromptRefIdeal.main_arg7) = m ((c.tc : Thread Cert.FfnPromptRefIdeal.nD Cert.FfnPromptRefIdeal.τ).loc Cert.FfnPromptRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v21)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v21) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_MlaIn_MlaInIdeal : Prop :=
  True

def algebraic_MlaInIdeal_MlaInRefIdeal [hMlaInIdeal : Cert.MlaInIdeal.Facts] [hMlaInRefIdeal : Cert.MlaInRefIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInRefIdeal.nD Cert.MlaInRefIdeal.τ Cert.MlaInRefIdeal.sig) → Buf (Elt Ideal) ℓ) (g' : Dev Cert.MlaInRefIdeal.nD → PrngReg), Pre_MlaInIdeal m →
    (∀ c : Dev Cert.MlaInIdeal.nD,
      m' ((c.tc : Thread Cert.MlaInRefIdeal.nD Cert.MlaInRefIdeal.τ).loc Cert.MlaInRefIdeal.main_arg0) = m ((c.tc : Thread Cert.MlaInIdeal.nD Cert.MlaInIdeal.τ).loc Cert.MlaInIdeal.main_arg0)
      ∧ m' ((c.tc : Thread Cert.MlaInRefIdeal.nD Cert.MlaInRefIdeal.τ).loc Cert.MlaInRefIdeal.main_arg1) = m ((c.tc : Thread Cert.MlaInIdeal.nD Cert.MlaInIdeal.τ).loc Cert.MlaInIdeal.main_arg1)
      ∧ m' ((c.tc : Thread Cert.MlaInRefIdeal.nD Cert.MlaInRefIdeal.τ).loc Cert.MlaInRefIdeal.main_arg2) = m ((c.tc : Thread Cert.MlaInIdeal.nD Cert.MlaInIdeal.τ).loc Cert.MlaInIdeal.main_arg2)
      ∧ m' ((c.tc : Thread Cert.MlaInRefIdeal.nD Cert.MlaInRefIdeal.τ).loc Cert.MlaInRefIdeal.main_arg3) = m ((c.tc : Thread Cert.MlaInIdeal.nD Cert.MlaInIdeal.τ).loc Cert.MlaInIdeal.main_arg3)
      ∧ m' ((c.tc : Thread Cert.MlaInRefIdeal.nD Cert.MlaInRefIdeal.τ).loc Cert.MlaInRefIdeal.main_arg4) = m ((c.tc : Thread Cert.MlaInIdeal.nD Cert.MlaInIdeal.τ).loc Cert.MlaInIdeal.main_arg4)) →
    ∃ (v0 : (c : Dev Cert.MlaInIdeal.nD) → Buf (Elt Ideal) ((c.tc : Thread Cert.MlaInIdeal.nD Cert.MlaInIdeal.τ).loc Cert.MlaInIdeal.main_v19_0)) (v1 : (c : Dev Cert.MlaInIdeal.nD) → Buf (Elt Ideal) ((c.tc : Thread Cert.MlaInIdeal.nD Cert.MlaInIdeal.τ).loc Cert.MlaInIdeal.main_v19_1)) (v2 : (c : Dev Cert.MlaInIdeal.nD) → Buf (Elt Ideal) ((c.tc : Thread Cert.MlaInIdeal.nD Cert.MlaInIdeal.τ).loc Cert.MlaInIdeal.main_v19_2)) (v3 : (c : Dev Cert.MlaInIdeal.nD) → Buf (Elt Ideal) ((c.tc : Thread Cert.MlaInIdeal.nD Cert.MlaInIdeal.τ).loc Cert.MlaInIdeal.main_v19_3)) (v4 : (c : Dev Cert.MlaInIdeal.nD) → Buf (Elt Ideal) ((c.tc : Thread Cert.MlaInIdeal.nD Cert.MlaInIdeal.τ).loc Cert.MlaInIdeal.main_v19_4)) (v5 : (c : Dev Cert.MlaInIdeal.nD) → Buf (Elt Ideal) ((c.tc : Thread Cert.MlaInIdeal.nD Cert.MlaInIdeal.τ).loc Cert.MlaInIdeal.main_v19_5)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v19_0) = v0 c
          ∧ r.2.mem ((c.tc : Thread Cert.MlaInIdeal.nD Cert.MlaInIdeal.τ).loc Cert.MlaInIdeal.main_v19_1) = v1 c
          ∧ r.2.mem ((c.tc : Thread Cert.MlaInIdeal.nD Cert.MlaInIdeal.τ).loc Cert.MlaInIdeal.main_v19_2) = v2 c
          ∧ r.2.mem ((c.tc : Thread Cert.MlaInIdeal.nD Cert.MlaInIdeal.τ).loc Cert.MlaInIdeal.main_v19_3) = v3 c
          ∧ r.2.mem ((c.tc : Thread Cert.MlaInIdeal.nD Cert.MlaInIdeal.τ).loc Cert.MlaInIdeal.main_v19_4) = v4 c
          ∧ r.2.mem ((c.tc : Thread Cert.MlaInIdeal.nD Cert.MlaInIdeal.τ).loc Cert.MlaInIdeal.main_v19_5) = v5 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
          ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
          ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
          ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4))
      ∧ θ_run (Cert.MlaInRefIdeal.defs (F := Ideal)) (onTc (τ := Cert.MlaInRefIdeal.τ) (Cert.MlaInRefIdeal.main (F := Ideal))) ⟨m', fun _ => 0, g'⟩ (fun r => ∀ c : Dev Cert.MlaInRefIdeal.nD,
          r.2.mem ((c.tc : Thread Cert.MlaInRefIdeal.nD Cert.MlaInRefIdeal.τ).loc Cert.MlaInRefIdeal.main_v35) = v0 c
          ∧ r.2.mem ((c.tc : Thread Cert.MlaInRefIdeal.nD Cert.MlaInRefIdeal.τ).loc Cert.MlaInRefIdeal.main_v36) = v1 c
          ∧ r.2.mem ((c.tc : Thread Cert.MlaInRefIdeal.nD Cert.MlaInRefIdeal.τ).loc Cert.MlaInRefIdeal.main_v37) = v2 c
          ∧ r.2.mem ((c.tc : Thread Cert.MlaInRefIdeal.nD Cert.MlaInRefIdeal.τ).loc Cert.MlaInRefIdeal.main_v38) = v3 c
          ∧ r.2.mem ((c.tc : Thread Cert.MlaInRefIdeal.nD Cert.MlaInRefIdeal.τ).loc Cert.MlaInRefIdeal.main_v42) = v4 c
          ∧ r.2.mem ((c.tc : Thread Cert.MlaInRefIdeal.nD Cert.MlaInRefIdeal.τ).loc Cert.MlaInRefIdeal.main_v46) = v5 c
          ∧ r.2.mem ((c.tc : Thread Cert.MlaInRefIdeal.nD Cert.MlaInRefIdeal.τ).loc Cert.MlaInRefIdeal.main_arg0) = m' ((c.tc : Thread Cert.MlaInRefIdeal.nD Cert.MlaInRefIdeal.τ).loc Cert.MlaInRefIdeal.main_arg0)
          ∧ r.2.mem ((c.tc : Thread Cert.MlaInRefIdeal.nD Cert.MlaInRefIdeal.τ).loc Cert.MlaInRefIdeal.main_arg1) = m' ((c.tc : Thread Cert.MlaInRefIdeal.nD Cert.MlaInRefIdeal.τ).loc Cert.MlaInRefIdeal.main_arg1)
          ∧ r.2.mem ((c.tc : Thread Cert.MlaInRefIdeal.nD Cert.MlaInRefIdeal.τ).loc Cert.MlaInRefIdeal.main_arg2) = m' ((c.tc : Thread Cert.MlaInRefIdeal.nD Cert.MlaInRefIdeal.τ).loc Cert.MlaInRefIdeal.main_arg2)
          ∧ r.2.mem ((c.tc : Thread Cert.MlaInRefIdeal.nD Cert.MlaInRefIdeal.τ).loc Cert.MlaInRefIdeal.main_arg3) = m' ((c.tc : Thread Cert.MlaInRefIdeal.nD Cert.MlaInRefIdeal.τ).loc Cert.MlaInRefIdeal.main_arg3)
          ∧ r.2.mem ((c.tc : Thread Cert.MlaInRefIdeal.nD Cert.MlaInRefIdeal.τ).loc Cert.MlaInRefIdeal.main_arg4) = m' ((c.tc : Thread Cert.MlaInRefIdeal.nD Cert.MlaInRefIdeal.τ).loc Cert.MlaInRefIdeal.main_arg4))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)) →
    ∃ (v0 : (c : Dev Cert.ShortConvIdeal.nD) → Buf (Elt Ideal) ((c.tc : Thread Cert.ShortConvIdeal.nD Cert.ShortConvIdeal.τ).loc Cert.ShortConvIdeal.main_v10)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v10) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v28) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v14)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_FfnPrompt_FfnPromptIdeal : Prop :=
  True

def algebraic_FfnPromptIdeal_FfnPromptRefIdeal [hFfnPromptIdeal : Cert.FfnPromptIdeal.Facts] [hFfnPromptRefIdeal : Cert.FfnPromptRefIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg)
    (m' : (ℓ : Loc Cert.FfnPromptRefIdeal.nD Cert.FfnPromptRefIdeal.τ Cert.FfnPromptRefIdeal.sig) → Buf (Elt Ideal) ℓ) (g' : Dev Cert.FfnPromptRefIdeal.nD → PrngReg), Pre_FfnPromptIdeal m →
    (∀ c : Dev Cert.FfnPromptIdeal.nD,
      m' ((c.tc : Thread Cert.FfnPromptRefIdeal.nD Cert.FfnPromptRefIdeal.τ).loc Cert.FfnPromptRefIdeal.main_arg0) = m ((c.tc : Thread Cert.FfnPromptIdeal.nD Cert.FfnPromptIdeal.τ).loc Cert.FfnPromptIdeal.main_arg0)
      ∧ m' ((c.tc : Thread Cert.FfnPromptRefIdeal.nD Cert.FfnPromptRefIdeal.τ).loc Cert.FfnPromptRefIdeal.main_arg1) = m ((c.tc : Thread Cert.FfnPromptIdeal.nD Cert.FfnPromptIdeal.τ).loc Cert.FfnPromptIdeal.main_arg1)
      ∧ m' ((c.tc : Thread Cert.FfnPromptRefIdeal.nD Cert.FfnPromptRefIdeal.τ).loc Cert.FfnPromptRefIdeal.main_arg2) = m ((c.tc : Thread Cert.FfnPromptIdeal.nD Cert.FfnPromptIdeal.τ).loc Cert.FfnPromptIdeal.main_arg2)
      ∧ m' ((c.tc : Thread Cert.FfnPromptRefIdeal.nD Cert.FfnPromptRefIdeal.τ).loc Cert.FfnPromptRefIdeal.main_arg3) = m ((c.tc : Thread Cert.FfnPromptIdeal.nD Cert.FfnPromptIdeal.τ).loc Cert.FfnPromptIdeal.main_arg3)
      ∧ m' ((c.tc : Thread Cert.FfnPromptRefIdeal.nD Cert.FfnPromptRefIdeal.τ).loc Cert.FfnPromptRefIdeal.main_arg4) = m ((c.tc : Thread Cert.FfnPromptIdeal.nD Cert.FfnPromptIdeal.τ).loc Cert.FfnPromptIdeal.main_arg4)
      ∧ m' ((c.tc : Thread Cert.FfnPromptRefIdeal.nD Cert.FfnPromptRefIdeal.τ).loc Cert.FfnPromptRefIdeal.main_arg5) = m ((c.tc : Thread Cert.FfnPromptIdeal.nD Cert.FfnPromptIdeal.τ).loc Cert.FfnPromptIdeal.main_arg5)
      ∧ m' ((c.tc : Thread Cert.FfnPromptRefIdeal.nD Cert.FfnPromptRefIdeal.τ).loc Cert.FfnPromptRefIdeal.main_arg6) = m ((c.tc : Thread Cert.FfnPromptIdeal.nD Cert.FfnPromptIdeal.τ).loc Cert.FfnPromptIdeal.main_arg6)
      ∧ m' ((c.tc : Thread Cert.FfnPromptRefIdeal.nD Cert.FfnPromptRefIdeal.τ).loc Cert.FfnPromptRefIdeal.main_arg7) = m ((c.tc : Thread Cert.FfnPromptIdeal.nD Cert.FfnPromptIdeal.τ).loc Cert.FfnPromptIdeal.main_arg7)) →
    ∃ (v0 : (c : Dev Cert.FfnPromptIdeal.nD) → Buf (Elt Ideal) ((c.tc : Thread Cert.FfnPromptIdeal.nD Cert.FfnPromptIdeal.τ).loc Cert.FfnPromptIdeal.main_v14)),
      θ_run (Cert.FfnPromptIdeal.defs (F := Ideal)) (onTc (τ := Cert.FfnPromptIdeal.τ) (Cert.FfnPromptIdeal.main (F := Ideal))) ⟨m, fun _ => 0, g⟩ (fun r => ∀ c : Dev Cert.FfnPromptIdeal.nD,
          r.2.mem ((c.tc : Thread Cert.FfnPromptIdeal.nD Cert.FfnPromptIdeal.τ).loc Cert.FfnPromptIdeal.main_v14) = v0 c
          ∧ r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
          ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
          ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
          ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
          ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4)
          ∧ r.2.mem ((c.tc : Thread Cert.FfnPromptIdeal.nD Cert.FfnPromptIdeal.τ).loc Cert.FfnPromptIdeal.main_arg5) = m ((c.tc : Thread Cert.FfnPromptIdeal.nD Cert.FfnPromptIdeal.τ).loc Cert.FfnPromptIdeal.main_arg5)
          ∧ r.2.mem ((c.tc : Thread Cert.FfnPromptIdeal.nD Cert.FfnPromptIdeal.τ).loc Cert.FfnPromptIdeal.main_arg6) = m ((c.tc : Thread Cert.FfnPromptIdeal.nD Cert.FfnPromptIdeal.τ).loc Cert.FfnPromptIdeal.main_arg6)
          ∧ r.2.mem ((c.tc : Thread Cert.FfnPromptIdeal.nD Cert.FfnPromptIdeal.τ).loc Cert.FfnPromptIdeal.main_arg7) = m ((c.tc : Thread Cert.FfnPromptIdeal.nD Cert.FfnPromptIdeal.τ).loc Cert.FfnPromptIdeal.main_arg7))
      ∧ θ_run (Cert.FfnPromptRefIdeal.defs (F := Ideal)) (onTc (τ := Cert.FfnPromptRefIdeal.τ) (Cert.FfnPromptRefIdeal.main (F := Ideal))) ⟨m', fun _ => 0, g'⟩ (fun r => ∀ c : Dev Cert.FfnPromptRefIdeal.nD,
          r.2.mem ((c.tc : Thread Cert.FfnPromptRefIdeal.nD Cert.FfnPromptRefIdeal.τ).loc Cert.FfnPromptRefIdeal.main_v45) = v0 c
          ∧ r.2.mem ((c.tc : Thread Cert.FfnPromptRefIdeal.nD Cert.FfnPromptRefIdeal.τ).loc Cert.FfnPromptRefIdeal.main_arg0) = m' ((c.tc : Thread Cert.FfnPromptRefIdeal.nD Cert.FfnPromptRefIdeal.τ).loc Cert.FfnPromptRefIdeal.main_arg0)
          ∧ r.2.mem ((c.tc : Thread Cert.FfnPromptRefIdeal.nD Cert.FfnPromptRefIdeal.τ).loc Cert.FfnPromptRefIdeal.main_arg1) = m' ((c.tc : Thread Cert.FfnPromptRefIdeal.nD Cert.FfnPromptRefIdeal.τ).loc Cert.FfnPromptRefIdeal.main_arg1)
          ∧ r.2.mem ((c.tc : Thread Cert.FfnPromptRefIdeal.nD Cert.FfnPromptRefIdeal.τ).loc Cert.FfnPromptRefIdeal.main_arg2) = m' ((c.tc : Thread Cert.FfnPromptRefIdeal.nD Cert.FfnPromptRefIdeal.τ).loc Cert.FfnPromptRefIdeal.main_arg2)
          ∧ r.2.mem ((c.tc : Thread Cert.FfnPromptRefIdeal.nD Cert.FfnPromptRefIdeal.τ).loc Cert.FfnPromptRefIdeal.main_arg3) = m' ((c.tc : Thread Cert.FfnPromptRefIdeal.nD Cert.FfnPromptRefIdeal.τ).loc Cert.FfnPromptRefIdeal.main_arg3)
          ∧ r.2.mem ((c.tc : Thread Cert.FfnPromptRefIdeal.nD Cert.FfnPromptRefIdeal.τ).loc Cert.FfnPromptRefIdeal.main_arg4) = m' ((c.tc : Thread Cert.FfnPromptRefIdeal.nD Cert.FfnPromptRefIdeal.τ).loc Cert.FfnPromptRefIdeal.main_arg4)
          ∧ r.2.mem ((c.tc : Thread Cert.FfnPromptRefIdeal.nD Cert.FfnPromptRefIdeal.τ).loc Cert.FfnPromptRefIdeal.main_arg5) = m' ((c.tc : Thread Cert.FfnPromptRefIdeal.nD Cert.FfnPromptRefIdeal.τ).loc Cert.FfnPromptRefIdeal.main_arg5)
          ∧ r.2.mem ((c.tc : Thread Cert.FfnPromptRefIdeal.nD Cert.FfnPromptRefIdeal.τ).loc Cert.FfnPromptRefIdeal.main_arg6) = m' ((c.tc : Thread Cert.FfnPromptRefIdeal.nD Cert.FfnPromptRefIdeal.τ).loc Cert.FfnPromptRefIdeal.main_arg6)
          ∧ r.2.mem ((c.tc : Thread Cert.FfnPromptRefIdeal.nD Cert.FfnPromptRefIdeal.τ).loc Cert.FfnPromptRefIdeal.main_arg7) = m' ((c.tc : Thread Cert.FfnPromptRefIdeal.nD Cert.FfnPromptRefIdeal.τ).loc Cert.FfnPromptRefIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hMlaIn : Cert.MlaIn.Facts) (hMlaInIdeal : Cert.MlaInIdeal.Facts) (hMlaInRefIdeal : Cert.MlaInRefIdeal.Facts) (hShortConv : Cert.ShortConv.Facts) (hShortConvIdeal : Cert.ShortConvIdeal.Facts) (hShortConvRefIdeal : Cert.ShortConvRefIdeal.Facts) (hFfn : Cert.Ffn.Facts) (hFfnIdeal : Cert.FfnIdeal.Facts) (hFfnRefIdeal : Cert.FfnRefIdeal.Facts) (hFfnPrompt : Cert.FfnPrompt.Facts) (hFfnPromptIdeal : Cert.FfnPromptIdeal.Facts) (hFfnPromptRefIdeal : Cert.FfnPromptRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_MlaIn (hMlaIn := hMlaIn)
    ∧ quiescent_MlaInIdeal (hMlaInIdeal := hMlaInIdeal)
    ∧ quiescent_MlaInRefIdeal (hMlaInRefIdeal := hMlaInRefIdeal)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnPrompt (hFfnPrompt := hFfnPrompt)
    ∧ quiescent_FfnPromptIdeal (hFfnPromptIdeal := hFfnPromptIdeal)
    ∧ quiescent_FfnPromptRefIdeal (hFfnPromptRefIdeal := hFfnPromptRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeRefIdeal (hMergeIdeal := hMergeIdeal) (hMergeRefIdeal := hMergeRefIdeal)
    ∧ preserves_MlaIn_MlaInIdeal
    ∧ algebraic_MlaInIdeal_MlaInRefIdeal (hMlaInIdeal := hMlaInIdeal) (hMlaInRefIdeal := hMlaInRefIdeal)
    ∧ preserves_ShortConv_ShortConvIdeal
    ∧ algebraic_ShortConvIdeal_ShortConvRefIdeal (hShortConvIdeal := hShortConvIdeal) (hShortConvRefIdeal := hShortConvRefIdeal)
    ∧ preserves_Ffn_FfnIdeal
    ∧ algebraic_FfnIdeal_FfnRefIdeal (hFfnIdeal := hFfnIdeal) (hFfnRefIdeal := hFfnRefIdeal)
    ∧ preserves_FfnPrompt_FfnPromptIdeal
    ∧ algebraic_FfnPromptIdeal_FfnPromptRefIdeal (hFfnPromptIdeal := hFfnPromptIdeal) (hFfnPromptRefIdeal := hFfnPromptRefIdeal)
-- ==== Pre_finite.lean ====
abbrev S8x2048x8x128 : Shape := ⟨4, ![8, 2048, 8, 128]⟩
abbrev S8x2048x8x64 : Shape := ⟨4, ![8, 2048, 8, 64]⟩
abbrev S8x2560x256 : Shape := ⟨3, ![8, 2560, 256]⟩
abbrev S8x2560x64 : Shape := ⟨3, ![8, 2560, 64]⟩
abbrev S256x2048 : Shape := ⟨2, ![256, 2048]⟩
abbrev S_ : Shape := ⟨0, ![]⟩

class Facts : Prop where
  bcast_S_S8x2048x8x128 : S_.BroadcastsInDim S8x2048x8x128 (![] : Fin 0 → Fin S8x2048x8x128.rank)
  reducesTo_S8x2048x8x128_S_d0_1_2_3 : S8x2048x8x128.ReducesTo [0, 1, 2, 3] S_
  h_S_ : 0 < S_.numel
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  bcast_S_S8x2560x256 : S_.BroadcastsInDim S8x2560x256 (![] : Fin 0 → Fin S8x2560x256.rank)
  reducesTo_S8x2560x256_S_d0_1_2 : S8x2560x256.ReducesTo [0, 1, 2] S_
  bcast_S_S8x2560x64 : S_.BroadcastsInDim S8x2560x64 (![] : Fin 0 → Fin S8x2560x64.rank)
  reducesTo_S8x2560x64_S_d0_1_2 : S8x2560x64.ReducesTo [0, 1, 2] S_
  bcast_S_S256x2048 : S_.BroadcastsInDim S256x2048 (![] : Fin 0 → Fin S256x2048.rank)
  reducesTo_S256x2048_S_d0_1 : S256x2048.ReducesTo [0, 1] S_

variable [Facts]

def fn_part1 {F : FTy → Type} [FloatOps F] (main_arg4 : FVec F S256x2048 .f32) (main_v13 : IVec S_ 1) (main_v16 : IVec S8x2560x64 1) : IVec S_ 1 :=
  let main_c_5 : IVec S_ 1 := constantI S_ 1 1#1
  let main_v17 : IVec S_ 1 := (fun x v => Host.reduce IntOp.andi x v reducesTo_S8x2560x64_S_d0_1_2 h_S_) main_v16 main_c_5
  let main_v18 : IVec S_ 1 := andi main_v13 main_v17
  let main_v19 : FVec F S256x2048 .f32 := Host.absf main_arg4
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  main_v23

def fn {F : FTy → Type} [FloatOps F] (main_arg0 : FVec F S8x2048x8x128 .f32) (main_arg1 : FVec F S8x2048x8x64 .f32) (main_arg2 : FVec F S8x2560x256 .f32) (main_arg3 : FVec F S8x2560x64 .f32) (main_arg4 : FVec F S256x2048 .f32) : IVec S_ 1 :=
  let main_v0 : FVec F S8x2048x8x128 .f32 := Host.absf main_arg0
  let main_cst : FVec F S_ .f32 := constant S_ .f32 0x7F800000#32
  let main_v1 : FVec F S8x2048x8x128 .f32 := broadcastInDim S8x2048x8x128 ![] bcast_S_S8x2048x8x128 main_cst
  let main_v2 : IVec S8x2048x8x128 1 := cmpf .olt main_v0 main_v1
  let main_c : IVec S_ 1 := constantI S_ 1 1#1
  let main_v3 : IVec S_ 1 := (fun x v => Host.reduce IntOp.andi x v reducesTo_S8x2048x8x128_S_d0_1_2_3 h_S_) main_v2 main_c
  let main_v4 : FVec F S8x2048x8x64 .f32 := Host.absf main_arg1
  let main_cst_0 : FVec F S_ .f32 := constant S_ .f32 0x7F800000#32
  let main_v5 : FVec F S8x2048x8x64 .f32 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  let main_v9 : FVec F S8x2560x256 .f32 := Host.absf main_arg2
  let main_cst_2 : FVec F S_ .f32 := constant S_ .f32 0x7F800000#32
  let main_v10 : FVec F S8x2560x256 .f32 := broadcastInDim S8x2560x256 ![] bcast_S_S8x2560x256 main_cst_2
  let main_v11 : IVec S8x2560x256 1 := cmpf .olt main_v9 main_v10
  let main_c_3 : IVec S_ 1 := constantI S_ 1 1#1
  let main_v12 : IVec S_ 1 := (fun x v => Host.reduce IntOp.andi x v reducesTo_S8x2560x256_S_d0_1_2 h_S_) main_v11 main_c_3
  let main_v13 : IVec S_ 1 := andi main_v8 main_v12
  let main_v14 : FVec F S8x2560x64 .f32 := Host.absf main_arg3
  let main_cst_4 : FVec F S_ .f32 := constant S_ .f32 0x7F800000#32
  let main_v15 : FVec F S8x2560x64 .f32 := broadcastInDim S8x2560x64 ![] bcast_S_S8x2560x64 main_cst_4
  let main_v16 : IVec S8x2560x64 1 := cmpf .olt main_v14 main_v15
  fn_part1 (F := F) main_arg4 main_v13 main_v16
-- ==== Kernel.lean ====
abbrev S8x2048x8x128 : Shape := ⟨4, ![8, 2048, 8, 128]⟩
abbrev S8x2048x8x64 : Shape := ⟨4, ![8, 2048, 8, 64]⟩
abbrev S8x2560x256 : Shape := ⟨3, ![8, 2560, 256]⟩
abbrev S8x2560x64 : Shape := ⟨3, ![8, 2560, 64]⟩
abbrev S256x2048 : Shape := ⟨2, ![256, 2048]⟩
abbrev S16384x1024 : Shape := ⟨2, ![16384, 1024]⟩
abbrev S_ : Shape := ⟨0, ![]⟩
abbrev S16384x512 : Shape := ⟨2, ![16384, 512]⟩
abbrev S256x8x256 : Shape := ⟨3, ![256, 8, 256]⟩
abbrev S256x8x128 : Shape := ⟨3, ![256, 8, 128]⟩
abbrev S256x1024 : Shape := ⟨2, ![256, 1024]⟩
abbrev S8x8x2560x192 : Shape := ⟨4, ![8, 8, 2560, 192]⟩
abbrev S8x8x2560x128 : Shape := ⟨4, ![8, 8, 2560, 128]⟩
abbrev S1x512x256 : Shape := ⟨3, ![1, 512, 256]⟩
abbrev S1x512x64 : Shape := ⟨3, ![1, 512, 64]⟩
abbrev S1x8x512x192 : Shape := ⟨4, ![1, 8, 512, 192]⟩
abbrev S1x8x512x128 : Shape := ⟨4, ![1, 8, 512, 128]⟩
abbrev S512x256 : Shape := ⟨2, ![512, 256]⟩
abbrev S512x64 : Shape := ⟨2, ![512, 64]⟩
abbrev S512x1024 : Shape := ⟨2, ![512, 1024]⟩
abbrev S512x128 : Shape := ⟨2, ![512, 128]⟩
abbrev S512x192 : Shape := ⟨2, ![512, 192]⟩
abbrev S1x1x512x192 : Shape := ⟨4, ![1, 1, 512, 192]⟩
abbrev S1x1x512x128 : Shape := ⟨4, ![1, 1, 512, 128]⟩
abbrev S256x512 : Shape := ⟨2, ![256, 512]⟩
abbrev S1x8x2560x192 : Shape := ⟨4, ![1, 8, 2560, 192]⟩
abbrev S1x8x2560x128 : Shape := ⟨4, ![1, 8, 2560, 128]⟩
abbrev S256x128 : Shape := ⟨2, ![256, 128]⟩
abbrev S256x64 : Shape := ⟨2, ![256, 64]⟩
abbrev S256x192 : Shape := ⟨2, ![256, 192]⟩
abbrev S1x1x2560x192 : Shape := ⟨4, ![1, 1, 2560, 192]⟩
abbrev S2560x192 : Shape := ⟨2, ![2560, 192]⟩
abbrev S256x2560 : Shape := ⟨2, ![256, 2560]⟩
abbrev S256 : Shape := ⟨1, ![256]⟩
abbrev S256x1 : Shape := ⟨2, ![256, 1]⟩
abbrev S1x1x2560x128 : Shape := ⟨4, ![1, 1, 2560, 128]⟩
abbrev S2560x128 : Shape := ⟨2, ![2560, 128]⟩

abbrev nBuf : Space → Nat
  | .hbm => 26
  | .vmem => 20
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x8x64, .f32⟩
  | .hbm, ⟨2, _⟩ => ⟨S8x2560x256, .f32⟩
  | .hbm, ⟨3, _⟩ => ⟨S8x2560x64, .f32⟩
  | .hbm, ⟨4, _⟩ => ⟨S256x2048, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S16384x512, .bf16⟩
  | .hbm, ⟨15, _⟩ => ⟨S256x2048, .bf16⟩
  | .hbm, ⟨16, _⟩ => ⟨S256x8x256, .bf16⟩
  | .hbm, ⟨17, _⟩ => ⟨S256x8x128, .bf16⟩
  | .hbm, ⟨18, _⟩ => ⟨S256x1024, .bf16⟩
  | .hbm, ⟨19, _⟩ => ⟨S256x8x128, .bf16⟩
  | .hbm, ⟨20, _⟩ => ⟨S256x1024, .bf16⟩
  | .hbm, ⟨21, _⟩ => ⟨S8x2560x256, .bf16⟩
  | .hbm, ⟨22, _⟩ => ⟨S8x2560x64, .bf16⟩
  | .hbm, ⟨23, _⟩ => ⟨S8x8x2560x192, .bf16⟩
  | .hbm, ⟨24, _⟩ => ⟨S8x8x2560x128, .bf16⟩
  | .hbm, ⟨25, _⟩ => ⟨S16384x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x64, .bf16⟩
  | .local _ .vmem, ⟨3, _⟩ => ⟨S1x512x64, .bf16⟩
  | .local _ .vmem, ⟨4, _⟩ => ⟨S256x1024, .bf16⟩
  | .local _ .vmem, ⟨5, _⟩ => ⟨S256x1024, .bf16⟩
  | .local _ .vmem, ⟨6, _⟩ => ⟨S1x8x512x192, .bf16⟩
  | .local _ .vmem, ⟨7, _⟩ => ⟨S1x8x512x192, .bf16⟩
  | .local _ .vmem, ⟨8, _⟩ => ⟨S1x8x512x128, .bf16⟩
  | .local _ .vmem, ⟨9, _⟩ => ⟨S1x8x512x128, .bf16⟩
  | .local _ .vmem, ⟨10, _⟩ => ⟨S256x1024, .bf16⟩
  | .local _ .vmem, ⟨11, _⟩ => ⟨S256x1024, .bf16⟩
  | .local _ .vmem, ⟨12, _⟩ => ⟨S256x512, .bf16⟩
  | .local _ .vmem, ⟨13, _⟩ => ⟨S256x512, .bf16⟩
  | .local _ .vmem, ⟨14, _⟩ => ⟨S1x8x2560x192, .bf16⟩
  | .local _ .vmem, ⟨15, _⟩ => ⟨S1x8x2560x192, .bf16⟩
  | .local _ .vmem, ⟨16, _⟩ => ⟨S1x8x2560x128, .bf16⟩
  | .local _ .vmem, ⟨17, _⟩ => ⟨S1x8x2560x128, .bf16⟩
  | .local _ .vmem, ⟨18, _⟩ => ⟨S256x1024, .bf16⟩
  | .local _ .vmem, ⟨19, _⟩ => ⟨S256x1024, .bf16⟩
  | _, _ => ⟨S8x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x512x192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x2560x192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8x2560x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S8x2048x8x128 : Shape := ⟨4, ![8, 2048, 8, 128]⟩
abbrev S8x2048x8x64 : Shape := ⟨4, ![8, 2048, 8, 64]⟩
abbrev S8x2560x256 : Shape := ⟨3, ![8, 2560, 256]⟩
abbrev S8x2560x64 : Shape := ⟨3, ![8, 2560, 64]⟩
abbrev S256x2048 : Shape := ⟨2, ![256, 2048]⟩
abbrev S256x8x256 : Shape := ⟨3, ![256, 8, 256]⟩
abbrev S256x8x128 : Shape := ⟨3, ![256, 8, 128]⟩
abbrev S8x256x8x2048 : Shape := ⟨4, ![8, 256, 8, 2048]⟩
abbrev S8x2048x8x256 : Shape := ⟨4, ![8, 2048, 8, 256]⟩
abbrev S8x2560x2048x8 : Shape := ⟨4, ![8, 2560, 2048, 8]⟩
abbrev S8x8x2048x2560 : Shape := ⟨4, ![8, 8, 2048, 2560]⟩
abbrev S_ : Shape := ⟨0, ![]⟩
abbrev S8x8x2048 : Shape := ⟨3, ![8, 8, 2048]⟩
abbrev S8x8x2048x1 : Shape := ⟨4, ![8, 8, 2048, 1]⟩
abbrev S8x128x8x2048 : Shape := ⟨4, ![8, 128, 8, 2048]⟩
abbrev S16384x1024 : Shape := ⟨2, ![16384, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x8x64, .f32⟩
  | .hbm, ⟨2, _⟩ => ⟨S8x2560x256, .f32⟩
  | .hbm, ⟨3, _⟩ => ⟨S8x2560x64, .f32⟩
  | .hbm, ⟨4, _⟩ => ⟨S256x2048, .f32⟩
  | .hbm, ⟨5, _⟩ => ⟨S256x8x256, .f32⟩
  | .hbm, ⟨6, _⟩ => ⟨S256x8x128, .f32⟩
  | .hbm, ⟨7, _⟩ => ⟨S8x256x8x2048, .f32⟩
  | .hbm, ⟨8, _⟩ => ⟨S8x2048x8x256, .f32⟩
  | .hbm, ⟨9, _⟩ => ⟨S8x2560x2048x8, .f32⟩
  | .hbm, ⟨10, _⟩ => ⟨S8x8x2048x2560, .f32⟩
  | .hbm, ⟨11, _⟩ => ⟨S8x2560x2048x8, .f32⟩
  | .hbm, ⟨12, _⟩ => ⟨S8x8x2048x2560, .f32⟩
  | .hbm, ⟨13, _⟩ => ⟨S8x8x2048x2560, .f32⟩
  | .hbm, ⟨14, _⟩ => ⟨S_, .f32⟩
  | .hbm, ⟨15, _⟩ => ⟨S8x8x2048x2560, .f32⟩
  | .hbm, ⟨16, _⟩ => ⟨S8x8x2048x2560, .f32⟩
  | .hbm, ⟨17, _⟩ => ⟨S_, .f32⟩
  | .hbm, ⟨18, _⟩ => ⟨S8x8x2048, .f32⟩
  | .hbm, ⟨19, _⟩ => ⟨S_, .f32⟩
  | .hbm, ⟨20, _⟩ => ⟨S8x8x2048, .f32⟩
  | .hbm, ⟨21, _⟩ => ⟨S8x8x2048, .f32⟩
  | .hbm, ⟨22, _⟩ => ⟨S8x8x2048x1, .f32⟩
  | .hbm, ⟨23, _⟩ => ⟨S8x8x2048x2560, .f32⟩
  | .hbm, ⟨24, _⟩ => ⟨S8x8x2048x2560, .f32⟩
  | .hbm, ⟨25, _⟩ => ⟨S8x8x2048x2560, .f32⟩
  | .hbm, ⟨26, _⟩ => ⟨S_, .f32⟩
  | .hbm, ⟨27, _⟩ => ⟨S8x8x2048, .f32⟩
  | .hbm, ⟨28, _⟩ => ⟨S8x8x2048x1, .f32⟩
  | .hbm, ⟨29, _⟩ => ⟨S8x8x2048x2560, .f32⟩
  | .hbm, ⟨30, _⟩ => ⟨S8x8x2048x2560, .f32⟩
  | .hbm, ⟨31, _⟩ => ⟨S8x256x8x2048, .f32⟩
  | .hbm, ⟨32, _⟩ => ⟨S8x2048x8x256, .f32⟩
  | .hbm, ⟨33, _⟩ => ⟨S256x8x128, .f32⟩
  | .hbm, ⟨34, _⟩ => ⟨S8x128x8x2048, .f32⟩
  | .hbm, ⟨35, _⟩ => ⟨S8x2048x8x128, .f32⟩
  | .hbm, ⟨36, _⟩ => ⟨S16384x1024, .f32⟩
  | .hbm, ⟨37, _⟩ => ⟨S16384x1024, .bf16⟩
  | _, _ => ⟨S8x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Merge.lean ====
abbrev S8x2048x2048 : Shape := ⟨3, ![8, 2048, 2048]⟩
abbrev S8x2048x1024 : Shape := ⟨3, ![8, 2048, 1024]⟩
abbrev S2048x13120 : Shape := ⟨2, ![2048, 13120]⟩
abbrev S1024x2048 : Shape := ⟨2, ![1024, 2048]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S1x1024x2048 : Shape := ⟨3, ![1, 1024, 2048]⟩
abbrev S3x1024x2048 : Shape := ⟨3, ![3, 1024, 2048]⟩
abbrev S16384x1024 : Shape := ⟨2, ![16384, 1024]⟩
abbrev S16384x2048 : Shape := ⟨2, ![16384, 2048]⟩
abbrev S1024x1024 : Shape := ⟨2, ![1024, 1024]⟩
abbrev S3x2048x512 : Shape := ⟨3, ![3, 2048, 512]⟩
abbrev S3x1024x512 : Shape := ⟨3, ![3, 1024, 512]⟩
abbrev S1024x512 : Shape := ⟨2, ![1024, 512]⟩
abbrev S1x2048x512 : Shape := ⟨3, ![1, 2048, 512]⟩
abbrev S2048x512 : Shape := ⟨2, ![2048, 512]⟩
abbrev S1x1024x512 : Shape := ⟨3, ![1, 1024, 512]⟩

abbrev nBuf : Space → Nat
  | .hbm => 30
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S2048x13120, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x13120, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S1x2048x2048, .bf16⟩
  | .hbm, ⟨13, _⟩ => ⟨S1x2048x2048, .bf16⟩
  | .hbm, ⟨14, _⟩ => ⟨S1x2048x2048, .bf16⟩
  | .hbm, ⟨15, _⟩ => ⟨S3x2048x2048, .bf16⟩
  | .hbm, ⟨16, _⟩ => ⟨S1x1024x2048, .f32⟩
  | .hbm, ⟨17, _⟩ => ⟨S1x1024x2048, .f32⟩
  | .hbm, ⟨18, _⟩ => ⟨S1x1024x2048, .f32⟩
  | .hbm, ⟨19, _⟩ => ⟨S3x1024x2048, .f32⟩
  | .hbm, ⟨20, _⟩ => ⟨S3x1024x2048, .bf16⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x1024, .bf16⟩
  | .hbm, ⟨25, _⟩ => ⟨S16384x1024, .f32⟩
  | .hbm, ⟨26, _⟩ => ⟨S16384x1024, .bf16⟩
  | .hbm, ⟨27, _⟩ => ⟨S16384x2048, .f32⟩
  | .hbm, ⟨28, _⟩ => ⟨S16384x2048, .bf16⟩
  | .hbm, ⟨29, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S3x2048x512, .bf16⟩
  | .local _ .vmem, ⟨9, _⟩ => ⟨S3x2048x512, .bf16⟩
  | .local _ .vmem, ⟨10, _⟩ => ⟨S3x1024x512, .bf16⟩
  | .local _ .vmem, ⟨11, _⟩ => ⟨S3x1024x512, .bf16⟩
  | .local _ .vmem, ⟨12, _⟩ => ⟨S1024x512, .bf16⟩
  | .local _ .vmem, ⟨13, _⟩ => ⟨S1024x512, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8x2048x2048 : Shape := ⟨3, ![8, 2048, 2048]⟩
abbrev S8x2048x1024 : Shape := ⟨3, ![8, 2048, 1024]⟩
abbrev S2048x13120 : Shape := ⟨2, ![2048, 13120]⟩
abbrev S1024x2048 : Shape := ⟨2, ![1024, 2048]⟩
abbrev S8x2048x13120 : Shape := ⟨3, ![8, 2048, 13120]⟩
abbrev S8x2048x6144 : Shape := ⟨3, ![8, 2048, 6144]⟩
abbrev S_ : Shape := ⟨0, ![]⟩
abbrev S16384x2048 : Shape := ⟨2, ![16384, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S2048x13120, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S8x2048x13120, .f32⟩
  | .hbm, ⟨9, _⟩ => ⟨S8x2048x6144, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S16384x2048, .f32⟩
  | .hbm, ⟨46, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== MlaIn.lean ====
abbrev S16x256x2048 : Shape := ⟨3, ![16, 256, 2048]⟩
abbrev S2048x13120 : Shape := ⟨2, ![2048, 13120]⟩
abbrev S512 : Shape := ⟨1, ![512]⟩
abbrev S256 : Shape := ⟨1, ![256]⟩
abbrev S512x1536 : Shape := ⟨2, ![512, 1536]⟩
abbrev S2048x832 : Shape := ⟨2, ![2048, 832]⟩
abbrev S2048x64 : Shape := ⟨2, ![2048, 64]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S4096x2048 : Shape := ⟨2, ![4096, 2048]⟩
abbrev S2048x32 : Shape := ⟨2, ![2048, 32]⟩
abbrev S2048x896 : Shape := ⟨2, ![2048, 896]⟩
abbrev S512x512 : Shape := ⟨2, ![512, 512]⟩
abbrev S1x512 : Shape := ⟨2, ![1, 512]⟩
abbrev S1x256 : Shape := ⟨2, ![1, 256]⟩
abbrev S4096x256 : Shape := ⟨2, ![4096, 256]⟩
abbrev S4096x64 : Shape := ⟨2, ![4096, 64]⟩
abbrev S4096x1024 : Shape := ⟨2, ![4096, 1024]⟩
abbrev S4096x512 : Shape := ⟨2, ![4096, 512]⟩
abbrev S256x2048 : Shape := ⟨2, ![256, 2048]⟩
abbrev S256x256 : Shape := ⟨2, ![256, 256]⟩
abbrev S256x64 : Shape := ⟨2, ![256, 64]⟩
abbrev S256x1024 : Shape := ⟨2, ![256, 1024]⟩
abbrev S256x512 : Shape := ⟨2, ![256, 512]⟩
abbrev S256x896 : Shape := ⟨2, ![256, 896]⟩
abbrev S256x1 : Shape := ⟨2, ![256, 1]⟩
abbrev S256x1536 : Shape := ⟨2, ![256, 1536]⟩

abbrev nBuf : Space → Nat
  | .hbm => 30
  | .vmem => 18
  | .smem => 0
  | _ => 0

abbrev bufTy : (tb : Table) → Fin (tcTables nBuf tb) → BufTy
  | .hbm, ⟨0, _⟩ => ⟨S16x256x2048, .f32⟩
  | .hbm, ⟨1, _⟩ => ⟨S2048x13120, .f32⟩
  | .hbm, ⟨2, _⟩ => ⟨S512, .f32⟩
  | .hbm, ⟨3, _⟩ => ⟨S256, .f32⟩
  | .hbm, ⟨4, _⟩ => ⟨S512x1536, .f32⟩
  | .hbm, ⟨5, _⟩ => ⟨S2048x832, .f32⟩
  | .hbm, ⟨6, _⟩ => ⟨S2048x832, .bf16⟩
  | .hbm, ⟨7, _⟩ => ⟨S2048x64, .bf16⟩
  | .hbm, ⟨8, _⟩ => ⟨S512x1536, .bf16⟩
  | .hbm, ⟨9, _⟩ => ⟨S512x8x192, .bf16⟩
  | .hbm, ⟨10, _⟩ => ⟨S512x8x128, .bf16⟩
  | .hbm, ⟨11, _⟩ => ⟨S512x1024, .bf16⟩
  | .hbm, ⟨12, _⟩ => ⟨S512x8x64, .bf16⟩
  | .hbm, ⟨13, _⟩ => ⟨S4096x2048, .f32⟩
  | .hbm, ⟨14, _⟩ => ⟨S4096x2048, .bf16⟩
  | .hbm, ⟨15, _⟩ => ⟨S2048x32, .bf16⟩
  | .hbm, ⟨16, _⟩ => ⟨S2048x32, .bf16⟩
  | .hbm, ⟨17, _⟩ => ⟨S2048x32, .bf16⟩
  | .hbm, ⟨18, _⟩ => ⟨S2048x64, .bf16⟩
  | .hbm, ⟨19, _⟩ => ⟨S2048x896, .bf16⟩
  | .hbm, ⟨20, _⟩ => ⟨S512x512, .bf16⟩
  | .hbm, ⟨21, _⟩ => ⟨S512x1536, .bf16⟩
  | .hbm, ⟨22, _⟩ => ⟨S1x512, .f32⟩
  | .hbm, ⟨23, _⟩ => ⟨S1x256, .f32⟩
  | .hbm, ⟨24, _⟩ => ⟨S4096x256, .f32⟩
  | .hbm, ⟨25, _⟩ => ⟨S4096x64, .f32⟩
  | .hbm, ⟨26, _⟩ => ⟨S4096x256, .bf16⟩
  | .hbm, ⟨27, _⟩ => ⟨S4096x64, .bf16⟩
  | .hbm, ⟨28, _⟩ => ⟨S4096x1024, .bf16⟩
  | .hbm, ⟨29, _⟩ => ⟨S4096x512, .bf16⟩
  | .local _ .vmem, ⟨0, _⟩ => ⟨S256x2048, .bf16⟩
  | .local _ .vmem, ⟨1, _⟩ => ⟨S256x2048, .bf16⟩
  | .local _ .vmem, ⟨2, _⟩ => ⟨S2048x896, .bf16⟩
  | .local _ .vmem, ⟨3, _⟩ => ⟨S1x512, .f32⟩
  | .local _ .vmem, ⟨4, _⟩ => ⟨S1x256, .f32⟩
  | .local _ .vmem, ⟨5, _⟩ => ⟨S512x1536, .bf16⟩
  | .local _ .vmem, ⟨6, _⟩ => ⟨S256x256, .f32⟩
  | .local _ .vmem, ⟨7, _⟩ => ⟨S256x256, .f32⟩
  | .local _ .vmem, ⟨8, _⟩ => ⟨S256x64, .f32⟩
  | .local _ .vmem, ⟨9, _⟩ => ⟨S256x64, .f32⟩
  | .local _ .vmem, ⟨10, _⟩ => ⟨S256x256, .bf16⟩
  | .local _ .vmem, ⟨11, _⟩ => ⟨S256x256, .bf16⟩
  | .local _ .vmem, ⟨12, _⟩ => ⟨S256x64, .bf16⟩
  | .local _ .vmem, ⟨13, _⟩ => ⟨S256x64, .bf16⟩
  | .local _ .vmem, ⟨14, _⟩ => ⟨S256x1024, .bf16⟩
  | .local _ .vmem, ⟨15, _⟩ => ⟨S256x1024, .bf16⟩
  | .local _ .vmem, ⟨16, _⟩ => ⟨S256x512, .bf16⟩
  | .local _ .vmem, ⟨17, _⟩ => ⟨S256x512, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlaInRefIdeal.lean ====
abbrev S16x256x2048 : Shape := ⟨3, ![16, 256, 2048]⟩
abbrev S2048x13120 : Shape := ⟨2, ![2048, 13120]⟩
abbrev S512 : Shape := ⟨1, ![512]⟩
abbrev S256 : Shape := ⟨1, ![256]⟩
abbrev S512x1536 : Shape := ⟨2, ![512, 1536]⟩
abbrev S16x256x13120 : Shape := ⟨3, ![16, 256, 13120]⟩
abbrev S16x256x832 : Shape := ⟨3, ![16, 256, 832]⟩
abbrev S16x256x512 : Shape := ⟨3, ![16, 256, 512]⟩
abbrev S16x256x256 : Shape := ⟨3, ![16, 256, 256]⟩
abbrev S16x256x64 : Shape := ⟨3, ![16, 256, 64]⟩
abbrev S_ : Shape := ⟨0, ![]⟩
abbrev S16x256 : Shape := ⟨2, ![16, 256]⟩
abbrev S16x256x1 : Shape := ⟨3, ![16, 256, 1]⟩
abbrev S1x1x512 : Shape := ⟨3, ![1, 1, 512]⟩
abbrev S16x256x1536 : Shape := ⟨3, ![16, 256, 1536]⟩
abbrev S16x256x8x192 : Shape := ⟨4, ![16, 256, 8, 192]⟩
abbrev S16x256x8x128 : Shape := ⟨4, ![16, 256, 8, 128]⟩
abbrev S16x256x8x64 : Shape := ⟨4, ![16, 256, 8, 64]⟩
abbrev S1x1x256 : Shape := ⟨3, ![1, 1, 256]⟩
abbrev S4096x256 : Shape := ⟨2, ![4096, 256]⟩
abbrev S4096x64 : Shape := ⟨2, ![4096, 64]⟩
abbrev S4096x1024 : Shape := ⟨2, ![4096, 1024]⟩
abbrev S4096x512 : Shape := ⟨2, ![4096, 512]⟩

abbrev nBuf : Space → Nat
  | .hbm => 60
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S2048x13120, .f32⟩
  | .hbm, ⟨2, _⟩ => ⟨S512, .f32⟩
  | .hbm, ⟨3, _⟩ => ⟨S256, .f32⟩
  | .hbm, ⟨4, _⟩ => ⟨S512x1536, .f32⟩
  | .hbm, ⟨5, _⟩ => ⟨S16x256x13120, .f32⟩
  | .hbm, ⟨6, _⟩ => ⟨S16x256x832, .f32⟩
  | .hbm, ⟨7, _⟩ => ⟨S16x256x512, .f32⟩
  | .hbm, ⟨8, _⟩ => ⟨S16x256x256, .f32⟩
  | .hbm, ⟨9, _⟩ => ⟨S16x256x64, .f32⟩
  | .hbm, ⟨10, _⟩ => ⟨S16x256x512, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x512, .f32⟩
  | .hbm, ⟨22, _⟩ => ⟨S16x256x512, .f32⟩
  | .hbm, ⟨23, _⟩ => ⟨S1x1x512, .f32⟩
  | .hbm, ⟨24, _⟩ => ⟨S16x256x512, .f32⟩
  | .hbm, ⟨25, _⟩ => ⟨S16x256x512, .f32⟩
  | .hbm, ⟨26, _⟩ => ⟨S16x256x1536, .f32⟩
  | .hbm, ⟨27, _⟩ => ⟨S16x256x8x192, .f32⟩
  | .hbm, ⟨28, _⟩ => ⟨S16x256x8x128, .f32⟩
  | .hbm, ⟨29, _⟩ => ⟨S16x256x8x64, .f32⟩
  | .hbm, ⟨30, _⟩ => ⟨S16x256x256, .f32⟩
  | .hbm, ⟨31, _⟩ => ⟨S_, .f32⟩
  | .hbm, ⟨32, _⟩ => ⟨S16x256, .f32⟩
  | .hbm, ⟨33, _⟩ => ⟨S16x256x1, .f32⟩
  | .hbm, ⟨34, _⟩ => ⟨S_, .f32⟩
  | .hbm, ⟨35, _⟩ => ⟨S16x256x1, .f32⟩
  | .hbm, ⟨36, _⟩ => ⟨S16x256x1, .f32⟩
  | .hbm, ⟨37, _⟩ => ⟨S_, .f32⟩
  | .hbm, ⟨38, _⟩ => ⟨S16x256x1, .f32⟩
  | .hbm, ⟨39, _⟩ => ⟨S16x256x1, .f32⟩
  | .hbm, ⟨40, _⟩ => ⟨S16x256x1, .f32⟩
  | .hbm, ⟨41, _⟩ => ⟨S16x256x256, .f32⟩
  | .hbm, ⟨42, _⟩ => ⟨S16x256x256, .f32⟩
  | .hbm, ⟨43, _⟩ => ⟨S1x1x256, .f32⟩
  | .hbm, ⟨44, _⟩ => ⟨S16x256x256, .f32⟩
  | .hbm, ⟨45, _⟩ => ⟨S16x256x256, .f32⟩
  | .hbm, ⟨46, _⟩ => ⟨S4096x256, .f32⟩
  | .hbm, ⟨47, _⟩ => ⟨S4096x64, .f32⟩
  | .hbm, ⟨48, _⟩ => ⟨S4096x256, .bf16⟩
  | .hbm, ⟨49, _⟩ => ⟨S4096x64, .bf16⟩
  | .hbm, ⟨50, _⟩ => ⟨S_, .f32⟩
  | .hbm, ⟨51, _⟩ => ⟨S16x256x8x128, .f32⟩
  | .hbm, ⟨52, _⟩ => ⟨S16x256x8x128, .f32⟩
  | .hbm, ⟨53, _⟩ => ⟨S4096x1024, .f32⟩
  | .hbm, ⟨54, _⟩ => ⟨S4096x1024, .bf16⟩
  | .hbm, ⟨55, _⟩ => ⟨S_, .f32⟩
  | .hbm, ⟨56, _⟩ => ⟨S16x256x8x64, .f32⟩
  | .hbm, ⟨57, _⟩ => ⟨S16x256x8x64, .f32⟩
  | .hbm, ⟨58, _⟩ => ⟨S4096x512, .f32⟩
  | .hbm, ⟨59, _⟩ => ⟨S4096x512, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== ShortConv.lean ====
abbrev S8x2048x2048 : Shape := ⟨3, ![8, 2048, 2048]⟩
abbrev S2048x13120 : Shape := ⟨2, ![2048, 13120]⟩
abbrev S3x1024 : Shape := ⟨2, ![3, 1024]⟩
abbrev S2048x1024 : Shape := ⟨2, ![2048, 1024]⟩
abbrev S1x2048x1024 : Shape := ⟨3, ![1, 2048, 1024]⟩
abbrev S3x2048x1024 : Shape := ⟨3, ![3, 2048, 1024]⟩
abbrev S16384x2048 : Shape := ⟨2, ![16384, 2048]⟩
abbrev S16384x1024 : Shape := ⟨2, ![16384, 1024]⟩
abbrev S2048x2048 : Shape := ⟨2, ![2048, 2048]⟩
abbrev S3x2048x256 : Shape := ⟨3, ![3, 2048, 256]⟩
abbrev S3x256 : Shape := ⟨2, ![3, 256]⟩
abbrev S2048x256 : Shape := ⟨2, ![2048, 256]⟩
abbrev S1040x2048 : Shape := ⟨2, ![1040, 2048]⟩
abbrev S1x2048x256 : Shape := ⟨3, ![1, 2048, 256]⟩
abbrev S1040x256 : Shape := ⟨2, ![1040, 256]⟩
abbrev S1x256 : Shape := ⟨2, ![1, 256]⟩
abbrev S256 : Shape := ⟨1, ![256]⟩
abbrev S1024x256 : Shape := ⟨2, ![1024, 256]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S2048x13120, .f32⟩
  | .hbm, ⟨2, _⟩ => ⟨S3x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S3x2048x1024, .f32⟩
  | .hbm, ⟨10, _⟩ => ⟨S3x2048x1024, .bf16⟩
  | .hbm, ⟨11, _⟩ => ⟨S16384x2048, .f32⟩
  | .hbm, ⟨12, _⟩ => ⟨S16384x2048, .bf16⟩
  | .hbm, ⟨13, _⟩ => ⟨S16384x1024, .bf16⟩
  | .local _ .vmem, ⟨0, _⟩ => ⟨S2048x2048, .bf16⟩
  | .local _ .vmem, ⟨1, _⟩ => ⟨S2048x2048, .bf16⟩
  | .local _ .vmem, ⟨2, _⟩ => ⟨S3x2048x256, .bf16⟩
  | .local _ .vmem, ⟨3, _⟩ => ⟨S3x2048x256, .bf16⟩
  | .local _ .vmem, ⟨4, _⟩ => ⟨S3x256, .f32⟩
  | .local _ .vmem, ⟨5, _⟩ => ⟨S3x256, .f32⟩
  | .local _ .vmem, ⟨6, _⟩ => ⟨S2048x256, .bf16⟩
  | .local _ .vmem, ⟨7, _⟩ => ⟨S2048x256, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ShortConvRefIdeal.lean ====
abbrev S8x2048x2048 : Shape := ⟨3, ![8, 2048, 2048]⟩
abbrev S2048x13120 : Shape := ⟨2, ![2048, 13120]⟩
abbrev S3x1024 : Shape := ⟨2, ![3, 1024]⟩
abbrev S8x2048x13120 : Shape := ⟨3, ![8, 2048, 13120]⟩
abbrev S8x2048x3072 : Shape := ⟨3, ![8, 2048, 3072]⟩
abbrev S8x2048x1024 : Shape := ⟨3, ![8, 2048, 1024]⟩
abbrev S_ : Shape := ⟨0, ![]⟩
abbrev S8x2050x1024 : Shape := ⟨3, ![8, 2050, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x13120, .f32⟩
  | .hbm, ⟨2, _⟩ => ⟨S3x1024, .f32⟩
  | .hbm, ⟨3, _⟩ => ⟨S8x2048x13120, .f32⟩
  | .hbm, ⟨4, _⟩ => ⟨S8x2048x3072, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S_, .i32⟩
  | .hbm, ⟨10, _⟩ => ⟨S_, .f32⟩
  | .hbm, ⟨11, _⟩ => ⟨S8x2050x1024, .f32⟩
  | .hbm, ⟨12, _⟩ => ⟨S8x2048x1024, .f32⟩
  | .hbm, ⟨13, _⟩ => ⟨S1x1024, .f32⟩
  | .hbm, ⟨14, _⟩ => ⟨S1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S16384x1024, .f32⟩
  | .hbm, ⟨33, _⟩ => ⟨S16384x1024, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Ffn.lean ====
abbrev S8x2048x2048 : Shape := ⟨3, ![8, 2048, 2048]⟩
abbrev S8x1x2048 : Shape := ⟨3, ![8, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S3x2x5632 : Shape := ⟨3, ![3, 2, 5632]⟩
abbrev S1x2x5632 : Shape := ⟨3, ![1, 2, 5632]⟩
abbrev S4x2x5632 : Shape := ⟨3, ![4, 2, 5632]⟩
abbrev S16384x2048 : Shape := ⟨2, ![16384, 2048]⟩
abbrev S1x2048 : Shape := ⟨2, ![1, 2048]⟩
abbrev S512x2048 : Shape := ⟨2, ![512, 2048]⟩
abbrev S16x2048 : Shape := ⟨2, ![16, 2048]⟩
abbrev S2x2048x256 : Shape := ⟨3, ![2, 2048, 256]⟩
abbrev S4x2x256 : Shape := ⟨3, ![4, 2, 256]⟩
abbrev S256x2048 : Shape := ⟨2, ![256, 2048]⟩
abbrev S1x1x2048 : Shape := ⟨3, ![1, 1, 2048]⟩
abbrev S528x2048 : Shape := ⟨2, ![528, 2048]⟩
abbrev S2x528x256 : Shape := ⟨3, ![2, 528, 256]⟩
abbrev S512x256 : Shape := ⟨2, ![512, 256]⟩
abbrev S8x2048 : Shape := ⟨2, ![8, 2048]⟩
abbrev S528x256 : Shape := ⟨2, ![528, 256]⟩
abbrev S1x256x256 : Shape := ⟨3, ![1, 256, 256]⟩
abbrev S256x256 : Shape := ⟨2, ![256, 256]⟩
abbrev S1x528x256 : Shape := ⟨3, ![1, 528, 256]⟩
abbrev S1x8x256 : Shape := ⟨3, ![1, 8, 256]⟩
abbrev S8x256 : Shape := ⟨2, ![8, 256]⟩
abbrev S1x72x256 : Shape := ⟨3, ![1, 72, 256]⟩
abbrev S72x256 : Shape := ⟨2, ![72, 256]⟩
abbrev S80x256 : Shape := ⟨2, ![80, 256]⟩
abbrev S1x1x256 : Shape := ⟨3, ![1, 1, 256]⟩
abbrev S1x256 : Shape := ⟨2, ![1, 256]⟩
abbrev S64x256 : Shape := ⟨2, ![64, 256]⟩
abbrev S1x80x256 : Shape := ⟨3, ![1, 80, 256]⟩
abbrev S512 : Shape := ⟨1, ![512]⟩
abbrev S512x1 : Shape := ⟨2, ![512, 1]⟩

abbrev nBuf : Space → Nat
  | .hbm => 23
  | .vmem => 32
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x1x2048, .f32⟩
  | .hbm, ⟨3, _⟩ => ⟨S2048x11264, .f32⟩
  | .hbm, ⟨4, _⟩ => ⟨S3x11264, .f32⟩
  | .hbm, ⟨5, _⟩ => ⟨S11264, .f32⟩
  | .hbm, ⟨6, _⟩ => ⟨S5632x2048, .f32⟩
  | .hbm, ⟨7, _⟩ => ⟨S2048, .f32⟩
  | .hbm, ⟨8, _⟩ => ⟨S2048x11264, .bf16⟩
  | .hbm, ⟨9, _⟩ => ⟨S2048x5632, .bf16⟩
  | .hbm, ⟨10, _⟩ => ⟨S2048x5632, .bf16⟩
  | .hbm, ⟨11, _⟩ => ⟨S1x2048x5632, .bf16⟩
  | .hbm, ⟨12, _⟩ => ⟨S1x2048x5632, .bf16⟩
  | .hbm, ⟨13, _⟩ => ⟨S2x2048x5632, .bf16⟩
  | .hbm, ⟨14, _⟩ => ⟨S3x2x5632, .f32⟩
  | .hbm, ⟨15, _⟩ => ⟨S1x2x5632, .f32⟩
  | .hbm, ⟨16, _⟩ => ⟨S4x2x5632, .f32⟩
  | .hbm, ⟨17, _⟩ => ⟨S16384x2048, .f32⟩
  | .hbm, ⟨18, _⟩ => ⟨S16384x2048, .bf16⟩
  | .hbm, ⟨19, _⟩ => ⟨S5632x2048, .bf16⟩
  | .hbm, ⟨20, _⟩ => ⟨S16384x2048, .f32⟩
  | .hbm, ⟨21, _⟩ => ⟨S1x2048, .f32⟩
  | .hbm, ⟨22, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S2x2048x256, .bf16⟩
  | .local _ .vmem, ⟨7, _⟩ => ⟨S2x2048x256, .bf16⟩
  | .local _ .vmem, ⟨8, _⟩ => ⟨S2x2048x256, .bf16⟩
  | .local _ .vmem, ⟨9, _⟩ => ⟨S2x2048x256, .bf16⟩
  | .local _ .vmem, ⟨10, _⟩ => ⟨S4x2x256, .f32⟩
  | .local _ .vmem, ⟨11, _⟩ => ⟨S4x2x256, .f32⟩
  | .local _ .vmem, ⟨12, _⟩ => ⟨S4x2x256, .f32⟩
  | .local _ .vmem, ⟨13, _⟩ => ⟨S4x2x256, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S512x2048, .f32⟩
  | .local _ .vmem, ⟨19, _⟩ => ⟨S512x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x2048, .f32⟩
  | .local _ .vmem, ⟨23, _⟩ => ⟨S512x2048, .f32⟩
  | .local _ .vmem, ⟨24, _⟩ => ⟨S512x2048, .f32⟩
  | .local _ .vmem, ⟨25, _⟩ => ⟨S528x2048, .bf16⟩
  | .local _ .vmem, ⟨26, _⟩ => ⟨S2x528x256, .f32⟩
  | .local _ .vmem, ⟨27, _⟩ => ⟨S2x528x256, .f32⟩
  | .local _ .vmem, ⟨28, _⟩ => ⟨S512x256, .bf16⟩
  | .local _ .vmem, ⟨29, _⟩ => ⟨S4x2x256, .f32⟩
  | .local _ .vmem, ⟨30, _⟩ => ⟨S256x2048, .bf16⟩
  | .local _ .vmem, ⟨31, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 11], ![false, false]⟩

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnIdeal.lean ====
abbrev S8x2048x2048 : Shape := ⟨3, ![8, 2048, 2048]⟩
abbrev S8x1x2048 : Shape := ⟨3, ![8, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S3x2x5632 : Shape := ⟨3, ![3, 2, 5632]⟩
abbrev S1x2x5632 : Shape := ⟨3, ![1, 2, 5632]⟩
abbrev S4x2x5632 : Shape := ⟨3, ![4, 2, 5632]⟩
abbrev S16384x2048 : Shape := ⟨2, ![16384, 2048]⟩
abbrev S1x2048 : Shape := ⟨2, ![1, 2048]⟩
abbrev S512x2048 : Shape := ⟨2, ![512, 2048]⟩
abbrev S16x2048 : Shape := ⟨2, ![16, 2048]⟩
abbrev S2x2048x256 : Shape := ⟨3, ![2, 2048, 256]⟩
abbrev S4x2x256 : Shape := ⟨3, ![4, 2, 256]⟩
abbrev S256x2048 : Shape := ⟨2, ![256, 2048]⟩
abbrev S1x1x2048 : Shape := ⟨3, ![1, 1, 2048]⟩
abbrev S528x2048 : Shape := ⟨2, ![528, 2048]⟩
abbrev S2x528x256 : Shape := ⟨3, ![2, 528, 256]⟩
abbrev S512x256 : Shape := ⟨2, ![512, 256]⟩
abbrev S8x2048 : Shape := ⟨2, ![8, 2048]⟩
abbrev S528x256 : Shape := ⟨2, ![528, 256]⟩
abbrev S1x256x256 : Shape := ⟨3, ![1, 256, 256]⟩
abbrev S256x256 : Shape := ⟨2, ![256, 256]⟩
abbrev S1x528x256 : Shape := ⟨3, ![1, 528, 256]⟩
abbrev S1x8x256 : Shape := ⟨3, ![1, 8, 256]⟩
abbrev S8x256 : Shape := ⟨2, ![8, 256]⟩
abbrev S1x72x256 : Shape := ⟨3, ![1, 72, 256]⟩
abbrev S72x256 : Shape := ⟨2, ![72, 256]⟩
abbrev S80x256 : Shape := ⟨2, ![80, 256]⟩
abbrev S1x1x256 : Shape := ⟨3, ![1, 1, 256]⟩
abbrev S1x256 : Shape := ⟨2, ![1, 256]⟩
abbrev S64x256 : Shape := ⟨2, ![64, 256]⟩
abbrev S1x80x256 : Shape := ⟨3, ![1, 80, 256]⟩
abbrev S512 : Shape := ⟨1, ![512]⟩
abbrev S512x1 : Shape := ⟨2, ![512, 1]⟩

abbrev nBuf : Space → Nat
  | .hbm => 23
  | .vmem => 32
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x1x2048, .f32⟩
  | .hbm, ⟨3, _⟩ => ⟨S2048x11264, .f32⟩
  | .hbm, ⟨4, _⟩ => ⟨S3x11264, .f32⟩
  | .hbm, ⟨5, _⟩ => ⟨S11264, .f32⟩
  | .hbm, ⟨6, _⟩ => ⟨S5632x2048, .f32⟩
  | .hbm, ⟨7, _⟩ => ⟨S2048, .f32⟩
  | .hbm, ⟨8, _⟩ => ⟨S2048x11264, .bf16⟩
  | .hbm, ⟨9, _⟩ => ⟨S2048x5632, .bf16⟩
  | .hbm, ⟨10, _⟩ => ⟨S2048x5632, .bf16⟩
  | .hbm, ⟨11, _⟩ => ⟨S1x2048x5632, .bf16⟩
  | .hbm, ⟨12, _⟩ => ⟨S1x2048x5632, .bf16⟩
  | .hbm, ⟨13, _⟩ => ⟨S2x2048x5632, .bf16⟩
  | .hbm, ⟨14, _⟩ => ⟨S3x2x5632, .f32⟩
  | .hbm, ⟨15, _⟩ => ⟨S1x2x5632, .f32⟩
  | .hbm, ⟨16, _⟩ => ⟨S4x2x5632, .f32⟩
  | .hbm, ⟨17, _⟩ => ⟨S16384x2048, .f32⟩
  | .hbm, ⟨18, _⟩ => ⟨S16384x2048, .bf16⟩
  | .hbm, ⟨19, _⟩ => ⟨S5632x2048, .bf16⟩
  | .hbm, ⟨20, _⟩ => ⟨S16384x2048, .f32⟩
  | .hbm, ⟨21, _⟩ => ⟨S1x2048, .f32⟩
  | .hbm, ⟨22, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S2x2048x256, .bf16⟩
  | .local _ .vmem, ⟨7, _⟩ => ⟨S2x2048x256, .bf16⟩
  | .local _ .vmem, ⟨8, _⟩ => ⟨S2x2048x256, .bf16⟩
  | .local _ .vmem, ⟨9, _⟩ => ⟨S2x2048x256, .bf16⟩
  | .local _ .vmem, ⟨10, _⟩ => ⟨S4x2x256, .f32⟩
  | .local _ .vmem, ⟨11, _⟩ => ⟨S4x2x256, .f32⟩
  | .local _ .vmem, ⟨12, _⟩ => ⟨S4x2x256, .f32⟩
  | .local _ .vmem, ⟨13, _⟩ => ⟨S4x2x256, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S512x2048, .f32⟩
  | .local _ .vmem, ⟨19, _⟩ => ⟨S512x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x2048, .f32⟩
  | .local _ .vmem, ⟨23, _⟩ => ⟨S512x2048, .f32⟩
  | .local _ .vmem, ⟨24, _⟩ => ⟨S512x2048, .f32⟩
  | .local _ .vmem, ⟨25, _⟩ => ⟨S528x2048, .bf16⟩
  | .local _ .vmem, ⟨26, _⟩ => ⟨S2x528x256, .f32⟩
  | .local _ .vmem, ⟨27, _⟩ => ⟨S2x528x256, .f32⟩
  | .local _ .vmem, ⟨28, _⟩ => ⟨S512x256, .bf16⟩
  | .local _ .vmem, ⟨29, _⟩ => ⟨S4x2x256, .f32⟩
  | .local _ .vmem, ⟨30, _⟩ => ⟨S256x2048, .bf16⟩
  | .local _ .vmem, ⟨31, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 11], ![false, false]⟩

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnRefIdeal.lean ====
abbrev S8x2048x2048 : Shape := ⟨3, ![8, 2048, 2048]⟩
abbrev S8x1x2048 : Shape := ⟨3, ![8, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S8x2048x11264 : Shape := ⟨3, ![8, 2048, 11264]⟩
abbrev S_ : Shape := ⟨0, ![]⟩
abbrev S8x2050x11264 : Shape := ⟨3, ![8, 2050, 11264]⟩
abbrev S1x11264 : Shape := ⟨2, ![1, 11264]⟩
abbrev S1x1x11264 : Shape := ⟨3, ![1, 1, 11264]⟩
abbrev S8x2048x5632 : Shape := ⟨3, ![8, 2048, 5632]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x1x2048, .f32⟩
  | .hbm, ⟨3, _⟩ => ⟨S2048x11264, .f32⟩
  | .hbm, ⟨4, _⟩ => ⟨S3x11264, .f32⟩
  | .hbm, ⟨5, _⟩ => ⟨S11264, .f32⟩
  | .hbm, ⟨6, _⟩ => ⟨S5632x2048, .f32⟩
  | .hbm, ⟨7, _⟩ => ⟨S2048, .f32⟩
  | .hbm, ⟨8, _⟩ => ⟨S8x2048x11264, .f32⟩
  | .hbm, ⟨9, _⟩ => ⟨S_, .i32⟩
  | .hbm, ⟨10, _⟩ => ⟨S_, .f32⟩
  | .hbm, ⟨11, _⟩ => ⟨S8x2050x11264, .f32⟩
  | .hbm, ⟨12, _⟩ => ⟨S8x2048x11264, .f32⟩
  | .hbm, ⟨13, _⟩ => ⟨S1x11264, .f32⟩
  | .hbm, ⟨14, _⟩ => ⟨S11264, .f32⟩
  | .hbm, ⟨15, _⟩ => ⟨S1x1x11264, .f32⟩
  | .hbm, ⟨16, _⟩ => ⟨S8x2048x11264, .f32⟩
  | .hbm, ⟨17, _⟩ => ⟨S8x2048x11264, .f32⟩
  | .hbm, ⟨18, _⟩ => ⟨S1x11264, .f32⟩
  | .hbm, ⟨19, _⟩ => ⟨S11264, .f32⟩
  | .hbm, ⟨20, _⟩ => ⟨S1x1x11264, .f32⟩
  | .hbm, ⟨21, _⟩ => ⟨S8x2048x11264, .f32⟩
  | .hbm, ⟨22, _⟩ => ⟨S8x2048x11264, .f32⟩
  | .hbm, ⟨23, _⟩ => ⟨S8x2048x11264, .f32⟩
  | .hbm, ⟨24, _⟩ => ⟨S8x2048x11264, .f32⟩
  | .hbm, ⟨25, _⟩ => ⟨S1x11264, .f32⟩
  | .hbm, ⟨26, _⟩ => ⟨S11264, .f32⟩
  | .hbm, ⟨27, _⟩ => ⟨S1x1x11264, .f32⟩
  | .hbm, ⟨28, _⟩ => ⟨S8x2048x11264, .f32⟩
  | .hbm, ⟨29, _⟩ => ⟨S8x2048x11264, .f32⟩
  | .hbm, ⟨30, _⟩ => ⟨S8x2048x11264, .f32⟩
  | .hbm, ⟨31, _⟩ => ⟨S1x1x11264, .f32⟩
  | .hbm, ⟨32, _⟩ => ⟨S8x2048x11264, .f32⟩
  | .hbm, ⟨33, _⟩ => ⟨S8x2048x11264, .f32⟩
  | .hbm, ⟨34, _⟩ => ⟨S8x2048x5632, .f32⟩
  | .hbm, ⟨35, _⟩ => ⟨S8x2048x5632, .f32⟩
  | .hbm, ⟨36, _⟩ => ⟨S8x2048x5632, .f32⟩
  | .hbm, ⟨37, _⟩ => ⟨S8x2048x5632, .f32⟩
  | .hbm, ⟨38, _⟩ => ⟨S_, .f32⟩
  | .hbm, ⟨39, _⟩ => ⟨S8x2048x5632, .f32⟩
  | .hbm, ⟨40, _⟩ => ⟨S8x2048x5632, .f32⟩
  | .hbm, ⟨41, _⟩ => ⟨S_, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S1x1x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_cst_0 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== FfnPrompt.lean ====
abbrev S16x256x2048 : Shape := ⟨3, ![16, 256, 2048]⟩
abbrev S1x1x2048 : Shape := ⟨3, ![1, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S3x2x5632 : Shape := ⟨3, ![3, 2, 5632]⟩
abbrev S1x2x5632 : Shape := ⟨3, ![1, 2, 5632]⟩
abbrev S4x2x5632 : Shape := ⟨3, ![4, 2, 5632]⟩
abbrev S4096x2048 : Shape := ⟨2, ![4096, 2048]⟩
abbrev S1x2048 : Shape := ⟨2, ![1, 2048]⟩
abbrev S512x2048 : Shape := ⟨2, ![512, 2048]⟩
abbrev S16x2048 : Shape := ⟨2, ![16, 2048]⟩
abbrev S2x2048x256 : Shape := ⟨3, ![2, 2048, 256]⟩
abbrev S4x2x256 : Shape := ⟨3, ![4, 2, 256]⟩
abbrev S256x2048 : Shape := ⟨2, ![256, 2048]⟩
abbrev S544x2048 : Shape := ⟨2, ![544, 2048]⟩
abbrev S2x544x256 : Shape := ⟨3, ![2, 544, 256]⟩
abbrev S512x256 : Shape := ⟨2, ![512, 256]⟩
abbrev S544x256 : Shape := ⟨2, ![544, 256]⟩
abbrev S1x256x256 : Shape := ⟨3, ![1, 256, 256]⟩
abbrev S256x256 : Shape := ⟨2, ![256, 256]⟩
abbrev S1x544x256 : Shape := ⟨3, ![1, 544, 256]⟩
abbrev S1x8x256 : Shape := ⟨3, ![1, 8, 256]⟩
abbrev S8x256 : Shape := ⟨2, ![8, 256]⟩
abbrev S1x72x256 : Shape := ⟨3, ![1, 72, 256]⟩
abbrev S72x256 : Shape := ⟨2, ![72, 256]⟩
abbrev S80x256 : Shape := ⟨2, ![80, 256]⟩
abbrev S1x1x256 : Shape := ⟨3, ![1, 1, 256]⟩
abbrev S1x256 : Shape := ⟨2, ![1, 256]⟩
abbrev S64x256 : Shape := ⟨2, ![64, 256]⟩
abbrev S1x80x256 : Shape := ⟨3, ![1, 80, 256]⟩
abbrev S512 : Shape := ⟨1, ![512]⟩
abbrev S512x1 : Shape := ⟨2, ![512, 1]⟩

abbrev nBuf : Space → Nat
  | .hbm => 23
  | .vmem => 31
  | .smem => 0
  | _ => 0

abbrev bufTy : (tb : Table) → Fin (tcTables nBuf tb) → BufTy
  | .hbm, ⟨0, _⟩ => ⟨S16x256x2048, .f32⟩
  | .hbm, ⟨1, _⟩ => ⟨S16x256x2048, .f32⟩
  | .hbm, ⟨2, _⟩ => ⟨S1x1x2048, .f32⟩
  | .hbm, ⟨3, _⟩ => ⟨S2048x11264, .f32⟩
  | .hbm, ⟨4, _⟩ => ⟨S3x11264, .f32⟩
  | .hbm, ⟨5, _⟩ => ⟨S11264, .f32⟩
  | .hbm, ⟨6, _⟩ => ⟨S5632x2048, .f32⟩
  | .hbm, ⟨7, _⟩ => ⟨S2048, .f32⟩
  | .hbm, ⟨8, _⟩ => ⟨S2048x11264, .bf16⟩
  | .hbm, ⟨9, _⟩ => ⟨S2048x5632, .bf16⟩
  | .hbm, ⟨10, _⟩ => ⟨S2048x5632, .bf16⟩
  | .hbm, ⟨11, _⟩ => ⟨S1x2048x5632, .bf16⟩
  | .hbm, ⟨12, _⟩ => ⟨S1x2048x5632, .bf16⟩
  | .hbm, ⟨13, _⟩ => ⟨S2x2048x5632, .bf16⟩
  | .hbm, ⟨14, _⟩ => ⟨S3x2x5632, .f32⟩
  | .hbm, ⟨15, _⟩ => ⟨S1x2x5632, .f32⟩
  | .hbm, ⟨16, _⟩ => ⟨S4x2x5632, .f32⟩
  | .hbm, ⟨17, _⟩ => ⟨S4096x2048, .f32⟩
  | .hbm, ⟨18, _⟩ => ⟨S4096x2048, .bf16⟩
  | .hbm, ⟨19, _⟩ => ⟨S5632x2048, .bf16⟩
  | .hbm, ⟨20, _⟩ => ⟨S4096x2048, .f32⟩
  | .hbm, ⟨21, _⟩ => ⟨S1x2048, .f32⟩
  | .hbm, ⟨22, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S2x2048x256, .bf16⟩
  | .local _ .vmem, ⟨7, _⟩ => ⟨S2x2048x256, .bf16⟩
  | .local _ .vmem, ⟨8, _⟩ => ⟨S2x2048x256, .bf16⟩
  | .local _ .vmem, ⟨9, _⟩ => ⟨S2x2048x256, .bf16⟩
  | .local _ .vmem, ⟨10, _⟩ => ⟨S4x2x256, .f32⟩
  | .local _ .vmem, ⟨11, _⟩ => ⟨S4x2x256, .f32⟩
  | .local _ .vmem, ⟨12, _⟩ => ⟨S4x2x256, .f32⟩
  | .local _ .vmem, ⟨13, _⟩ => ⟨S4x2x256, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S512x2048, .f32⟩
  | .local _ .vmem, ⟨19, _⟩ => ⟨S512x2048, .f32⟩
  | .local _ .vmem, ⟨20, _⟩ => ⟨S1x1x2048, .f32⟩
  | .local _ .vmem, ⟨21, _⟩ => ⟨S1x2048, .f32⟩
  | .local _ .vmem, ⟨22, _⟩ => ⟨S512x2048, .f32⟩
  | .local _ .vmem, ⟨23, _⟩ => ⟨S512x2048, .f32⟩
  | .local _ .vmem, ⟨24, _⟩ => ⟨S544x2048, .bf16⟩
  | .local _ .vmem, ⟨25, _⟩ => ⟨S2x544x256, .f32⟩
  | .local _ .vmem, ⟨26, _⟩ => ⟨S2x544x256, .f32⟩
  | .local _ .vmem, ⟨27, _⟩ => ⟨S512x256, .bf16⟩
  | .local _ .vmem, ⟨28, _⟩ => ⟨S4x2x256, .f32⟩
  | .local _ .vmem, ⟨29, _⟩ => ⟨S256x2048, .bf16⟩
  | .local _ .vmem, ⟨30, _⟩ => ⟨S512x2048, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 11], ![false, false]⟩

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnPromptRefIdeal.lean ====
abbrev S16x256x2048 : Shape := ⟨3, ![16, 256, 2048]⟩
abbrev S1x1x2048 : Shape := ⟨3, ![1, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S16x256x11264 : Shape := ⟨3, ![16, 256, 11264]⟩
abbrev S_ : Shape := ⟨0, ![]⟩
abbrev S16x258x11264 : Shape := ⟨3, ![16, 258, 11264]⟩
abbrev S1x11264 : Shape := ⟨2, ![1, 11264]⟩
abbrev S1x1x11264 : Shape := ⟨3, ![1, 1, 11264]⟩
abbrev S16x256x5632 : Shape := ⟨3, ![16, 256, 5632]⟩
abbrev S16x256 : Shape := ⟨2, ![16, 256]⟩
abbrev S16x256x1 : Shape := ⟨3, ![16, 256, 1]⟩
abbrev S4096x2048 : Shape := ⟨2, ![4096, 2048]⟩

abbrev nBuf : Space → Nat
  | .hbm => 67
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x256x2048, .f32⟩
  | .hbm, ⟨2, _⟩ => ⟨S1x1x2048, .f32⟩
  | .hbm, ⟨3, _⟩ => ⟨S2048x11264, .f32⟩
  | .hbm, ⟨4, _⟩ => ⟨S3x11264, .f32⟩
  | .hbm, ⟨5, _⟩ => ⟨S11264, .f32⟩
  | .hbm, ⟨6, _⟩ => ⟨S5632x2048, .f32⟩
  | .hbm, ⟨7, _⟩ => ⟨S2048, .f32⟩
  | .hbm, ⟨8, _⟩ => ⟨S16x256x11264, .f32⟩
  | .hbm, ⟨9, _⟩ => ⟨S_, .i32⟩
  | .hbm, ⟨10, _⟩ => ⟨S_, .f32⟩
  | .hbm, ⟨11, _⟩ => ⟨S16x258x11264, .f32⟩
  | .hbm, ⟨12, _⟩ => ⟨S16x256x11264, .f32⟩
  | .hbm, ⟨13, _⟩ => ⟨S1x11264, .f32⟩
  | .hbm, ⟨14, _⟩ => ⟨S11264, .f32⟩
  | .hbm, ⟨15, _⟩ => ⟨S1x1x11264, .f32⟩
  | .hbm, ⟨16, _⟩ => ⟨S16x256x11264, .f32⟩
  | .hbm, ⟨17, _⟩ => ⟨S16x256x11264, .f32⟩
  | .hbm, ⟨18, _⟩ => ⟨S1x11264, .f32⟩
  | .hbm, ⟨19, _⟩ => ⟨S11264, .f32⟩
  | .hbm, ⟨20, _⟩ => ⟨S1x1x11264, .f32⟩
  | .hbm, ⟨21, _⟩ => ⟨S16x256x11264, .f32⟩
  | .hbm, ⟨22, _⟩ => ⟨S16x256x11264, .f32⟩
  | .hbm, ⟨23, _⟩ => ⟨S16x256x11264, .f32⟩
  | .hbm, ⟨24, _⟩ => ⟨S16x256x11264, .f32⟩
  | .hbm, ⟨25, _⟩ => ⟨S1x11264, .f32⟩
  | .hbm, ⟨26, _⟩ => ⟨S11264, .f32⟩
  | .hbm, ⟨27, _⟩ => ⟨S1x1x11264, .f32⟩
  | .hbm, ⟨28, _⟩ => ⟨S16x256x11264, .f32⟩
  | .hbm, ⟨29, _⟩ => ⟨S16x256x11264, .f32⟩
  | .hbm, ⟨30, _⟩ => ⟨S16x256x11264, .f32⟩
  | .hbm, ⟨31, _⟩ => ⟨S1x1x11264, .f32⟩
  | .hbm, ⟨32, _⟩ => ⟨S16x256x11264, .f32⟩
  | .hbm, ⟨33, _⟩ => ⟨S16x256x11264, .f32⟩
  | .hbm, ⟨34, _⟩ => ⟨S16x256x5632, .f32⟩
  | .hbm, ⟨35, _⟩ => ⟨S16x256x5632, .f32⟩
  | .hbm, ⟨36, _⟩ => ⟨S16x256x5632, .f32⟩
  | .hbm, ⟨37, _⟩ => ⟨S16x256x5632, .f32⟩
  | .hbm, ⟨38, _⟩ => ⟨S_, .f32⟩
  | .hbm, ⟨39, _⟩ => ⟨S16x256x5632, .f32⟩
  | .hbm, ⟨40, _⟩ => ⟨S16x256x5632, .f32⟩
  | .hbm, ⟨41, _⟩ => ⟨S_, .f32⟩
  | .hbm, ⟨42, _⟩ => ⟨S16x256x5632, .f32⟩
  | .hbm, ⟨43, _⟩ => ⟨S16x256x5632, .f32⟩
  | .hbm, ⟨44, _⟩ => ⟨S16x256x5632, .f32⟩
  | .hbm, ⟨45, _⟩ => ⟨S16x256x5632, .f32⟩
  | .hbm, ⟨46, _⟩ => ⟨S16x256x2048, .f32⟩
  | .hbm, ⟨47, _⟩ => ⟨S16x256x2048, .f32⟩
  | .hbm, ⟨48, _⟩ => ⟨S_, .f32⟩
  | .hbm, ⟨49, _⟩ => ⟨S16x256, .f32⟩
  | .hbm, ⟨50, _⟩ => ⟨S16x256x1, .f32⟩
  | .hbm, ⟨51, _⟩ => ⟨S_, .f32⟩
  | .hbm, ⟨52, _⟩ => ⟨S16x256x1, .f32⟩
  | .hbm, ⟨53, _⟩ => ⟨S16x256x1, .f32⟩
  | .hbm, ⟨54, _⟩ => ⟨S_, .f32⟩
  | .hbm, ⟨55, _⟩ => ⟨S16x256x1, .f32⟩
  | .hbm, ⟨56, _⟩ => ⟨S16x256x1, .f32⟩
  | .hbm, ⟨57, _⟩ => ⟨S16x256x1, .f32⟩
  | .hbm, ⟨58, _⟩ => ⟨S16x256x2048, .f32⟩
  | .hbm, ⟨59, _⟩ => ⟨S16x256x2048, .f32⟩
  | .hbm, ⟨60, _⟩ => ⟨S1x1x2048, .f32⟩
  | .hbm, ⟨61, _⟩ => ⟨S16x256x2048, .f32⟩
  | .hbm, ⟨62, _⟩ => ⟨S16x256x2048, .f32⟩
  | .hbm, ⟨63, _⟩ => ⟨S16x256x2048, .f32⟩
  | .hbm, ⟨64, _⟩ => ⟨S16x256x2048, .f32⟩
  | .hbm, ⟨65, _⟩ => ⟨S16x256x2048, .f32⟩
  | .hbm, ⟨66, _⟩ => ⟨S4096x2048, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_cst_0 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Proof.AttnMath.lean ====
module

public import Idealize.ShloMosaic.Lib.Pipeline.ValueKit
public import Idealize.ShloMosaic.Lib.Pointwise

@[expose] public section

noncomputable section

open Idealize.ShloMosaic

namespace Cert.Attn

/-- One query's attention over `n` keys in the order the kernel takes it: the scores `s`, the values `v`; the weighted sum
of the exponentials first, then the multiplication by the reciprocal of their sum. -/
def att {n : ℕ} (s v : Fin n → EReal) : EReal :=
  (∑ k, Ideal.exp (s k - Finset.univ.fold max (Ideal.ofBits .f32 0xFF800000#32) s) * v k)
    * Ideal.div 1 (∑ k, Ideal.exp (s k - Finset.univ.fold max (Ideal.ofBits .f32 0xFF800000#32) s))

theorem att_congr {n : ℕ} {s s' v v' : Fin n → EReal} (hs : ∀ k, s k = s' k) (hv : ∀ k, v k = v' k) : att s v = att s' v' := by
  rw [funext hs, funext hv]

/-- One query's softmax weights over `n` keys as the reference takes them. -/
def softmax {n : ℕ} (s : Fin n → EReal) (k : Fin n) : EReal :=
  Ideal.div (Ideal.exp (s k - max (Ideal.ofBits .f32 0xFF800000#32) (Finset.univ.fold max (Ideal.ofBits .f32 0xFF800000#32) s)))
    (∑ l, Ideal.exp (s l - max (Ideal.ofBits .f32 0xFF800000#32) (Finset.univ.fold max (Ideal.ofBits .f32 0xFF800000#32) s)))

/-- The pattern of minus infinity. -/
theorem ofBits_bot : Ideal.ofBits .f32 0xFF800000#32 = (⊥ : EReal) := by simp [Ideal.ofBits, Ideal.ieee]

/-- A finite sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, at least one, is a real. -/
theorem fold_max_real {n : ℕ} (hn : 0 < n) (s : Fin n → ℝ) :
    ∃ μ : ℝ, Finset.univ.fold max (⊥ : EReal) (fun k => (s k : EReal)) = (μ : EReal) := by
  have h1 : Finset.univ.fold max (⊥ : EReal) (fun k => (s k : EReal)) ≠ ⊤ :=
    ne_of_lt ((Finset.fold_max_lt _).2 ⟨bot_lt_top, fun k _ => EReal.coe_lt_top _⟩)
  have h2 : Finset.univ.fold max (⊥ : EReal) (fun k => (s k : EReal)) ≠ ⊥ :=
    ne_of_gt ((Finset.lt_fold_max _).2 (.inr ⟨⟨0, hn⟩, Finset.mem_univ _, EReal.bot_lt_coe _⟩))
  exact ⟨_, (EReal.coe_toReal h1 h2).symm⟩

/-- Absorbing the value expansion: attention over the expanded values, the reciprocal taken last, is the softmax-weighted
latents expanded afterwards. -/
theorem att_absorbed {n C : ℕ} (hn : 0 < n) (s : Fin n → ℝ) (kc : Fin n → Fin C → ℝ) (w : Fin C → ℝ) :
    att (fun k => (s k : EReal)) (fun k => ∑ c, (kc k c : EReal) * (w c : EReal))
      = ∑ c, (w c : EReal) * ∑ k, (kc k c : EReal) * softmax (fun k => (s k : EReal)) k := by
  obtain ⟨μ, hμ⟩ := fold_max_real hn s
  have e : ∀ k, Ideal.exp ((s k : EReal) - (μ : EReal)) = ((Real.exp (s k - μ) : ℝ) : EReal) := fun k => by
    rw [← EReal.coe_sub]; rfl
  have hS : (∑ k, Real.exp (s k - μ)) ≠ 0 := ne_of_gt (Finset.sum_pos (fun k _ => Real.exp_pos _) ⟨⟨0, hn⟩, Finset.mem_univ _⟩)
  simp only [att, softmax, ofBits_bot, hμ, max_eq_right (bot_le : (⊥ : EReal) ≤ _), e, ← coe_sum, ← EReal.coe_mul,
    Ideal.div_coe hS]
  rw [one_mul, ← EReal.coe_mul, EReal.coe_eq_coe_iff, Finset.sum_mul]
  simp only [Finset.mul_sum, Finset.sum_mul]
  rw [Finset.sum_comm]
  exact Finset.sum_congr rfl fun c _ => Finset.sum_congr rfl fun k _ => by ring

/-- Absorbing the key expansion: the scaled query against the expanded key is the score of the expanded query against the
latent key, scaled; and it is a real. -/
theorem score_absorbed {D C R : ℕ} (q : Fin D → ℝ) (p kp : Fin R → ℝ) (kc : Fin C → ℝ) (w : Fin C → Fin D → ℝ) (κ : ℝ) :
    ∃ x : ℝ, (∑ d, ((q d : EReal) * (κ : EReal)) * (∑ c, (kc c : EReal) * (w c d : EReal)) + ∑ d, ((p d : EReal) * (κ : EReal)) * (kp d : EReal))
        = (x : EReal)
      ∧ ((∑ c, (kc c : EReal) * (∑ d, (w c d : EReal) * (q d : EReal)) + ∑ d, (kp d : EReal) * (p d : EReal)) * (κ : EReal)) = (x : EReal) := by
  refine ⟨(∑ c, kc c * (∑ d, w c d * q d) + ∑ d, kp d * p d) * κ, ?_, ?_⟩
  · simp only [← coe_sum, ← EReal.coe_mul, ← EReal.coe_add]
    rw [EReal.coe_eq_coe_iff]
    simp only [Finset.mul_sum, Finset.sum_mul, add_mul]
    rw [Finset.sum_comm]
    refine congrArg₂ (· + ·) (Finset.sum_congr rfl fun c _ => Finset.sum_congr rfl fun d _ => by ring)
      (Finset.sum_congr rfl fun d _ => by ring)
  · simp only [← coe_sum, ← EReal.coe_mul, ← EReal.coe_add]

end Cert.Attn
-- ==== Proof.AttnBody.lean ====
module

public import proofs.«01_k».proof.Proof.Gen.KernelIdeal.Frame
public import proofs.«01_k».proof.Proof.AttnMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

/-- The score of query row `r` and key `n` at head `h`, of one block of queries and one batch's keys. -/
def scoreB (qn : FVec Ideal S256x1024 .bf16) (qp : FVec Ideal S256x512 .bf16) (keys : FVec Ideal S1x8x2560x192 .bf16)
    (r : Fin 256) (h : Fin 8) (n : Fin 2560) : EReal :=
  ∑ d : Fin 128, qn (ix2 r ⟨h.val * 128 + d.val, by omega⟩) * keys (ix4 0 h n ⟨d.val, by omega⟩)
    + ∑ d : Fin 64, qp (ix2 r ⟨h.val * 64 + d.val, by omega⟩) * keys (ix4 0 h n ⟨128 + d.val, by omega⟩)

set_option maxHeartbeats 2000000 in
/-- What the attention's body leaves in its output block: each query row's attention, head by head. -/
theorem out1_4_at (x0 : FVec Ideal S256x1024 .bf16) (x1 : FVec Ideal S256x512 .bf16) (x2 : FVec Ideal S1x8x2560x192 .bf16)
    (x3 : FVec Ideal S1x8x2560x128 .bf16) (r : Fin 256) (h : Fin 8) (e : Fin 128) (j : S256x1024.Idx)
    (hj0 : (j 0 : ℕ) = r.val) (hj1 : (j 1 : ℕ) = h.val * 128 + e.val) :
    out1_4 (F := Ideal) x0 x1 x2 x3 j = att (scoreB x0 x1 x2 r h) (fun n => x3 (ix4 0 h n e)) := by
  unfold_out out1_4
  canon_tiles x hx
  all_goals
    open_payloads
    pointwise
    refine Eq.trans (b := att _ _) rfl (att_congr (fun n => ?_) (fun n => ?_))
    · unfold scoreB; blk_point []
    · blk_ext

end Cert.KernelIdeal.Attn
-- ==== Proof.KvBody.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

set_option maxHeartbeats 2000000 in
/-- What the expansion's body leaves in the keys' block: per head the latents times that head's key weights, then the
rotary part. -/
theorem out0_4_at (x0 : FVec Ideal S1x512x256 .bf16) (x1 : FVec Ideal S1x512x64 .bf16) (x2 x3 : FVec Ideal S256x1024 .bf16)
    (y : S1x8x512x192.Idx) :
    out0_4 (F := Ideal) x0 x1 x2 x3 y = if hd : (y 3).val < 128
      then ∑ c : Fin 256, x0 (ix3 0 (y 2) c) * x2 (ix2 c ⟨(y 1).val * 128 + (y 3).val, by idx_bounds; omega⟩)
      else x1 (ix3 0 (y 2) ⟨(y 3).val - 128, by idx_bounds; omega⟩) := by
  unfold_out out0_4
  canon_tiles x hx
  all_goals
    open_payloads
    pointwise
    blk_point [] <;> (exfalso; omega)

set_option maxHeartbeats 2000000 in
/-- What the expansion's body leaves in the values' block: per head the latents times that head's value weights. -/
theorem out0_5_at (x0 : FVec Ideal S1x512x256 .bf16) (x1 : FVec Ideal S1x512x64 .bf16) (x2 x3 : FVec Ideal S256x1024 .bf16)
    (y : S1x8x512x128.Idx) :
    out0_5 (F := Ideal) x0 x1 x2 x3 y
      = ∑ c : Fin 256, x0 (ix3 0 (y 2) c) * x3 (ix2 c ⟨(y 1).val * 128 + (y 3).val, by idx_bounds; omega⟩) := by
  unfold_out out0_5
  canon_tiles x hx
  all_goals
    open_payloads
    pointwise
    blk_point []

end Cert.KernelIdeal.Attn
-- ==== Proof.AttnArr.lean ====
module

public import proofs.«01_k».proof.Proof.AttnBody
public import proofs.«01_k».proof.Proof.KvBody
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

/-- The keys of every batch, head by head: the latents times the head's key weights, then the rotary part. -/
def KEYS (kc : FVec Ideal S8x2560x256 .bf16) (kp : FVec Ideal S8x2560x64 .bf16) (wk : FVec Ideal S256x1024 .bf16) :
    FVec Ideal S8x8x2560x192 .bf16 := fun i => if hd : (i 3).val < 128
      then ∑ c : Fin 256, kc (ix3 (i 0) (i 2) c) * wk (ix2 c ⟨(i 1).val * 128 + (i 3).val, by idx_bounds; omega⟩)
      else kp (ix3 (i 0) (i 2) ⟨(i 3).val - 128, by idx_bounds; omega⟩)

/-- The values of every batch, head by head: the latents times the head's value weights. -/
def VALS (kc : FVec Ideal S8x2560x256 .bf16) (wv : FVec Ideal S256x1024 .bf16) : FVec Ideal S8x8x2560x128 .bf16 := fun i =>
  ∑ c : Fin 256, kc (ix3 (i 0) (i 2) c) * wv (ix2 c ⟨(i 1).val * 128 + (i 3).val, by idx_bounds; omega⟩)

/-- The score of query row `r` and key `n` at head `h`. -/
def score (qn : FVec Ideal S16384x1024 .bf16) (qp : FVec Ideal S16384x512 .bf16) (keys : FVec Ideal S8x8x2560x192 .bf16)
    (r : Fin 16384) (h : Fin 8) (n : Fin 2560) : EReal :=
  ∑ d : Fin 128, qn (ix2 r ⟨h.val * 128 + d.val, by omega⟩) * keys (ix4 ⟨r.val / 2048, by omega⟩ h n ⟨d.val, by omega⟩)
    + ∑ d : Fin 64, qp (ix2 r ⟨h.val * 64 + d.val, by omega⟩) * keys (ix4 ⟨r.val / 2048, by omega⟩ h n ⟨128 + d.val, by omega⟩)

/-- Every query row's attention, head by head. -/
def ATT (qn : FVec Ideal S16384x1024 .bf16) (qp : FVec Ideal S16384x512 .bf16) (keys : FVec Ideal S8x8x2560x192 .bf16)
    (vals : FVec Ideal S8x8x2560x128 .bf16) : FVec Ideal S16384x1024 .bf16 := fun i =>
  att (score qn qp keys (i 0) ⟨(i 1).val / 128, by idx_bounds; omega⟩)
    (fun n => vals (ix4 ⟨(i 0).val / 2048, by idx_bounds; omega⟩ ⟨(i 1).val / 128, by idx_bounds; omega⟩ n
      ⟨(i 1).val % 128, by omega⟩))

variable (V : (c : Dev nD) → (b : Ref sig .tc) → Buf (Elt Ideal) ((c : Thread nD τ).loc b))

/-- The expansion's windows, in closed form. -/
theorem idx0 : ∀ t : Fin cfg0.N, win0_0.index t = ![t.val / 5, t.val % 5, 0] ∧ win0_1.index t = ![t.val / 5, t.val % 5, 0]
    ∧ win0_2.index t = ![0, 0] ∧ win0_3.index t = ![0, 0] ∧ win0_4.index t = ![t.val / 5, 0, t.val % 5, 0]
    ∧ win0_5.index t = ![t.val / 5, 0, t.val % 5, 0] :=
  (by decide +kernel : ∀ t : Fin grid0.N, _)

/-- The attention's windows, in closed form. -/
theorem idx1 : ∀ t : Fin cfg1.N, win1_0.index t = ![t.val, 0] ∧ win1_1.index t = ![t.val, 0]
    ∧ win1_2.index t = ![t.val / 8, 0, 0, 0] ∧ win1_3.index t = ![t.val / 8, 0, 0, 0] ∧ win1_4.index t = ![t.val, 0] :=
  (by decide +kernel : ∀ t : Fin grid1.N, _)

/-- The keys' array after the expansion. -/
theorem keys_final (c : Dev nD) : (dat0 V c).arrAt 4 cfg0.N = KEYS (V c main_v14) (V c main_v15) (V c main_v11) := by
  refine (dat0 V c).arrAt_eq_of_covers 4 _ (by decide +kernel) fun t _ y => ?_
  blk_simp
  rw [after0_4]
  refine (out0_4_at _ _ _ _ _).trans ?_
  unfold KEYS
  have e : ((win0_4.blk t).view.emb y 3 : ℕ) = (y 3 : ℕ) := by blk_simp [idx0 t]
  blk_point [iblk0, idx0 t] <;> (exfalso; omega)

/-- The values' array after the expansion. -/
theorem vals_final (c : Dev nD) : (dat0 V c).arrAt 5 cfg0.N = VALS (V c main_v14) (V c main_v13) := by
  refine (dat0 V c).arrAt_eq_of_covers 5 _ (by decide +kernel) fun t _ y => ?_
  blk_simp
  rw [after0_5]
  refine (out0_5_at _ _ _ _ _).trans ?_
  unfold VALS
  blk_point [iblk0, idx0 t]

/-- The attention's array after its region. -/
theorem att_final (c : Dev nD) : (dat1 V c).arrAt 4 cfg1.N
    = ATT (V c main_v3) (V c main_v7) (V c main_v16_0) (V c main_v16_1) := by
  refine (dat1 V c).arrAt_eq_of_covers 4 _ (by decide +kernel) fun t _ y => ?_
  blk_simp
  rw [after1_4]
  refine (out1_4_at _ _ _ _ (y 0) ⟨(y 1).val / 128, by idx_bounds; omega⟩ ⟨(y 1).val % 128, by omega⟩ _ rfl (by
    show _ = (y 1).val / 128 * 128 + (y 1).val % 128; omega)).trans ?_
  unfold ATT
  refine att_congr (fun n => ?_) (fun n => ?_)
  · unfold scoreB score; blk_point [iblk1, idx1 t]
  · blk_point [iblk1, idx1 t]

end Cert.KernelIdeal.Attn
-- ==== Proof.AttnRun.lean ====
module

public import proofs.«01_k».proof.Proof.AttnArr
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

open Idealize.ShloMosaic.Rounds

namespace Cert.KernelIdeal.Attn

open Cert.KernelIdeal Cert.KernelIdeal.Gen Cert.Attn

variable (m : (ℓ : Loc nD τ sig) → Buf (Elt Ideal) ℓ) (ρ : Dev nD → PrngReg)

/-- What the attention program leaves in its result, over what its host operations hand the two calls. -/
def OUT (c : Dev nD) : FVec Ideal S16384x1024 .bf16 :=
  ATT (V1 m ρ c main_v3) (V1 m ρ c main_v7) (KEYS (V1 m ρ c main_v14) (V1 m ρ c main_v15) (V1 m ρ c main_v11))
    (VALS (V1 m ρ c main_v14) (V1 m ρ c main_v13))

/-- The result's buffer at the end of the run. -/
theorem W3_out (c : Dev nD) : W3 m ρ c (Proc.devRef .tc main_v17) = OUT m ρ c := by
  refine (W3_arr m ρ c 4).trans ((att_final (V2 m ρ) c).trans ?_)
  have e3 : V2 m ρ c main_v3 = V1 m ρ c main_v3 := W2_of m ρ c main_v3 (by decide)
  have e7 : V2 m ρ c main_v7 = V1 m ρ c main_v7 := W2_of m ρ c main_v7 (by decide)
  have ek : V2 m ρ c main_v16_0 = KEYS (V1 m ρ c main_v14) (V1 m ρ c main_v15) (V1 m ρ c main_v11) :=
    (W2_arr m ρ c 4).trans (keys_final (V1 m ρ) c)
  have ev : V2 m ρ c main_v16_1 = VALS (V1 m ρ c main_v14) (V1 m ρ c main_v13) :=
    (W2_arr m ρ c 5).trans (vals_final (V1 m ρ) c)
  rw [e3, e7, ek, ev]; rfl

set_option backward.isDefEq.respectTransparency.types false in
/-- The run, with its result named and the arguments unchanged. -/
theorem run : θ_run defs (onTc (τ := τ) (main (F := Ideal))) ⟨m, fun _ => 0, ρ⟩ (fun r => ∀ c : Dev nD,
      r.2.mem ((c.tc : Thread nD τ).loc main_v17) = OUT m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v17 (by decide))).trans (W3_out m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Attn
-- ==== Proof.AttnHost.lean ====
module

public import proofs.«01_k».proof.Proof.AttnRun

@[expose] public section

set_option maxRecDepth 16384

noncomputable section

open Idealize.ShloMosaic Idealize.ShloMosaic.TcCoe Idealize.ShloMosaic.Tactic Idealize.SL.Sem

namespace Cert.KernelIdeal.Attn

open Cert.KernelIdeal Cert.KernelIdeal.Gen Cert.Attn

variable (m : (ℓ : Loc nD τ sig) → Buf (Elt Ideal) ℓ) (ρ : Dev nD → PrngReg) (c : Dev nD)

/-- The queries' part without position that the host line hands the attention: reshaped, scaled. -/
theorem v3_eq : (show FVec Ideal S16384x1024 .bf16 from V1 m ρ c main_v3)
    = truncf .bf16 (mulf (shapeCast S16384x1024 (show FVec Ideal S8x2048x8x128 .f32 from m ((c.tc : Thread nD τ).loc main_arg0)) shapeCasts_S8x2048x8x128_S16384x1024)
      (broadcastInDim S16384x1024 ![] bcast_S_S16384x1024 (constant S_ .f32 0x3D93CD3A#32))) bitsLt_bf16_f32 := by
  show StableHlo.after hostOps0 (W0 m ρ c) main_v3 = _
  after_results <;> rfl

/-- The queries' rotary part that the host line hands the attention: reshaped, scaled. -/
theorem v7_eq : (show FVec Ideal S16384x512 .bf16 from V1 m ρ c main_v7)
    = truncf .bf16 (mulf (shapeCast S16384x512 (show FVec Ideal S8x2048x8x64 .f32 from m ((c.tc : Thread nD τ).loc main_arg1)) shapeCasts_S8x2048x8x64_S16384x512)
      (broadcastInDim S16384x512 ![] bcast_S_S16384x512 (constant S_ .f32 0x3D93CD3A#32))) bitsLt_bf16_f32 := by
  show StableHlo.after hostOps0 (W0 m ρ c) main_v7 = _
  after_results <;> rfl

/-- The heads' key weights that the host line hands the expansion. -/
theorem v11_eq : (show FVec Ideal S256x1024 .bf16 from V1 m ρ c main_v11)
    = shapeCast S256x1024 (extractStridedSlice S256x8x128 ![0, 0, 0] (shapeCast S256x8x256 (show FVec Ideal S256x2048 .bf16 from
      truncf .bf16 (show FVec Ideal S256x2048 .f32 from m ((c.tc : Thread nD τ).loc main_arg4)) bitsLt_bf16_f32) shapeCasts_S256x2048_S256x8x256)
      slices_S256x8x256_S256x8x128_0_0_0) shapeCasts_S256x8x128_S256x1024 := by
  show StableHlo.after hostOps0 (W0 m ρ c) main_v11 = _
  after_results <;> rfl

/-- The heads' value weights that the host line hands the expansion. -/
theorem v13_eq : (show FVec Ideal S256x1024 .bf16 from V1 m ρ c main_v13)
    = shapeCast S256x1024 (extractStridedSlice S256x8x128 ![0, 0, 128] (shapeCast S256x8x256 (show FVec Ideal S256x2048 .bf16 from
      truncf .bf16 (show FVec Ideal S256x2048 .f32 from m ((c.tc : Thread nD τ).loc main_arg4)) bitsLt_bf16_f32) shapeCasts_S256x2048_S256x8x256)
      slices_S256x8x256_S256x8x128_0_0_128) shapeCasts_S256x8x128_S256x1024 := by
  show StableHlo.after hostOps0 (W0 m ρ c) main_v13 = _
  after_results <;> rfl

/-- The latents, as the calls take them. -/
theorem v14_eq : (show FVec Ideal S8x2560x256 .bf16 from V1 m ρ c main_v14) = m ((c.tc : Thread nD τ).loc main_arg2) := by
  show StableHlo.after hostOps0 (W0 m ρ c) main_v14 = _
  after_results <;> rfl

/-- The rotary keys, as the calls take them. -/
theorem v15_eq : (show FVec Ideal S8x2560x64 .bf16 from V1 m ρ c main_v15) = m ((c.tc : Thread nD τ).loc main_arg3) := by
  show StableHlo.after hostOps0 (W0 m ρ c) main_v15 = _
  after_results <;> rfl

/-- A query's entry. -/
theorem v3_at (r : Fin 16384) (j : Fin 1024) : (show FVec Ideal S16384x1024 .bf16 from V1 m ρ c main_v3) (ix2 r j)
    = (show FVec Ideal S8x2048x8x128 .f32 from m ((c.tc : Thread nD τ).loc main_arg0)) (ix4 ⟨r.val / 2048, by omega⟩ ⟨r.val % 2048, by omega⟩ ⟨j.val / 128, by omega⟩ ⟨j.val % 128, by omega⟩)
      * Ideal.ofBits .f32 0x3D93CD3A#32 := by
  rw [v3_eq]
  generalize (show FVec Ideal S8x2048x8x128 .f32 from m ((c.tc : Thread nD τ).loc main_arg0)) = A
  pointwise

/-- A rotary query's entry. -/
theorem v7_at (r : Fin 16384) (j : Fin 512) : (show FVec Ideal S16384x512 .bf16 from V1 m ρ c main_v7) (ix2 r j)
    = (show FVec Ideal S8x2048x8x64 .f32 from m ((c.tc : Thread nD τ).loc main_arg1)) (ix4 ⟨r.val / 2048, by omega⟩ ⟨r.val % 2048, by omega⟩ ⟨j.val / 64, by omega⟩ ⟨j.val % 64, by omega⟩)
      * Ideal.ofBits .f32 0x3D93CD3A#32 := by
  rw [v7_eq]
  generalize (show FVec Ideal S8x2048x8x64 .f32 from m ((c.tc : Thread nD τ).loc main_arg1)) = A
  pointwise

/-- A key weight's entry. -/
theorem v11_at (k : Fin 256) (j : Fin 1024) : (show FVec Ideal S256x1024 .bf16 from V1 m ρ c main_v11) (ix2 k j)
    = (show FVec Ideal S256x2048 .f32 from m ((c.tc : Thread nD τ).loc main_arg4)) (ix2 k ⟨j.val / 128 * 256 + j.val % 128, by omega⟩) := by
  rw [v11_eq]
  generalize (show FVec Ideal S256x2048 .f32 from m ((c.tc : Thread nD τ).loc main_arg4)) = A
  pointwise

/-- A value weight's entry. -/
theorem v13_at (k : Fin 256) (j : Fin 1024) : (show FVec Ideal S256x1024 .bf16 from V1 m ρ c main_v13) (ix2 k j)
    = (show FVec Ideal S256x2048 .f32 from m ((c.tc : Thread nD τ).loc main_arg4)) (ix2 k ⟨j.val / 128 * 256 + (128 + j.val % 128), by omega⟩) := by
  rw [v13_eq]
  generalize (show FVec Ideal S256x2048 .f32 from m ((c.tc : Thread nD τ).loc main_arg4)) = A
  pointwise

end Cert.KernelIdeal.Attn
-- ==== Proof.AttnRef.lean ====
module

public import proofs.«01_k».proof.Proof.Gen.ReferenceIdeal.Run
public import proofs.«01_k».proof.Proof.AttnMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.Attn

/-- The reference's score of query `l` and key `n` of batch `b` at head `h`: the query expanded into the latents' space. -/
def refScore (A0 : FVec Ideal S8x2048x8x128 .f32) (A1 : FVec Ideal S8x2048x8x64 .f32) (A2 : FVec Ideal S8x2560x256 .f32)
    (A3 : FVec Ideal S8x2560x64 .f32) (A4 : FVec Ideal S256x2048 .f32) (b : Fin 8) (l : Fin 2048) (h : Fin 8) : Fin 2560 → EReal := fun n =>
  (∑ c : Fin 256, A2 (ix3 b n c) * ∑ d : Fin 128, A4 (ix2 c ⟨h.val * 256 + d.val, by omega⟩) * A0 (ix4 b l h d)
    + ∑ d : Fin 64, A3 (ix3 b n d) * A1 (ix4 b l h d)) * Ideal.ofBits .f32 0x3D93CD3A#32

/-- The reference's result, element by element: the softmax-weighted latents, expanded. -/
def REF (A0 : FVec Ideal S8x2048x8x128 .f32) (A1 : FVec Ideal S8x2048x8x64 .f32) (A2 : FVec Ideal S8x2560x256 .f32)
    (A3 : FVec Ideal S8x2560x64 .f32) (A4 : FVec Ideal S256x2048 .f32) (r : Fin 16384) (j : Fin 1024) : EReal :=
  ∑ c : Fin 256, A4 (ix2 c ⟨j.val / 128 * 256 + (128 + j.val % 128), by omega⟩)
    * ∑ n : Fin 2560, A2 (ix3 ⟨r.val / 2048, by omega⟩ n c)
      * softmax (refScore A0 A1 A2 A3 A4 ⟨r.val / 2048, by omega⟩ ⟨r.val % 2048, by omega⟩ ⟨j.val / 128, by omega⟩) n

/-- The queries expanded into the latents' space. -/
def qryT (A0 : FVec Ideal S8x2048x8x128 .f32) (A4 : FVec Ideal S256x2048 .f32) : FVec Ideal S8x2048x8x256 .f32 :=
  transpose S8x2048x8x256 [2, 3, 0, 1] (Host.dotGeneral dot_S256x8x128_S8x2048x8x128_S8x256x8x2048_2_3_0_01_1_2 none (extractStridedSlice S256x8x128 ![0, 0, 0] (shapeCast _ A4 shapeCasts_S256x2048_S256x8x256) slices_S256x8x256_S256x8x128_0_0_0) A0) transposes_S8x256x8x2048_S8x2048x8x256_2_3_0_1

/-- The scores' part over the latents. -/
def latT (Q : FVec Ideal S8x2048x8x256 .f32) (A2 : FVec Ideal S8x2560x256 .f32) : FVec Ideal S8x8x2048x2560 .f32 :=
  transpose S8x8x2048x2560 [0, 3, 2, 1] (Host.dotGeneral dot_S8x2560x256_S8x2048x8x256_S8x2560x2048x8_2_3_1_12_0_0 none A2 Q) transposes_S8x2560x2048x8_S8x8x2048x2560_0_3_2_1

/-- The scores' part over the rotary keys. -/
def rotT (A1 : FVec Ideal S8x2048x8x64 .f32) (A3 : FVec Ideal S8x2560x64 .f32) : FVec Ideal S8x8x2048x2560 .f32 :=
  transpose S8x8x2048x2560 [0, 3, 2, 1] (Host.dotGeneral dot_S8x2560x64_S8x2048x8x64_S8x2560x2048x8_2_3_1_12_0_0 none A3 A1) transposes_S8x2560x2048x8_S8x8x2048x2560_0_3_2_1

/-- The reference's scores as an array. -/
def scoreT (A0 : FVec Ideal S8x2048x8x128 .f32) (A1 : FVec Ideal S8x2048x8x64 .f32) (A2 : FVec Ideal S8x2560x256 .f32)
    (A3 : FVec Ideal S8x2560x64 .f32) (A4 : FVec Ideal S256x2048 .f32) : FVec Ideal S8x8x2048x2560 .f32 :=
  mulf (addf (latT (qryT A0 A4) A2) (rotT A1 A3)) (broadcastInDim S8x8x2048x2560 ![] bcast_S_S8x8x2048x2560 (constant S_ .f32 0x3D93CD3A#32))

/-- Each row's maximum. -/
def maxT (T : FVec Ideal S8x8x2048x2560 .f32) : FVec Ideal S8x8x2048 .f32 :=
  Host.reduce FloatOps.maximumf T (constant S_ .f32 0xFF800000#32) reducesTo_S8x8x2048x2560_S8x8x2048_d3 h_S_

/-- A value of each row, at each of the row's entries. -/
def rowT (M : FVec Ideal S8x8x2048 .f32) : FVec Ideal S8x8x2048x2560 .f32 :=
  broadcastInDim S8x8x2048x2560 ![0, 1, 2, 3] bcast_S8x8x2048x1_S8x8x2048x2560_0_1_2_3 (broadcastInDim S8x8x2048x1 ![0, 1, 2] bcast_S8x8x2048_S8x8x2048x1_0_1_2 M)

/-- Each row's maximum, at least minus infinity. -/
def topT (T : FVec Ideal S8x8x2048x2560 .f32) : FVec Ideal S8x8x2048 .f32 :=
  maximumf (broadcastInDim S8x8x2048 ![] bcast_S_S8x8x2048 (constant S_ .f32 0xFF800000#32)) (maxT T)

/-- The exponentials of the scores less their row's maximum. -/
def expT (T : FVec Ideal S8x8x2048x2560 .f32) : FVec Ideal S8x8x2048x2560 .f32 :=
  Host.exp (subf T (rowT (topT T)))

/-- The exponentials over their row's sum. -/
def probT (E : FVec Ideal S8x8x2048x2560 .f32) : FVec Ideal S8x8x2048x2560 .f32 :=
  Host.divf E (broadcastInDim S8x8x2048x2560 ![0, 1, 2, 3] bcast_S8x8x2048x1_S8x8x2048x2560_0_1_2_3 (broadcastInDim S8x8x2048x1 ![0, 1, 2] bcast_S8x8x2048_S8x8x2048x1_0_1_2 (Host.reduceAdd E (constant S_ .f32 0x00000000#32) reducesTo_S8x8x2048x2560_S8x8x2048_d3 h_S_)))

/-- The probabilities times the latents, expanded and laid out by token. -/
def tailT (P : FVec Ideal S8x8x2048x2560 .f32) (A2 : FVec Ideal S8x2560x256 .f32) (A4 : FVec Ideal S256x2048 .f32) : FVec Ideal S16384x1024 .bf16 :=
  truncf .bf16 (shapeCast _ (transpose S8x2048x8x128 [2, 3, 0, 1] (Host.dotGeneral dot_S256x8x128_S8x2048x8x256_S8x128x8x2048_0_3_2_01_1_2 none (extractStridedSlice S256x8x128 ![0, 0, 128] (shapeCast _ A4 shapeCasts_S256x2048_S256x8x256) slices_S256x8x256_S256x8x128_0_0_128) (transpose S8x2048x8x256 [0, 3, 2, 1] (Host.dotGeneral dot_S8x2560x256_S8x8x2048x2560_S8x256x8x2048_1_3_2_12_0_0 none A2 P) transposes_S8x256x8x2048_S8x2048x8x256_0_3_2_1)) transposes_S8x128x8x2048_S8x2048x8x128_2_3_0_1) shapeCasts_S8x2048x8x128_S16384x1024) bitsLt_bf16_f32

variable (A0 : FVec Ideal S8x2048x8x128 .f32) (A1 : FVec Ideal S8x2048x8x64 .f32) (A2 : FVec Ideal S8x2560x256 .f32)
  (A3 : FVec Ideal S8x2560x64 .f32) (A4 : FVec Ideal S256x2048 .f32)

/-- An expanded query, at an index. -/
theorem qryT_at (b : Fin 8) (l : Fin 2048) (h : Fin 8) (c : Fin 256) :
    qryT A0 A4 (ix4 b l h c) = ∑ d : Fin 128, A4 (ix2 c ⟨h.val * 256 + d.val, by omega⟩) * A0 (ix4 b l h d) := by
  pointwise [qryT]

/-- The scores' part over the latents, at an index. -/
theorem latT_at (Q : FVec Ideal S8x2048x8x256 .f32) (b : Fin 8) (l : Fin 2048) (h : Fin 8) (n : Fin 2560) :
    latT Q A2 (ix4 b h l n) = ∑ c : Fin 256, A2 (ix3 b n c) * Q (ix4 b l h c) := by
  pointwise [latT]

/-- The scores' part over the rotary keys, at an index. -/
theorem rotT_at (b : Fin 8) (l : Fin 2048) (h : Fin 8) (n : Fin 2560) :
    rotT A1 A3 (ix4 b h l n) = ∑ d : Fin 64, A3 (ix3 b n d) * A1 (ix4 b l h d) := by
  pointwise [rotT]

/-- A score, at an index. -/
theorem scoreT_at (b : Fin 8) (l : Fin 2048) (h : Fin 8) (n : Fin 2560) :
    scoreT A0 A1 A2 A3 A4 (ix4 b h l n) = refScore A0 A1 A2 A3 A4 b l h n := by
  show (latT (qryT A0 A4) A2 (ix4 b h l n) + rotT A1 A3 (ix4 b h l n)) * Ideal.ofBits .f32 0x3D93CD3A#32 = _
  simp only [latT_at, qryT_at, rotT_at]
  rfl

/-- A maximum over the last of four axes, at an index. -/
theorem reduce_max {n0 n1 n2 n3 : ℕ} {u : Shape} (T : (⟨4, ![n0, n1, n2, n3]⟩ : Shape).Idx → Ideal .f32) (init : u.Idx → Ideal .f32)
    (hr : (⟨4, ![n0, n1, n2, n3]⟩ : Shape).ReducesTo [3] ⟨3, ![n0, n1, n2]⟩) (hu : 0 < u.numel) (b : Fin n0) (h : Fin n1) (l : Fin n2) :
    Host.reduce (FloatOps.maximumf (F := Ideal) (φ := .f32)) T init hr hu (ix3 b h l)
      = (Finset.univ : Finset (Fin n3)).fold max (init (Shape.Idx.first hu)) fun k => T (ix4 b h l k) := by
  rw [Host.reduce_eq_fold, hr.fold_fiber_r4_a3]; rfl

/-- A row's maximum, at an index. -/
theorem maxT_at (T : FVec Ideal S8x8x2048x2560 .f32) (b h : Fin 8) (l : Fin 2048) :
    maxT T (ix3 b h l) = (Finset.univ : Finset (Fin 2560)).fold max (Ideal.ofBits .f32 0xFF800000#32) fun k => T (ix4 b h l k) :=
  reduce_max T _ _ _ b h l

/-- A row's value at an entry of the row. -/
theorem rowT_at (M : FVec Ideal S8x8x2048 .f32) (b h : Fin 8) (l : Fin 2048) (n : Fin 2560) : rowT M (ix4 b h l n) = M (ix3 b h l) := by
  pointwise [rowT]

/-- A maximum of two arrays, at an index. -/
theorem max_at {s : Shape} (x y : FVec Ideal s .f32) (i : s.Idx) : maximumf x y i = max (x i) (y i) := rfl

/-- A row's maximum with minus infinity, at an index. -/
theorem topT_at (T : FVec Ideal S8x8x2048x2560 .f32) (b h : Fin 8) (l : Fin 2048) :
    topT T (ix3 b h l) = max (Ideal.ofBits .f32 0xFF800000#32) (maxT T (ix3 b h l)) :=
  max_at _ (maxT T) _

/-- An exponential, at an index. -/
theorem expT_at (T : FVec Ideal S8x8x2048x2560 .f32) (b h : Fin 8) (l : Fin 2048) (n : Fin 2560) :
    expT T (ix4 b h l n) = Ideal.exp (T (ix4 b h l n) - max (Ideal.ofBits .f32 0xFF800000#32)
      ((Finset.univ : Finset (Fin 2560)).fold max (Ideal.ofBits .f32 0xFF800000#32) fun k => T (ix4 b h l k))) := by
  have e : expT T (ix4 b h l n) = Ideal.exp (T (ix4 b h l n) - topT T (ix3 b h l)) := by
    rw [← rowT_at (topT T) b h l n]; rfl
  rw [e, topT_at, maxT_at]

/-- A probability, at an index. -/
theorem probT_at (E : FVec Ideal S8x8x2048x2560 .f32) (b h : Fin 8) (l : Fin 2048) (n : Fin 2560) :
    probT E (ix4 b h l n) = Ideal.div (E (ix4 b h l n)) (∑ k : Fin 2560, E (ix4 b h l k)) := by
  pointwise [probT]

/-- The result from the probabilities, at an index. -/
theorem tailT_at (P : FVec Ideal S8x8x2048x2560 .f32) (r : Fin 16384) (j : Fin 1024) :
    tailT P A2 A4 (ix2 r j) = ∑ c : Fin 256, A4 (ix2 c ⟨j.val / 128 * 256 + (128 + j.val % 128), by omega⟩)
      * ∑ n : Fin 2560, A2 (ix3 ⟨r.val / 2048, by omega⟩ n c)
        * P (ix4 ⟨r.val / 2048, by omega⟩ ⟨j.val / 128, by omega⟩ ⟨r.val % 2048, by omega⟩ n) := by
  pointwise [tailT]

/-- The stages composed, at an index. -/
theorem all_at (r : Fin 16384) (j : Fin 1024) :
    tailT (probT (expT (scoreT A0 A1 A2 A3 A4))) A2 A4 (ix2 r j) = REF A0 A1 A2 A3 A4 r j := by
  simp only [tailT_at, probT_at, expT_at, scoreT_at]
  rfl

/-- The reference program's result is the stages composed. -/
theorem res_eq (m : (ℓ : Loc nD τ sig) → Buf (Elt Ideal) ℓ) (c : Dev nD) :
    Value.res_main_v28 (F := Ideal) m c = tailT (probT (expT (scoreT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))))
      (m ((c.tc : Thread nD τ).loc main_arg2)) (m ((c.tc : Thread nD τ).loc main_arg4)) := by
  unfold Value.res_main_v28 tailT probT expT rowT topT maxT scoreT latT qryT rotT
  rfl

end Cert.ReferenceIdeal.Attn
-- ==== Proof.AttnPre.lean ====
module

public import proofs.«01_k».proof.Pre_finite
public import proofs.«01_k».proof.Defs
public import Idealize.ShloMosaic.Lib.ReduceAll
public import Idealize.ShloMosaic.Lib.Pipeline.ValueKit
public import Idealize.ShloMosaic.Lib.Pointwise

@[expose] public section

set_option maxRecDepth 16384

noncomputable section

open Idealize.ShloMosaic

namespace Cert.Pre_finite

/-- The side conditions that the precondition states. -/
theorem facts : Cert.Pre_finite.Facts where
  bcast_S_S8x2048x8x128 := by decide
  reducesTo_S8x2048x8x128_S_d0_1_2_3 := by decide
  h_S_ := by decide
  bcast_S_S8x2048x8x64 := by decide
  reducesTo_S8x2048x8x64_S_d0_1_2_3 := by decide
  bcast_S_S8x2560x256 := by decide
  reducesTo_S8x2560x256_S_d0_1_2 := by decide
  bcast_S_S8x2560x64 := by decide
  reducesTo_S8x2560x64_S_d0_1_2 := by decide
  bcast_S_S256x2048 := by decide
  reducesTo_S256x2048_S_d0_1 := by decide

/-- An extended real whose absolute value is less than infinity is a real. -/
theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  have h' : max x (-x) < ⊤ := by
    by_contra hn
    simp [Ideal.cmp, hn] at h
  induction x using EReal.rec with
  | bot => simp at h'
  | top => simp at h'
  | coe r => exact ⟨r, rfl⟩

/-- An array of which all absolute values are less than infinity is an array of reals. -/
theorem real_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32))) (constantI S_ 1 1#1) hr hu
      ix0 = 1#1) : ∃ a : s.Idx → ℝ, ∀ i, x i = (a i : EReal) := by
  haveI : Subsingleton S_.Idx := ⟨fun a b => funext fun i => i.elim0⟩
  exact ⟨_, fun i => (real_of_lt (x i) (Host.reduce_andi_all _ _ _ _ _ e i)).choose_spec⟩

/-- The precondition says that the five arrays are arrays of reals. -/
theorem reals [Cert.Pre_finite.Facts] (A0 : FVec Ideal S8x2048x8x128 .f32) (A1 : FVec Ideal S8x2048x8x64 .f32) (A2 : FVec Ideal S8x2560x256 .f32)
    (A3 : FVec Ideal S8x2560x64 .f32) (A4 : FVec Ideal S256x2048 .f32) (h : fn (F := Ideal) A0 A1 A2 A3 A4 = fun _ => 1#1) :
    (∃ a : S8x2048x8x128.Idx → ℝ, ∀ i, A0 i = (a i : EReal)) ∧ (∃ a : S8x2048x8x64.Idx → ℝ, ∀ i, A1 i = (a i : EReal))
      ∧ (∃ a : S8x2560x256.Idx → ℝ, ∀ i, A2 i = (a i : EReal)) ∧ (∃ a : S8x2560x64.Idx → ℝ, ∀ i, A3 i = (a i : EReal))
      ∧ (∃ a : S256x2048.Idx → ℝ, ∀ i, A4 i = (a i : EReal)) := by
  have h' := congrFun h ix0
  dsimp only [fn, fn_part1] at h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  exact ⟨real_of_all A0 _ _ _ h0, real_of_all A1 _ _ _ h1, real_of_all A2 _ _ _ h2, real_of_all A3 _ _ _ h3, real_of_all A4 _ _ _ h4⟩

end Cert.Pre_finite
-- ==== Proof.AttnEq.lean ====
module

public import proofs.«01_k».proof.Proof.AttnHost
public import proofs.«01_k».proof.Proof.AttnRef
public import proofs.«01_k».proof.Proof.AttnPre

@[expose] public section

set_option maxRecDepth 16384

noncomputable section

open Idealize.ShloMosaic Idealize.ShloMosaic.TcCoe Idealize.ShloMosaic.Tactic Idealize.SL.Sem

namespace Cert.KernelIdeal.Attn

open Cert.KernelIdeal Cert.KernelIdeal.Gen Cert.Attn

/-- The scale's pattern is a real. -/
theorem scale_real : ∃ κ : ℝ, Ideal.ofBits .f32 0x3D93CD3A#32 = (κ : EReal) :=
  ⟨_, by simp [Ideal.ofBits, Ideal.ieee, -EReal.coe_mul]; rfl⟩

variable (A0 : FVec Ideal S8x2048x8x128 .f32) (A1 : FVec Ideal S8x2048x8x64 .f32) (A2 : FVec Ideal S8x2560x256 .f32)
  (A3 : FVec Ideal S8x2560x64 .f32) (A4 : FVec Ideal S256x2048 .f32)
  (qn : FVec Ideal S16384x1024 .bf16) (qp : FVec Ideal S16384x512 .bf16) (wk wv : FVec Ideal S256x1024 .bf16)

/-- On arrays of reals the kernel's score of a query and a key and the reference's are one real. -/
theorem score_eq (h0 : ∃ a : S8x2048x8x128.Idx → ℝ, ∀ i, A0 i = (a i : EReal)) (h1 : ∃ a : S8x2048x8x64.Idx → ℝ, ∀ i, A1 i = (a i : EReal))
    (h2 : ∃ a : S8x2560x256.Idx → ℝ, ∀ i, A2 i = (a i : EReal)) (h3 : ∃ a : S8x2560x64.Idx → ℝ, ∀ i, A3 i = (a i : EReal))
    (h4 : ∃ a : S256x2048.Idx → ℝ, ∀ i, A4 i = (a i : EReal))
    (hqn : ∀ (r : Fin 16384) (j : Fin 1024), qn (ix2 r j)
      = A0 (ix4 ⟨r.val / 2048, by omega⟩ ⟨r.val % 2048, by omega⟩ ⟨j.val / 128, by omega⟩ ⟨j.val % 128, by omega⟩) * Ideal.ofBits .f32 0x3D93CD3A#32)
    (hqp : ∀ (r : Fin 16384) (j : Fin 512), qp (ix2 r j)
      = A1 (ix4 ⟨r.val / 2048, by omega⟩ ⟨r.val % 2048, by omega⟩ ⟨j.val / 64, by omega⟩ ⟨j.val % 64, by omega⟩) * Ideal.ofBits .f32 0x3D93CD3A#32)
    (hwk : ∀ (k : Fin 256) (j : Fin 1024), wk (ix2 k j) = A4 (ix2 k ⟨j.val / 128 * 256 + j.val % 128, by omega⟩))
    (r : Fin 16384) (h : Fin 8) (n : Fin 2560) :
    ∃ x : ℝ, score qn qp (KEYS A2 A3 wk) r h n = (x : EReal)
      ∧ ReferenceIdeal.Attn.refScore A0 A1 A2 A3 A4 ⟨r.val / 2048, by omega⟩ ⟨r.val % 2048, by omega⟩ h n = (x : EReal) := by
  obtain ⟨a0, h0⟩ := h0; obtain ⟨a1, h1⟩ := h1; obtain ⟨a2, h2⟩ := h2; obtain ⟨a3, h3⟩ := h3; obtain ⟨a4, h4⟩ := h4
  obtain ⟨κ, hκ⟩ := scale_real
  obtain ⟨x, e1, e2⟩ := score_absorbed
    (fun d : Fin 128 => a0 (ix4 (⟨r.val / 2048, by omega⟩ : Fin 8) (⟨r.val % 2048, by omega⟩ : Fin 2048) h d))
    (fun d : Fin 64 => a1 (ix4 (⟨r.val / 2048, by omega⟩ : Fin 8) (⟨r.val % 2048, by omega⟩ : Fin 2048) h d))
    (fun d : Fin 64 => a3 (ix3 (⟨r.val / 2048, by omega⟩ : Fin 8) n d))
    (fun k : Fin 256 => a2 (ix3 (⟨r.val / 2048, by omega⟩ : Fin 8) n k))
    (fun k (d : Fin 128) => a4 (ix2 k (⟨h.val * 256 + d.val, by omega⟩ : Fin 2048))) κ
  refine ⟨x, Eq.trans ?_ e1, Eq.trans ?_ e2⟩
  · unfold score
    refine congrArg₂ (· + ·) (Finset.sum_congr rfl fun d _ => congrArg₂ (· * ·) ?_ ?_) (Finset.sum_congr rfl fun d _ => congrArg₂ (· * ·) ?_ ?_)
    · refine (hqn r _).trans ?_
      rw [hκ, h0]
      exact congrArg (fun x => (a0 x : EReal) * (κ : EReal)) (congrArg₂ (fun i j => ix4 _ _ i j)
        (Fin.ext (show (h.val * 128 + d.val) / 128 = h.val by omega)) (Fin.ext (show (h.val * 128 + d.val) % 128 = d.val by omega)))
    · refine (dif_pos (show d.val < 128 from d.isLt)).trans ?_
      refine Finset.sum_congr rfl fun k _ => congrArg₂ (· * ·) (h2 _) ((hwk k _).trans ((h4 _).trans ?_))
      exact congrArg (fun x => (a4 x : EReal)) (congrArg (fun j => ix2 k j) (Fin.ext
        (show (h.val * 128 + d.val) / 128 * 256 + (h.val * 128 + d.val) % 128 = h.val * 256 + d.val by omega)))
    · refine (hqp r _).trans ?_
      rw [hκ, h1]
      exact congrArg (fun x => (a1 x : EReal) * (κ : EReal)) (congrArg₂ (fun i j => ix4 _ _ i j)
        (Fin.ext (show (h.val * 64 + d.val) / 64 = h.val by omega)) (Fin.ext (show (h.val * 64 + d.val) % 64 = d.val by omega)))
    · refine (dif_neg (show ¬ 128 + d.val < 128 by omega)).trans ((h3 _).trans ?_)
      exact congrArg (fun x => (a3 x : EReal)) (congrArg (fun j => ix3 _ _ j) (Fin.ext (show 128 + d.val - 128 = d.val by omega)))
  · unfold ReferenceIdeal.Attn.refScore
    simp only [h0, h1, h2, h3, h4, hκ]

/-- On arrays of reals the kernel's result is the reference's. -/
theorem att_eq (h0 : ∃ a : S8x2048x8x128.Idx → ℝ, ∀ i, A0 i = (a i : EReal)) (h1 : ∃ a : S8x2048x8x64.Idx → ℝ, ∀ i, A1 i = (a i : EReal))
    (h2 : ∃ a : S8x2560x256.Idx → ℝ, ∀ i, A2 i = (a i : EReal)) (h3 : ∃ a : S8x2560x64.Idx → ℝ, ∀ i, A3 i = (a i : EReal))
    (h4 : ∃ a : S256x2048.Idx → ℝ, ∀ i, A4 i = (a i : EReal))
    (hqn : ∀ (r : Fin 16384) (j : Fin 1024), qn (ix2 r j)
      = A0 (ix4 ⟨r.val / 2048, by omega⟩ ⟨r.val % 2048, by omega⟩ ⟨j.val / 128, by omega⟩ ⟨j.val % 128, by omega⟩) * Ideal.ofBits .f32 0x3D93CD3A#32)
    (hqp : ∀ (r : Fin 16384) (j : Fin 512), qp (ix2 r j)
      = A1 (ix4 ⟨r.val / 2048, by omega⟩ ⟨r.val % 2048, by omega⟩ ⟨j.val / 64, by omega⟩ ⟨j.val % 64, by omega⟩) * Ideal.ofBits .f32 0x3D93CD3A#32)
    (hwk : ∀ (k : Fin 256) (j : Fin 1024), wk (ix2 k j) = A4 (ix2 k ⟨j.val / 128 * 256 + j.val % 128, by omega⟩))
    (hwv : ∀ (k : Fin 256) (j : Fin 1024), wv (ix2 k j) = A4 (ix2 k ⟨j.val / 128 * 256 + (128 + j.val % 128), by omega⟩))
    (r : Fin 16384) (j : Fin 1024) :
    ATT qn qp (KEYS A2 A3 wk) (VALS A2 wv) (ix2 r j) = ReferenceIdeal.Attn.REF A0 A1 A2 A3 A4 r j := by
  choose s hs hs' using fun n => score_eq A0 A1 A2 A3 A4 qn qp wk h0 h1 h2 h3 h4 hqn hqp hwk r ⟨j.val / 128, by omega⟩ n
  obtain ⟨a2, h2⟩ := h2; obtain ⟨a4, h4⟩ := h4
  have e := att_absorbed (n := 2560) (C := 256) (by omega) s (fun n k => a2 (ix3 (⟨r.val / 2048, by omega⟩ : Fin 8) n k))
    (fun k => a4 (ix2 k (⟨j.val / 128 * 256 + (128 + j.val % 128), by omega⟩ : Fin 2048)))
  refine Eq.trans ?_ (e.trans ?_)
  · refine att_congr hs fun n => ?_
    refine Finset.sum_congr rfl fun k _ => congrArg₂ (· * ·) (h2 _) ((hwv k _).trans ((h4 _).trans ?_))
    exact congrArg (fun x => (a4 x : EReal)) (congrArg (fun j => ix2 k j) (Fin.ext (show (j.val / 128 * 128 + j.val % 128) / 128 * 256
      + (128 + (j.val / 128 * 128 + j.val % 128) % 128) = j.val / 128 * 256 + (128 + j.val % 128) by omega)))
  · unfold ReferenceIdeal.Attn.REF
    rw [show ReferenceIdeal.Attn.refScore A0 A1 A2 A3 A4 ⟨r.val / 2048, by omega⟩ ⟨r.val % 2048, by omega⟩ ⟨j.val / 128, by omega⟩
      = fun n => (s n : EReal) from funext hs']
    simp only [h2, h4]

/-- The two programs' results are equal where the arguments are the same arrays of reals. -/
theorem out_eq [Cert.Pre_finite.Facts] (m : (ℓ : Loc nD τ sig) → Buf (Elt Ideal) ℓ) (ρ : Dev nD → PrngReg)
    (m' : (ℓ : Loc ReferenceIdeal.nD ReferenceIdeal.τ ReferenceIdeal.sig) → Buf (Elt Ideal) ℓ) (c : Dev nD)
    (hpre : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (g0 : m' ((c.tc : Thread ReferenceIdeal.nD ReferenceIdeal.τ).loc ReferenceIdeal.main_arg0) = m ((c.tc : Thread nD τ).loc main_arg0))
    (g1 : m' ((c.tc : Thread ReferenceIdeal.nD ReferenceIdeal.τ).loc ReferenceIdeal.main_arg1) = m ((c.tc : Thread nD τ).loc main_arg1))
    (g2 : m' ((c.tc : Thread ReferenceIdeal.nD ReferenceIdeal.τ).loc ReferenceIdeal.main_arg2) = m ((c.tc : Thread nD τ).loc main_arg2))
    (g3 : m' ((c.tc : Thread ReferenceIdeal.nD ReferenceIdeal.τ).loc ReferenceIdeal.main_arg3) = m ((c.tc : Thread nD τ).loc main_arg3))
    (g4 : m' ((c.tc : Thread ReferenceIdeal.nD ReferenceIdeal.τ).loc ReferenceIdeal.main_arg4) = m ((c.tc : Thread nD τ).loc main_arg4)) :
    ReferenceIdeal.Value.res_main_v28 (F := Ideal) m' c = OUT m ρ c := by
  obtain ⟨h0, h1, h2, h3, h4⟩ := Cert.Pre_finite.reals _ _ _ _ _ hpre
  rw [ReferenceIdeal.Attn.res_eq, g0, g1, g2, g3, g4]
  funext i
  idx_vars i
  refine (ReferenceIdeal.Attn.all_at _ _ _ _ _ _ _).trans (Eq.symm ?_)
  unfold OUT
  rw [show V1 m ρ c main_v14 = _ from v14_eq m ρ c, show V1 m ρ c main_v15 = _ from v15_eq m ρ c]
  exact att_eq _ _ _ _ _ _ _ _ _ h0 h1 h2 h3 h4 (v3_at m ρ c) (v7_at m ρ c) (v11_at m ρ c) (v13_at m ρ c) _ _

end Cert.KernelIdeal.Attn
-- ==== Proof.MergeArr.lean ====
module

public import proofs.«01_k».proof.Proof.Gen.MergeIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Merge

open Cert.MergeIdeal Cert.MergeIdeal.Gen

/-- A gated branch: the logistic function of the gate's sum, times the branch's sum. -/
def gated (g y : EReal) : EReal := (FloatOps.logistic (F := Ideal) (φ := .f32) g) * y

set_option maxHeartbeats 2000000 in
/-- What the merge's body leaves in its block: the sum of the three gated branches. -/
theorem out0_6_at (x0 : FVec Ideal S1024x2048 .bf16) (x1 x2 x3 : FVec Ideal S1024x1024 .bf16) (x4 : FVec Ideal S3x2048x512 .bf16)
    (x5 : FVec Ideal S3x1024x512 .bf16) (y : S1024x512.Idx) :
    out0_6 (F := Ideal) x0 x1 x2 x3 x4 x5 y
      = gated (∑ k : Fin 2048, x0 (ix2 (y 0) k) * x4 (ix3 0 k (y 1))) (∑ k : Fin 1024, x1 (ix2 (y 0) k) * x5 (ix3 0 k (y 1)))
        + gated (∑ k : Fin 2048, x0 (ix2 (y 0) k) * x4 (ix3 1 k (y 1))) (∑ k : Fin 1024, x2 (ix2 (y 0) k) * x5 (ix3 1 k (y 1)))
        + gated (∑ k : Fin 2048, x0 (ix2 (y 0) k) * x4 (ix3 2 k (y 1))) (∑ k : Fin 1024, x3 (ix2 (y 0) k) * x5 (ix3 2 k (y 1))) := by
  unfold out0_6
  canon_tiles x hx
  all_goals
    open_payloads
    pointwise [gated]
    blk_point []

/-- The merge of row `r` at column `j`. -/
def mergeAt (h : FVec Ideal S16384x2048 .bf16) (ya yb yc : FVec Ideal S16384x1024 .bf16) (wg : FVec Ideal S3x2048x2048 .bf16)
    (wb : FVec Ideal S3x1024x2048 .bf16) (r : Fin 16384) (j : Fin 2048) : EReal :=
  gated (∑ k : Fin 2048, h (ix2 r k) * wg (ix3 0 k j)) (∑ k : Fin 1024, ya (ix2 r k) * wb (ix3 0 k j))
    + gated (∑ k : Fin 2048, h (ix2 r k) * wg (ix3 1 k j)) (∑ k : Fin 1024, yb (ix2 r k) * wb (ix3 1 k j))
    + gated (∑ k : Fin 2048, h (ix2 r k) * wg (ix3 2 k j)) (∑ k : Fin 1024, yc (ix2 r k) * wb (ix3 2 k j))

/-- The merge of all rows. -/
def MERGE (h : FVec Ideal S16384x2048 .bf16) (ya yb yc : FVec Ideal S16384x1024 .bf16) (wg : FVec Ideal S3x2048x2048 .bf16)
    (wb : FVec Ideal S3x1024x2048 .bf16) : FVec Ideal S16384x2048 .bf16 := fun i => mergeAt h ya yb yc wg wb (i 0) (i 1)

variable (m : (ℓ : Loc nD τ sig) → Buf (Elt Ideal) ℓ) (c : Dev nD)

/-- The merge's windows, in closed form. -/
theorem idx0 : ∀ t : Fin cfg0.N, win0_0.index t = ![t.val / 4, 0] ∧ win0_1.index t = ![t.val / 4, 0]
    ∧ win0_2.index t = ![t.val / 4, 0] ∧ win0_3.index t = ![t.val / 4, 0] ∧ win0_4.index t = ![0, 0, t.val % 4]
    ∧ win0_5.index t = ![0, 0, t.val % 4] ∧ win0_6.index t = ![t.val / 4, t.val % 4] :=
  (by decide +kernel : ∀ t : Fin grid0.N, _)

/-- The merge's array after its region. -/
theorem merge_final : (dats m 0 c).arrAt 6 cfg0.N = MERGE (V m c main_v20) (V m c main_v14) (V m c main_v16) (V m c main_v18)
    (V m c main_v7) (V m c main_v12) := by
  refine (dats m 0 c).arrAt_eq_of_covers 6 _ (by decide +kernel) fun t _ y => ?_
  blk_simp
  rw [after0_6]
  refine (out0_6_at _ _ _ _ _ _ _).trans ?_
  unfold MERGE mergeAt
  blk_point [iblk, idx0 t]

end Cert.MergeIdeal.Merge

end
-- ==== Proof.MergeEq.lean ====
module

public import proofs.«01_k».proof.Proof.MergeArr
public import proofs.«01_k».proof.Proof.Gen.MergeRefIdeal.Run
public import proofs.«01_k».proof.Defs

@[expose] public section

set_option maxRecDepth 16384

noncomputable section

open Idealize.ShloMosaic Idealize.ShloMosaic.TcCoe Idealize.ShloMosaic.Tactic Idealize.SL.Sem

namespace Cert.MergeIdeal.Merge

open Cert.MergeIdeal Cert.MergeIdeal.Gen

/-- The three gates' weights, one above the other. -/
def gatesT (W : FVec Ideal S2048x13120 .f32) : FVec Ideal S3x2048x2048 .bf16 :=
  concatenate S3x2048x2048 0 [⟨S1x2048x2048, broadcastInDim S1x2048x2048 ![1, 2] bcast_S2048x2048_S1x2048x2048_1_2 (extractStridedSlice S2048x2048 ![0, 6976] (show FVec Ideal S2048x13120 .bf16 from truncf .bf16 W bitsLt_bf16_f32) slices_S2048x13120_S2048x2048_0_6976)⟩,
    ⟨S1x2048x2048, broadcastInDim S1x2048x2048 ![1, 2] bcast_S2048x2048_S1x2048x2048_1_2 (extractStridedSlice S2048x2048 ![0, 9024] (show FVec Ideal S2048x13120 .bf16 from truncf .bf16 W bitsLt_bf16_f32) slices_S2048x13120_S2048x2048_0_9024)⟩,
    ⟨S1x2048x2048, broadcastInDim S1x2048x2048 ![1, 2] bcast_S2048x2048_S1x2048x2048_1_2 (extractStridedSlice S2048x2048 ![0, 11072] (show FVec Ideal S2048x13120 .bf16 from truncf .bf16 W bitsLt_bf16_f32) slices_S2048x13120_S2048x2048_0_11072)⟩] concatenates_S1x2048x2048_S1x2048x2048_S1x2048x2048_S3x2048x2048_d0

/-- The three branches' weights, one above the other. -/
def branchesT (A B C : FVec Ideal S1024x2048 .f32) : FVec Ideal S3x1024x2048 .bf16 :=
  truncf .bf16 (concatenate S3x1024x2048 0 [⟨S1x1024x2048, broadcastInDim S1x1024x2048 ![1, 2] bcast_S1024x2048_S1x1024x2048_1_2 A⟩,
    ⟨S1x1024x2048, broadcastInDim S1x1024x2048 ![1, 2] bcast_S1024x2048_S1x1024x2048_1_2 B⟩,
    ⟨S1x1024x2048, broadcastInDim S1x1024x2048 ![1, 2] bcast_S1024x2048_S1x1024x2048_1_2 C⟩] concatenates_S1x1024x2048_S1x1024x2048_S1x1024x2048_S3x1024x2048_d0) bitsLt_bf16_f32

/-- A branch's rows. -/
def rowsT (y : FVec Ideal S8x2048x1024 .f32) : FVec Ideal S16384x1024 .bf16 :=
  truncf .bf16 (shapeCast S16384x1024 y shapeCasts_S8x2048x1024_S16384x1024) bitsLt_bf16_f32

/-- The layer input's rows. -/
def inT (y : FVec Ideal S8x2048x2048 .f32) : FVec Ideal S16384x2048 .bf16 :=
  truncf .bf16 (shapeCast S16384x2048 y shapeCasts_S8x2048x2048_S16384x2048) bitsLt_bf16_f32

/-- A weight of the first gate. -/
theorem gatesT_0 (W : FVec Ideal S2048x13120 .f32) (k j : Fin 2048) : gatesT W (ix3 0 k j) = W (ix2 k ⟨6976 + j.val, by omega⟩) := by
  pointwise [gatesT]

/-- A weight of the second gate. -/
theorem gatesT_1 (W : FVec Ideal S2048x13120 .f32) (k j : Fin 2048) : gatesT W (ix3 1 k j) = W (ix2 k ⟨9024 + j.val, by omega⟩) := by
  pointwise [gatesT]

/-- A weight of the third gate. -/
theorem gatesT_2 (W : FVec Ideal S2048x13120 .f32) (k j : Fin 2048) : gatesT W (ix3 2 k j) = W (ix2 k ⟨11072 + j.val, by omega⟩) := by
  pointwise [gatesT]

/-- A weight of the first branch. -/
theorem branchesT_0 (A B C : FVec Ideal S1024x2048 .f32) (k : Fin 1024) (j : Fin 2048) : branchesT A B C (ix3 0 k j) = A (ix2 k j) := by
  pointwise [branchesT]

/-- A weight of the second branch. -/
theorem branchesT_1 (A B C : FVec Ideal S1024x2048 .f32) (k : Fin 1024) (j : Fin 2048) : branchesT A B C (ix3 1 k j) = B (ix2 k j) := by
  pointwise [branchesT]

/-- A weight of the third branch. -/
theorem branchesT_2 (A B C : FVec Ideal S1024x2048 .f32) (k : Fin 1024) (j : Fin 2048) : branchesT A B C (ix3 2 k j) = C (ix2 k j) := by
  pointwise [branchesT]

/-- An element of a branch's rows. -/
theorem rowsT_at (y : FVec Ideal S8x2048x1024 .f32) (r : Fin 16384) (k : Fin 1024) :
    rowsT y (ix2 r k) = y (ix3 ⟨r.val / 2048, by omega⟩ ⟨r.val % 2048, by omega⟩ k) := by
  pointwise [rowsT]

/-- An element of the input's rows. -/
theorem inT_at (y : FVec Ideal S8x2048x2048 .f32) (r : Fin 16384) (k : Fin 2048) :
    inT y (ix2 r k) = y (ix3 ⟨r.val / 2048, by omega⟩ ⟨r.val % 2048, by omega⟩ k) := by
  pointwise [inT]

/-- The merge of an element, from the problem's arrays. -/
def VALUE (h : FVec Ideal S8x2048x2048 .f32) (ya yb yc : FVec Ideal S8x2048x1024 .f32) (W : FVec Ideal S2048x13120 .f32)
    (A B C : FVec Ideal S1024x2048 .f32) (r : Fin 16384) (j : Fin 2048) : EReal :=
  gated (∑ k : Fin 2048, h (ix3 ⟨r.val / 2048, by omega⟩ ⟨r.val % 2048, by omega⟩ k) * W (ix2 k ⟨6976 + j.val, by omega⟩))
      (∑ k : Fin 1024, ya (ix3 ⟨r.val / 2048, by omega⟩ ⟨r.val % 2048, by omega⟩ k) * A (ix2 k j))
    + gated (∑ k : Fin 2048, h (ix3 ⟨r.val / 2048, by omega⟩ ⟨r.val % 2048, by omega⟩ k) * W (ix2 k ⟨9024 + j.val, by omega⟩))
      (∑ k : Fin 1024, yb (ix3 ⟨r.val / 2048, by omega⟩ ⟨r.val % 2048, by omega⟩ k) * B (ix2 k j))
    + gated (∑ k : Fin 2048, h (ix3 ⟨r.val / 2048, by omega⟩ ⟨r.val % 2048, by omega⟩ k) * W (ix2 k ⟨11072 + j.val, by omega⟩))
      (∑ k : Fin 1024, yc (ix3 ⟨r.val / 2048, by omega⟩ ⟨r.val % 2048, by omega⟩ k) * C (ix2 k j))

/-- Six equal arguments give equal results. -/
theorem congrArg₆ {α₁ α₂ α₃ α₄ α₅ α₆ β : Type} (f : α₁ → α₂ → α₃ → α₄ → α₅ → α₆ → β) {a₁ b₁ a₂ b₂ a₃ b₃ a₄ b₄ a₅ b₅ a₆ b₆}
    (h₁ : a₁ = b₁) (h₂ : a₂ = b₂) (h₃ : a₃ = b₃) (h₄ : a₄ = b₄) (h₅ : a₅ = b₅) (h₆ : a₆ = b₆) :
    f a₁ a₂ a₃ a₄ a₅ a₆ = f b₁ b₂ b₃ b₄ b₅ b₆ := by
  subst h₁ h₂ h₃ h₄ h₅ h₆; rfl

/-- The merge of the packed arrays, element by element. -/
theorem merge_at (h : FVec Ideal S8x2048x2048 .f32) (ya yb yc : FVec Ideal S8x2048x1024 .f32) (W : FVec Ideal S2048x13120 .f32)
    (A B C : FVec Ideal S1024x2048 .f32) (r : Fin 16384) (j : Fin 2048) :
    MERGE (inT h) (rowsT ya) (rowsT yb) (rowsT yc) (gatesT W) (branchesT A B C) (ix2 r j) = VALUE h ya yb yc W A B C r j := by
  show mergeAt _ _ _ _ _ _ r j = _
  simp only [mergeAt, VALUE, gatesT_0, gatesT_1, gatesT_2, branchesT_0, branchesT_1, branchesT_2, rowsT_at, inT_at]

variable (m : (ℓ : Loc nD τ sig) → Buf (Elt Ideal) ℓ) (c : Dev nD)

/-- The merge's array, from the arguments. -/
def OUT : FVec Ideal S16384x2048 .bf16 :=
  MERGE (inT (m ((c.tc : Thread nD τ).loc main_arg0))) (rowsT (m ((c.tc : Thread nD τ).loc main_arg1))) (rowsT (m ((c.tc : Thread nD τ).loc main_arg2)))
    (rowsT (m ((c.tc : Thread nD τ).loc main_arg3))) (gatesT (m ((c.tc : Thread nD τ).loc main_arg4)))
    (branchesT (m ((c.tc : Thread nD τ).loc main_arg5)) (m ((c.tc : Thread nD τ).loc main_arg6)) (m ((c.tc : Thread nD τ).loc main_arg7)))

/-- The input's rows, as the call takes them. -/
theorem v20_eq : (show FVec Ideal S16384x2048 .bf16 from V m c main_v20) = inT (m ((c.tc : Thread nD τ).loc main_arg0)) := by
  show StableHlo.after hostOps0 (fun b => m (c, b)) main_v20 = _
  after_results <;> rfl

/-- The first branch's rows, as the call takes them. -/
theorem v14_eq : (show FVec Ideal S16384x1024 .bf16 from V m c main_v14) = rowsT (m ((c.tc : Thread nD τ).loc main_arg1)) := by
  show StableHlo.after hostOps0 (fun b => m (c, b)) main_v14 = _
  after_results <;> rfl

/-- The second branch's rows, as the call takes them. -/
theorem v16_eq : (show FVec Ideal S16384x1024 .bf16 from V m c main_v16) = rowsT (m ((c.tc : Thread nD τ).loc main_arg2)) := by
  show StableHlo.after hostOps0 (fun b => m (c, b)) main_v16 = _
  after_results <;> rfl

/-- The third branch's rows, as the call takes them. -/
theorem v18_eq : (show FVec Ideal S16384x1024 .bf16 from V m c main_v18) = rowsT (m ((c.tc : Thread nD τ).loc main_arg3)) := by
  show StableHlo.after hostOps0 (fun b => m (c, b)) main_v18 = _
  after_results <;> rfl

/-- The gates' weights, as the call takes them. -/
theorem v7_eq : (show FVec Ideal S3x2048x2048 .bf16 from V m c main_v7) = gatesT (m ((c.tc : Thread nD τ).loc main_arg4)) := by
  show StableHlo.after hostOps0 (fun b => m (c, b)) main_v7 = _
  after_results <;> rfl

/-- The branches' weights, as the call takes them. -/
theorem v12_eq : (show FVec Ideal S3x1024x2048 .bf16 from V m c main_v12) = branchesT (m ((c.tc : Thread nD τ).loc main_arg5)) (m ((c.tc : Thread nD τ).loc main_arg6)) (m ((c.tc : Thread nD τ).loc main_arg7)) := by
  show StableHlo.after hostOps0 (fun b => m (c, b)) main_v12 = _
  after_results <;> rfl

/-- The merge's run: its result, and the arguments unchanged. -/
theorem final : (show FVec Ideal S16384x2048 .bf16 from (dats m 0 c).arrAt 6 cfg0.N) = OUT m c :=
  (merge_final m c).trans (by
    unfold OUT
    exact congrArg₆ MERGE (v20_eq m c) (v14_eq m c) (v16_eq m c) (v18_eq m c) (v7_eq m c) (v12_eq m c))

end Cert.MergeIdeal.Merge

namespace Cert.MergeRefIdeal.Merge

open Cert.MergeRefIdeal Cert.MergeRefIdeal.Gen

/-- One branch of the reference, gated. -/
def termT (G : FVec Ideal S8x2048x2048 .f32) (y : FVec Ideal S8x2048x1024 .f32) (A : FVec Ideal S1024x2048 .f32) : FVec Ideal S8x2048x2048 .f32 :=
  mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf G))))
    (Host.dotGeneral dot_S8x2048x1024_S1024x2048_S8x2048x2048_2_0_01_1_n_n none y A)

/-- The reference's gates. -/
def gatesT (h : FVec Ideal S8x2048x2048 .f32) (W : FVec Ideal S2048x13120 .f32) : FVec Ideal S8x2048x6144 .f32 :=
  extractStridedSlice S8x2048x6144 ![0, 0, 6976] (Host.dotGeneral dot_S8x2048x2048_S2048x13120_S8x2048x13120_2_0_01_1_n_n none h W) slices_S8x2048x13120_S8x2048x6144_0_0_6976

/-- The reference's result. -/
def allT (h : FVec Ideal S8x2048x2048 .f32) (ya yb yc : FVec Ideal S8x2048x1024 .f32) (W : FVec Ideal S2048x13120 .f32)
    (A B C : FVec Ideal S1024x2048 .f32) : FVec Ideal S16384x2048 .bf16 :=
  truncf .bf16 (shapeCast S16384x2048 (addf (addf (termT (extractStridedSlice S8x2048x2048 ![0, 0, 0] (gatesT h W) slices_S8x2048x6144_S8x2048x2048_0_0_0) ya A)
    (termT (extractStridedSlice S8x2048x2048 ![0, 0, 2048] (gatesT h W) slices_S8x2048x6144_S8x2048x2048_0_0_2048) yb B))
    (termT (extractStridedSlice S8x2048x2048 ![0, 0, 4096] (gatesT h W) slices_S8x2048x6144_S8x2048x2048_0_0_4096) yc C)) shapeCasts_S8x2048x2048_S16384x2048) bitsLt_bf16_f32

/-- A gated branch, at an index. -/
theorem termT_at (G : FVec Ideal S8x2048x2048 .f32) (y : FVec Ideal S8x2048x1024 .f32) (A : FVec Ideal S1024x2048 .f32) (b : Fin 8) (l j : Fin 2048) :
    termT G y A (ix3 b l j) = Cert.MergeIdeal.Merge.gated (G (ix3 b l j)) (∑ k : Fin 1024, y (ix3 b l k) * A (ix2 k j)) := by
  pointwise [termT, Cert.MergeIdeal.Merge.gated]
  rfl

/-- A gate's sum, at an index. -/
theorem gatesT_at (h : FVec Ideal S8x2048x2048 .f32) (W : FVec Ideal S2048x13120 .f32) (b : Fin 8) (l : Fin 2048) (j : Fin 6144) :
    gatesT h W (ix3 b l j) = ∑ k : Fin 2048, h (ix3 b l k) * W (ix2 k ⟨6976 + j.val, by omega⟩) := by
  pointwise [gatesT]

/-- The reference's result, at an index. -/
theorem allT_at (h : FVec Ideal S8x2048x2048 .f32) (ya yb yc : FVec Ideal S8x2048x1024 .f32) (W : FVec Ideal S2048x13120 .f32)
    (A B C : FVec Ideal S1024x2048 .f32) (r : Fin 16384) (j : Fin 2048) :
    allT h ya yb yc W A B C (ix2 r j) = Cert.MergeIdeal.Merge.VALUE h ya yb yc W A B C r j := by
  unfold allT Cert.MergeIdeal.Merge.VALUE
  generalize hA : termT (extractStridedSlice S8x2048x2048 ![0, 0, 0] (gatesT h W) slices_S8x2048x6144_S8x2048x2048_0_0_0) ya A = TA
  generalize hB : termT (extractStridedSlice S8x2048x2048 ![0, 0, 2048] (gatesT h W) slices_S8x2048x6144_S8x2048x2048_0_0_2048) yb B = TB
  generalize hC : termT (extractStridedSlice S8x2048x2048 ![0, 0, 4096] (gatesT h W) slices_S8x2048x6144_S8x2048x2048_0_0_4096) yc C = TC
  pointwise
  subst hA hB hC
  simp only [termT_at]
  generalize hG : gatesT h W = G
  pointwise
  subst hG
  simp only [gatesT_at, ← Nat.add_assoc, Nat.reduceAdd]

end Cert.MergeRefIdeal.Merge

namespace Cert.MergeIdeal.Merge

/-- The merge and its reference end with equal results. -/
theorem algebraic : Cert.algebraic_MergeIdeal_MergeRefIdeal (hMergeIdeal := Cert.MergeIdeal.Gen.facts)
    (hMergeRefIdeal := Cert.MergeRefIdeal.Gen.facts) := by
  intro m g m' g' _ hag
  refine ⟨fun c => Cert.MergeIdeal.Merge.OUT m c, (θ_run _ _ _).mono (fun r h c => ?_) (Cert.MergeIdeal.Value.run_blocks (F := Ideal) m g), ?_⟩
  · exact ⟨(h c).1.trans (final m c), (h c).2⟩
  refine (θ_run _ _ _).mono (fun r h c => ?_) (Cert.MergeRefIdeal.Value.run (F := Ideal) m' g')
  refine ⟨(h c).1.trans ?_, (h c).2⟩
  obtain ⟨h0, h1, h2, h3, h4, h5, h6, h7⟩ := hag c
  rw [h0, h1, h2, h3, h4, h5, h6, h7]
  funext i
  rw [eq_ix2 i]
  exact (Cert.MergeRefIdeal.Merge.allT_at _ _ _ _ _ _ _ _ (i 0) (i 1)).trans (merge_at _ _ _ _ _ _ _ _ (i 0) (i 1)).symm

end Cert.MergeIdeal.Merge

end
-- ==== Proof.MlaArr.lean ====
module

public import proofs.«01_k».proof.Proof.Gen.MlaInIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlaInIdeal.Mla

open Cert.MlaInIdeal Cert.MlaInIdeal.Gen

/-- The root mean square normalisation of a row of `n` entries, `d` the pattern of `n`, times the gains. -/
def normed {n : ℕ} (d : BitVec 32) (p g : Fin n → EReal) (j : Fin n) : EReal :=
  p j * Ideal.rsqrt (Ideal.div (∑ k, p k * p k) (Ideal.ofBits .f32 d) + Ideal.ofBits .f32 0x358637BD#32) * g j

/-- The down projection of row `r` at column `j`. -/
def proj {a : ℕ} (x0 : FVec Ideal ⟨2, ![a, 2048]⟩ .bf16) (x1 : FVec Ideal S2048x896 .bf16) (r : Fin a) (j : Fin 896) : EReal :=
  ∑ k : Fin 2048, x0 (ix2 r k) * x1 (ix2 k j)

/-- A normalised latent of row `r`. -/
def latent {a : ℕ} (x0 : FVec Ideal ⟨2, ![a, 2048]⟩ .bf16) (x1 : FVec Ideal S2048x896 .bf16) (x3 : FVec Ideal S1x256 .f32) (r : Fin a) (j : Fin 256) : EReal :=
  normed 0x43800000#32 (fun k : Fin 256 => proj x0 x1 r ⟨512 + k.val, by omega⟩) (fun k => x3 (ix2 0 k)) j

/-- A scaled query entry of row `r`. -/
def query {a : ℕ} (x0 : FVec Ideal ⟨2, ![a, 2048]⟩ .bf16) (x1 : FVec Ideal S2048x896 .bf16) (x2 : FVec Ideal S1x512 .f32) (x4 : FVec Ideal S512x1536 .bf16)
    (r : Fin a) (j : Fin 1536) : EReal :=
  (∑ k : Fin 512, normed 0x44000000#32 (fun k : Fin 512 => proj x0 x1 r ⟨k.val, by omega⟩) (fun k => x2 (ix2 0 k)) k * x4 (ix2 k j))
    * Ideal.ofBits .f32 0x3D93CD3A#32

variable (x0 : FVec Ideal S256x2048 .bf16) (x1 : FVec Ideal S2048x896 .bf16) (x2 : FVec Ideal S1x512 .f32) (x3 : FVec Ideal S1x256 .f32)
  (x4 : FVec Ideal S512x1536 .bf16)

/-- The latents' block. -/
theorem out0_5_at (y : S256x256.Idx) : out0_5 (F := Ideal) x0 x1 x2 x3 x4 y = latent x0 x1 x3 (y 0) (y 1) := by
  unfold_out out0_5
  canon_tiles x hx
  all_goals
    open_payloads
    pointwise [latent, normed, proj]
    blk_point []

/-- The rotary keys' block. -/
theorem out0_6_at (y : S256x64.Idx) : out0_6 (F := Ideal) x0 x1 x2 x3 x4 y = proj x0 x1 (y 0) ⟨768 + (y 1).val, by idx_bounds; omega⟩ := by
  unfold_out out0_6
  canon_tiles x hx
  all_goals
    open_payloads
    pointwise [proj]
    blk_point []

/-- The latents' second block. -/
theorem out0_7_at (y : S256x256.Idx) : out0_7 (F := Ideal) x0 x1 x2 x3 x4 y = latent x0 x1 x3 (y 0) (y 1) := by
  unfold_out out0_7
  canon_tiles x hx
  all_goals
    open_payloads
    pointwise [latent, normed, proj]
    blk_point []

/-- The rotary keys' second block. -/
theorem out0_8_at (y : S256x64.Idx) : out0_8 (F := Ideal) x0 x1 x2 x3 x4 y = proj x0 x1 (y 0) ⟨768 + (y 1).val, by idx_bounds; omega⟩ := by
  unfold_out out0_8
  canon_tiles x hx
  all_goals
    open_payloads
    pointwise [proj]
    blk_point []

/-- The queries' block. -/
theorem out0_9_at (y : S256x1024.Idx) : out0_9 (F := Ideal) x0 x1 x2 x3 x4 y = query x0 x1 x2 x4 (y 0) ⟨(y 1).val, by idx_bounds; omega⟩ := by
  unfold_out out0_9
  canon_tiles x hx
  all_goals
    open_payloads
    pointwise [query, normed, proj]
    blk_point []

/-- The rotary queries' block. -/
theorem out0_10_at (y : S256x512.Idx) : out0_10 (F := Ideal) x0 x1 x2 x3 x4 y = query x0 x1 x2 x4 (y 0) ⟨1024 + (y 1).val, by idx_bounds; omega⟩ := by
  unfold_out out0_10
  canon_tiles x hx
  all_goals
    open_payloads
    pointwise [query, normed, proj]
    blk_point []

variable (m : (ℓ : Loc nD τ sig) → Buf (Elt Ideal) ℓ) (c : Dev nD)

/-- The windows, in closed form. -/
theorem idx0 : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] :=
  (by decide +kernel : ∀ t : Fin grid0.N, _)

/-- A point's rows of the down projection. -/
theorem proj_blk (t : Fin cfg0.N) (r : Fin 256) (j : Fin 896) :
    proj (show FVec Ideal S256x2048 .bf16 from iblk m c 0 t) (show FVec Ideal S2048x896 .bf16 from iblk m c 1 t) r j
      = proj (show FVec Ideal S4096x2048 .bf16 from V m c main_v9) (show FVec Ideal S2048x896 .bf16 from V m c main_v14) ⟨t.val * 256 + r.val, by have := t.isLt; have : cfg0.N = 16 := N_0; omega⟩ j := by
  unfold proj
  blk_point [iblk, idx0 t]

/-- Equal rows and gains have equal normalised entries. -/
theorem normed_congr {n : ℕ} {d : BitVec 32} {p p' g g' : Fin n → EReal} (hp : ∀ k, p k = p' k) (hg : ∀ k, g k = g' k) (j : Fin n) :
    normed d p g j = normed d p' g' j := by
  obtain rfl : p = p' := funext hp
  obtain rfl : g = g' := funext hg
  rfl

/-- A point's rows of the latents. -/
theorem latent_blk (t : Fin cfg0.N) (r : Fin 256) (j : Fin 256) :
    latent (show FVec Ideal S256x2048 .bf16 from iblk m c 0 t) (show FVec Ideal S2048x896 .bf16 from iblk m c 1 t) (show FVec Ideal S1x256 .f32 from iblk m c 3 t) r j
      = latent (show FVec Ideal S4096x2048 .bf16 from V m c main_v9) (show FVec Ideal S2048x896 .bf16 from V m c main_v14) (show FVec Ideal S1x256 .f32 from V m c main_v18) ⟨t.val * 256 + r.val, by have := t.isLt; have : cfg0.N = 16 := N_0; omega⟩ j := by
  unfold latent
  refine normed_congr (fun k => proj_blk m c t r _) (fun k => ?_) j
  blk_point [iblk, idx0 t]

/-- A point's rows of the queries. -/
theorem query_blk (t : Fin cfg0.N) (r : Fin 256) (j : Fin 1536) :
    query (show FVec Ideal S256x2048 .bf16 from iblk m c 0 t) (show FVec Ideal S2048x896 .bf16 from iblk m c 1 t) (show FVec Ideal S1x512 .f32 from iblk m c 2 t) (show FVec Ideal S512x1536 .bf16 from iblk m c 4 t) r j
      = query (show FVec Ideal S4096x2048 .bf16 from V m c main_v9) (show FVec Ideal S2048x896 .bf16 from V m c main_v14) (show FVec Ideal S1x512 .f32 from V m c main_v17) (show FVec Ideal S512x1536 .bf16 from V m c main_v16) ⟨t.val * 256 + r.val, by have := t.isLt; have : cfg0.N = 16 := N_0; omega⟩ j := by
  unfold query
  refine congrArg (· * _) (Finset.sum_congr rfl fun k _ => ?_)
  refine congrArg₂ (· * ·) (normed_congr (fun k => proj_blk m c t r _) (fun k => ?_) k) ?_
  all_goals blk_point [iblk, idx0 t]

/-- The latents' array, from the call's operands. -/
def LATENT (x0 : FVec Ideal S4096x2048 .bf16) (x1 : FVec Ideal S2048x896 .bf16) (x3 : FVec Ideal S1x256 .f32) : FVec Ideal S4096x256 .f32 :=
  fun i => latent x0 x1 x3 (i 0) (i 1)

/-- The rotary keys' array, from the call's operands. -/
def ROT (x0 : FVec Ideal S4096x2048 .bf16) (x1 : FVec Ideal S2048x896 .bf16) : FVec Ideal S4096x64 .f32 :=
  fun i => proj x0 x1 (i 0) ⟨768 + (i 1).val, by have : (i 1).val < 64 := (i 1).isLt; omega⟩

/-- The queries' array, from the call's operands. -/
def QUERY (x0 : FVec Ideal S4096x2048 .bf16) (x1 : FVec Ideal S2048x896 .bf16) (x2 : FVec Ideal S1x512 .f32) (x4 : FVec Ideal S512x1536 .bf16) : FVec Ideal S4096x1024 .bf16 :=
  fun i => query x0 x1 x2 x4 (i 0) ⟨(i 1).val, by have : (i 1).val < 1024 := (i 1).isLt; omega⟩

/-- The rotary queries' array, from the call's operands. -/
def QROT (x0 : FVec Ideal S4096x2048 .bf16) (x1 : FVec Ideal S2048x896 .bf16) (x2 : FVec Ideal S1x512 .f32) (x4 : FVec Ideal S512x1536 .bf16) : FVec Ideal S4096x512 .bf16 :=
  fun i => query x0 x1 x2 x4 (i 0) ⟨1024 + (i 1).val, by have : (i 1).val < 512 := (i 1).isLt; omega⟩

/-- The latents' array. -/
theorem final5 : (dats m 0 c).arrAt 5 cfg0.N = LATENT (V m c main_v9) (V m c main_v14) (V m c main_v18) := by
  refine (dats m 0 c).arrAt_eq_of_covers 5 _ (by decide +kernel) fun t _ y => ?_
  blk_simp
  rw [after0_5]
  refine (out0_5_at _ _ _ _ _ _).trans ((latent_blk m c t _ _).trans ?_)
  unfold LATENT
  refine congrArg₂ (latent _ _ _) (Fin.ext ?_) (Fin.ext ?_) <;> blk_simp [idx0 t]

/-- The rotary keys' array. -/
theorem final6 : (dats m 0 c).arrAt 6 cfg0.N = ROT (V m c main_v9) (V m c main_v14) := by
  refine (dats m 0 c).arrAt_eq_of_covers 6 _ (by decide +kernel) fun t _ y => ?_
  blk_simp
  rw [after0_6]
  refine (out0_6_at _ _ _ _ _ _).trans ((proj_blk m c t _ _).trans ?_)
  unfold ROT
  refine congrArg₂ (proj _ _) (Fin.ext ?_) (Fin.ext ?_) <;> blk_simp [idx0 t]

/-- The latents' second array. -/
theorem final7 : (dats m 0 c).arrAt 7 cfg0.N = LATENT (V m c main_v9) (V m c main_v14) (V m c main_v18) := by
  refine (dats m 0 c).arrAt_eq_of_covers 7 _ (by decide +kernel) fun t _ y => ?_
  blk_simp
  rw [after0_7]
  refine (out0_7_at _ _ _ _ _ _).trans ((latent_blk m c t _ _).trans ?_)
  unfold LATENT
  refine congrArg₂ (latent _ _ _) (Fin.ext ?_) (Fin.ext ?_) <;> blk_simp [idx0 t]

/-- The rotary keys' second array. -/
theorem final8 : (dats m 0 c).arrAt 8 cfg0.N = ROT (V m c main_v9) (V m c main_v14) := by
  refine (dats m 0 c).arrAt_eq_of_covers 8 _ (by decide +kernel) fun t _ y => ?_
  blk_simp
  rw [after0_8]
  refine (out0_8_at _ _ _ _ _ _).trans ((proj_blk m c t _ _).trans ?_)
  unfold ROT
  refine congrArg₂ (proj _ _) (Fin.ext ?_) (Fin.ext ?_) <;> blk_simp [idx0 t]

/-- The queries' array. -/
theorem final9 : (dats m 0 c).arrAt 9 cfg0.N = QUERY (V m c main_v9) (V m c main_v14) (V m c main_v17) (V m c main_v16) := by
  refine (dats m 0 c).arrAt_eq_of_covers 9 _ (by decide +kernel) fun t _ y => ?_
  blk_simp
  rw [after0_9]
  refine (out0_9_at _ _ _ _ _ _).trans ((query_blk m c t _ _).trans ?_)
  unfold QUERY
  refine congrArg₂ (query _ _ _ _) (Fin.ext ?_) (Fin.ext ?_) <;> blk_simp [idx0 t]

/-- The rotary queries' array. -/
theorem final10 : (dats m 0 c).arrAt 10 cfg0.N = QROT (V m c main_v9) (V m c main_v14) (V m c main_v17) (V m c main_v16) := by
  refine (dats m 0 c).arrAt_eq_of_covers 10 _ (by decide +kernel) fun t _ y => ?_
  blk_simp
  rw [after0_10]
  refine (out0_10_at _ _ _ _ _ _).trans ((query_blk m c t _ _).trans ?_)
  unfold QROT
  refine congrArg₂ (query _ _ _ _) (Fin.ext ?_) (Fin.ext ?_) <;> blk_simp [idx0 t]

end Cert.MlaInIdeal.Mla

end
-- ==== Proof.MlaEq.lean ====
module

public import proofs.«01_k».proof.Proof.MlaArr
public import proofs.«01_k».proof.Proof.Gen.MlaInRefIdeal.Run
public import proofs.«01_k».proof.Defs

@[expose] public section

set_option maxRecDepth 16384

noncomputable section

open Idealize.ShloMosaic Idealize.ShloMosaic.TcCoe Idealize.ShloMosaic.Tactic Idealize.SL.Sem

namespace Cert.MlaInIdeal.Mla

open Cert.MlaInIdeal Cert.MlaInIdeal.Gen

/-- The input's rows. -/
def inT (h : FVec Ideal S16x256x2048 .f32) : FVec Ideal S4096x2048 .bf16 :=
  truncf .bf16 (shapeCast S4096x2048 h shapeCasts_S16x256x2048_S4096x2048) bitsLt_bf16_f32

/-- The mixer's own columns of the input weights. -/
def colsT (W : FVec Ideal S2048x13120 .f32) : FVec Ideal S2048x832 .bf16 :=
  truncf .bf16 (extractStridedSlice S2048x832 ![0, 3072] W slices_S2048x13120_S2048x832_0_3072) bitsLt_bf16_f32

/-- The rotary columns of those. -/
def rotT (W : FVec Ideal S2048x13120 .f32) : FVec Ideal S2048x64 .bf16 :=
  extractStridedSlice S2048x64 ![0, 768] (colsT W) slices_S2048x832_S2048x64_0_768

/-- The columns and, after them, the rotary ones turned. -/
def downT (W : FVec Ideal S2048x13120 .f32) : FVec Ideal S2048x896 .bf16 :=
  concatenate S2048x896 1 [⟨S2048x832, colsT W⟩, ⟨S2048x64, concatenate S2048x64 1
    [⟨S2048x32, Host.negf (extractStridedSlice S2048x32 ![0, 32] (rotT W) slices_S2048x64_S2048x32_0_32)⟩,
      ⟨S2048x32, extractStridedSlice S2048x32 ![0, 0] (rotT W) slices_S2048x64_S2048x32_0_0⟩] concatenates_S2048x32_S2048x32_S2048x64_d1⟩]
    concatenates_S2048x832_S2048x64_S2048x896_d1

/-- The query weights by head. -/
def headsT (U : FVec Ideal S512x1536 .f32) : FVec Ideal S512x8x192 .bf16 :=
  shapeCast S512x8x192 (show FVec Ideal S512x1536 .bf16 from truncf .bf16 U bitsLt_bf16_f32) shapeCasts_S512x1536_S512x8x192

/-- The query weights: the heads' latent parts, then their rotary parts. -/
def upT (U : FVec Ideal S512x1536 .f32) : FVec Ideal S512x1536 .bf16 :=
  concatenate S512x1536 1 [⟨S512x1024, shapeCast S512x1024 (extractStridedSlice S512x8x128 ![0, 0, 0] (headsT U) slices_S512x8x192_S512x8x128_0_0_0) shapeCasts_S512x8x128_S512x1024⟩,
    ⟨S512x512, shapeCast S512x512 (extractStridedSlice S512x8x64 ![0, 0, 128] (headsT U) slices_S512x8x192_S512x8x64_0_0_128) shapeCasts_S512x8x64_S512x512⟩] concatenates_S512x1024_S512x512_S512x1536_d1

/-- An element of the input's rows. -/
theorem inT_at (h : FVec Ideal S16x256x2048 .f32) (r : Fin 4096) (k : Fin 2048) :
    inT h (ix2 r k) = h (ix3 ⟨r.val / 256, by omega⟩ ⟨r.val % 256, by omega⟩ k) := by
  pointwise [inT]

/-- One of the mixer's own weights. -/
theorem downT_at (W : FVec Ideal S2048x13120 .f32) (k : Fin 2048) (j : Fin 832) :
    downT W (ix2 k ⟨j.val, by omega⟩) = W (ix2 k ⟨3072 + j.val, by omega⟩) := by
  pointwise [downT, colsT]

/-- A query weight of a latent part. -/
theorem upT_lat (U : FVec Ideal S512x1536 .f32) (k : Fin 512) (j : Fin 1024) :
    upT U (ix2 k ⟨j.val, by omega⟩) = U (ix2 k ⟨j.val / 128 * 192 + j.val % 128, by omega⟩) := by
  pointwise [upT, headsT]

/-- A query weight of a rotary part. -/
theorem upT_rot (U : FVec Ideal S512x1536 .f32) (k : Fin 512) (j : Fin 512) :
    upT U (ix2 k ⟨1024 + j.val, by omega⟩) = U (ix2 k ⟨j.val / 64 * 192 + (128 + j.val % 64), by omega⟩) := by
  pointwise [upT, headsT]

/-- The mixer's projection of an element. -/
def vproj (h : FVec Ideal S16x256x2048 .f32) (W : FVec Ideal S2048x13120 .f32) (b : Fin 16) (l : Fin 256) (j : Fin 832) : EReal :=
  ∑ k : Fin 2048, h (ix3 b l k) * W (ix2 k ⟨3072 + j.val, by omega⟩)

/-- The normalised latent of an element. -/
def vlat (h : FVec Ideal S16x256x2048 .f32) (W : FVec Ideal S2048x13120 .f32) (g : FVec Ideal S256 .f32) (b : Fin 16) (l j : Fin 256) : EReal :=
  normed 0x43800000#32 (fun k : Fin 256 => vproj h W b l ⟨512 + k.val, by omega⟩) (fun k => g (ix1 k)) j

/-- The scaled query of an element. -/
def vq (h : FVec Ideal S16x256x2048 .f32) (W : FVec Ideal S2048x13120 .f32) (g : FVec Ideal S512 .f32) (U : FVec Ideal S512x1536 .f32)
    (b : Fin 16) (l : Fin 256) (j : Fin 1536) : EReal :=
  (∑ k : Fin 512, normed 0x44000000#32 (fun k : Fin 512 => vproj h W b l ⟨k.val, by omega⟩) (fun k => g (ix1 k)) k * U (ix2 k j))
    * Ideal.ofBits .f32 0x3D93CD3A#32

/-- The projection of the packed arrays, element by element. -/
theorem proj_at (h : FVec Ideal S16x256x2048 .f32) (W : FVec Ideal S2048x13120 .f32) (r : Fin 4096) (j : Fin 832) :
    proj (inT h) (downT W) r ⟨j.val, by omega⟩ = vproj h W ⟨r.val / 256, by omega⟩ ⟨r.val % 256, by omega⟩ j := by
  unfold proj vproj
  simp only [inT_at, downT_at]

/-- The latents of the packed arrays, element by element. -/
theorem latent_at (h : FVec Ideal S16x256x2048 .f32) (W : FVec Ideal S2048x13120 .f32) (g : FVec Ideal S256 .f32) (r : Fin 4096) (j : Fin 256) :
    latent (inT h) (downT W) (shapeCast S1x256 g shapeCasts_S256_S1x256) r j = vlat h W g ⟨r.val / 256, by omega⟩ ⟨r.val % 256, by omega⟩ j := by
  unfold latent vlat
  refine normed_congr (fun k => proj_at h W r ⟨512 + k.val, by omega⟩) (fun k => ?_) j
  pointwise

/-- The queries of the packed arrays, over a column of the query weights. -/
theorem query_at (h : FVec Ideal S16x256x2048 .f32) (W : FVec Ideal S2048x13120 .f32) (g : FVec Ideal S512 .f32) (U : FVec Ideal S512x1536 .f32)
    (r : Fin 4096) (j j' : Fin 1536) (hj : ∀ k, upT U (ix2 k j) = U (ix2 k j')) :
    query (inT h) (downT W) (shapeCast S1x512 g shapeCasts_S512_S1x512) (upT U) r j = vq h W g U ⟨r.val / 256, by omega⟩ ⟨r.val % 256, by omega⟩ j' := by
  unfold query vq
  refine congrArg (· * _) (Finset.sum_congr rfl fun k _ => congrArg₂ (· * ·) (normed_congr (fun k => proj_at h W r ⟨k.val, by omega⟩) (fun k => ?_) k) (hj k))
  pointwise

variable (m : (ℓ : Loc nD τ sig) → Buf (Elt Ideal) ℓ) (c : Dev nD)

/-- The input's rows, as the call takes them. -/
theorem v9_eq : (show FVec Ideal S4096x2048 .bf16 from V m c main_v9) = inT (m ((c.tc : Thread nD τ).loc main_arg0)) := by
  show StableHlo.after hostOps0 (fun b => m (c, b)) main_v9 = _
  after_results <;> rfl

/-- The mixer's weights, as the call takes them. -/
theorem v14_eq : (show FVec Ideal S2048x896 .bf16 from V m c main_v14) = downT (m ((c.tc : Thread nD τ).loc main_arg1)) := by
  show StableHlo.after hostOps0 (fun b => m (c, b)) main_v14 = _
  after_results <;> rfl

/-- The queries' gains, as the call takes them. -/
theorem v17_eq : (show FVec Ideal S1x512 .f32 from V m c main_v17) = shapeCast S1x512 (show FVec Ideal S512 .f32 from m ((c.tc : Thread nD τ).loc main_arg2)) shapeCasts_S512_S1x512 := by
  show StableHlo.after hostOps0 (fun b => m (c, b)) main_v17 = _
  after_results <;> rfl

/-- The latents' gains, as the call takes them. -/
theorem v18_eq : (show FVec Ideal S1x256 .f32 from V m c main_v18) = shapeCast S1x256 (show FVec Ideal S256 .f32 from m ((c.tc : Thread nD τ).loc main_arg3)) shapeCasts_S256_S1x256 := by
  show StableHlo.after hostOps0 (fun b => m (c, b)) main_v18 = _
  after_results <;> rfl

/-- The query weights, as the call takes them. -/
theorem v16_eq : (show FVec Ideal S512x1536 .bf16 from V m c main_v16) = upT (m ((c.tc : Thread nD τ).loc main_arg4)) := by
  show StableHlo.after hostOps0 (fun b => m (c, b)) main_v16 = _
  after_results <;> rfl

/-- The latents, from the problem's arrays. -/
def OUTLAT (h : FVec Ideal S16x256x2048 .f32) (W : FVec Ideal S2048x13120 .f32) (g : FVec Ideal S256 .f32) : FVec Ideal S4096x256 .f32 :=
  LATENT (inT h) (downT W) (shapeCast S1x256 g shapeCasts_S256_S1x256)

/-- The rotary keys, from the problem's arrays. -/
def OUTROT (h : FVec Ideal S16x256x2048 .f32) (W : FVec Ideal S2048x13120 .f32) : FVec Ideal S4096x64 .f32 := ROT (inT h) (downT W)

/-- The queries, from the problem's arrays. -/
def OUTQ (h : FVec Ideal S16x256x2048 .f32) (W : FVec Ideal S2048x13120 .f32) (g : FVec Ideal S512 .f32) (U : FVec Ideal S512x1536 .f32) : FVec Ideal S4096x1024 .bf16 :=
  QUERY (inT h) (downT W) (shapeCast S1x512 g shapeCasts_S512_S1x512) (upT U)

/-- The rotary queries, from the problem's arrays. -/
def OUTQROT (h : FVec Ideal S16x256x2048 .f32) (W : FVec Ideal S2048x13120 .f32) (g : FVec Ideal S512 .f32) (U : FVec Ideal S512x1536 .f32) : FVec Ideal S4096x512 .bf16 :=
  QROT (inT h) (downT W) (shapeCast S1x512 g shapeCasts_S512_S1x512) (upT U)

/-- Four equal arguments give equal results. -/
theorem congrArg₄ {α₁ α₂ α₃ α₄ β : Type} (f : α₁ → α₂ → α₃ → α₄ → β) {a₁ b₁ a₂ b₂ a₃ b₃ a₄ b₄}
    (h₁ : a₁ = b₁) (h₂ : a₂ = b₂) (h₃ : a₃ = b₃) (h₄ : a₄ = b₄) : f a₁ a₂ a₃ a₄ = f b₁ b₂ b₃ b₄ := by
  subst h₁ h₂ h₃ h₄; rfl

/-- The call's latents. -/
theorem lat_eq : LATENT (V m c main_v9) (V m c main_v14) (V m c main_v18)
    = OUTLAT (m ((c.tc : Thread nD τ).loc main_arg0)) (m ((c.tc : Thread nD τ).loc main_arg1)) (m ((c.tc : Thread nD τ).loc main_arg3)) :=
  congrArg₄ (fun a b d (_ : Unit) => LATENT a b d) (v9_eq m c) (v14_eq m c) (v18_eq m c) (rfl : () = ())

/-- The call's rotary keys. -/
theorem rot_eq : ROT (V m c main_v9) (V m c main_v14) = OUTROT (m ((c.tc : Thread nD τ).loc main_arg0)) (m ((c.tc : Thread nD τ).loc main_arg1)) :=
  congrArg₂ ROT (v9_eq m c) (v14_eq m c)

/-- The call's queries. -/
theorem q_eq : QUERY (V m c main_v9) (V m c main_v14) (V m c main_v17) (V m c main_v16)
    = OUTQ (m ((c.tc : Thread nD τ).loc main_arg0)) (m ((c.tc : Thread nD τ).loc main_arg1)) (m ((c.tc : Thread nD τ).loc main_arg2)) (m ((c.tc : Thread nD τ).loc main_arg4)) :=
  congrArg₄ QUERY (v9_eq m c) (v14_eq m c) (v17_eq m c) (v16_eq m c)

/-- The call's rotary queries. -/
theorem qrot_eq : QROT (V m c main_v9) (V m c main_v14) (V m c main_v17) (V m c main_v16)
    = OUTQROT (m ((c.tc : Thread nD τ).loc main_arg0)) (m ((c.tc : Thread nD τ).loc main_arg1)) (m ((c.tc : Thread nD τ).loc main_arg2)) (m ((c.tc : Thread nD τ).loc main_arg4)) :=
  congrArg₄ QROT (v9_eq m c) (v14_eq m c) (v17_eq m c) (v16_eq m c)

end Cert.MlaInIdeal.Mla

namespace Cert.MlaInRefIdeal.Mla

open Cert.MlaInRefIdeal Cert.MlaInRefIdeal.Gen Cert.MlaInIdeal.Mla

/-- The reference's projection. -/
def projT (h : FVec Ideal S16x256x2048 .f32) (W : FVec Ideal S2048x13120 .f32) : FVec Ideal S16x256x832 .f32 :=
  extractStridedSlice S16x256x832 ![0, 0, 3072] (Host.dotGeneral dot_S16x256x2048_S2048x13120_S16x256x13120_2_0_01_1_n_n none h W) slices_S16x256x13120_S16x256x832_0_0_3072

/-- The reference's normalisation of the latents. -/
def latT (p : FVec Ideal S16x256x256 .f32) (g : FVec Ideal S256 .f32) : FVec Ideal S16x256x256 .f32 :=
  mulf (mulf p (broadcastInDim S16x256x256 ![0, 1, 2] bcast_S16x256x1_S16x256x256_0_1_2 (Host.rsqrt (addf (Host.divf (broadcastInDim S16x256x1 ![0, 1] bcast_S16x256_S16x256x1_0_1 (Host.reduceAdd (mulf p p) (constant S_ .f32 0x00000000#32) reducesTo_S16x256x256_S16x256_d2 h_S_)) (broadcastInDim S16x256x1 ![] bcast_S_S16x256x1 (constant S_ .f32 0x43800000#32))) (broadcastInDim S16x256x1 ![] bcast_S_S16x256x1 (constant S_ .f32 0x358637BD#32)))))) (broadcastInDim S16x256x256 ![0, 1, 2] bcast_S1x1x256_S16x256x256_0_1_2 (broadcastInDim S1x1x256 ![2] bcast_S256_S1x1x256_2 g))

/-- The reference's normalisation of the queries' latents. -/
def qlatT (p : FVec Ideal S16x256x512 .f32) (g : FVec Ideal S512 .f32) : FVec Ideal S16x256x512 .f32 :=
  mulf (mulf p (broadcastInDim S16x256x512 ![0, 1, 2] bcast_S16x256x1_S16x256x512_0_1_2 (Host.rsqrt (addf (Host.divf (broadcastInDim S16x256x1 ![0, 1] bcast_S16x256_S16x256x1_0_1 (Host.reduceAdd (mulf p p) (constant S_ .f32 0x00000000#32) reducesTo_S16x256x512_S16x256_d2 h_S_)) (broadcastInDim S16x256x1 ![] bcast_S_S16x256x1 (constant S_ .f32 0x44000000#32))) (broadcastInDim S16x256x1 ![] bcast_S_S16x256x1 (constant S_ .f32 0x358637BD#32)))))) (broadcastInDim S16x256x512 ![0, 1, 2] bcast_S1x1x512_S16x256x512_0_1_2 (broadcastInDim S1x1x512 ![2] bcast_S512_S1x1x512_2 g))

/-- The reference's queries, by head. -/
def qT (n : FVec Ideal S16x256x512 .f32) (U : FVec Ideal S512x1536 .f32) : FVec Ideal S16x256x8x192 .f32 :=
  shapeCast S16x256x8x192 (Host.dotGeneral dot_S16x256x512_S512x1536_S16x256x1536_2_0_01_1_n_n none n U) shapeCasts_S16x256x1536_S16x256x8x192

/-- The reference's projection, at an index. -/
theorem projT_at (h : FVec Ideal S16x256x2048 .f32) (W : FVec Ideal S2048x13120 .f32) (b : Fin 16) (l : Fin 256) (j : Fin 832) :
    projT h W (ix3 b l j) = vproj h W b l j := by
  pointwise [projT, vproj]

/-- The normalisation of the latents, at an index. -/
theorem latT_at (p : FVec Ideal S16x256x256 .f32) (g : FVec Ideal S256 .f32) (b : Fin 16) (l j : Fin 256) :
    latT p g (ix3 b l j) = normed 0x43800000#32 (fun k : Fin 256 => p (ix3 b l k)) (fun k => g (ix1 k)) j := by
  pointwise [latT, normed]

/-- The normalisation of the queries' latents, at an index. -/
theorem qlatT_at (p : FVec Ideal S16x256x512 .f32) (g : FVec Ideal S512 .f32) (b : Fin 16) (l : Fin 256) (j : Fin 512) :
    qlatT p g (ix3 b l j) = normed 0x44000000#32 (fun k : Fin 512 => p (ix3 b l k)) (fun k => g (ix1 k)) j := by
  pointwise [qlatT, normed]

/-- A query, at an index. -/
theorem qT_at (n : FVec Ideal S16x256x512 .f32) (U : FVec Ideal S512x1536 .f32) (b : Fin 16) (l : Fin 256) (a : Fin 8) (j : Fin 192) :
    qT n U (ix4 b l a j) = ∑ k : Fin 512, n (ix3 b l k) * U (ix2 k ⟨a.val * 192 + j.val, by omega⟩) := by
  pointwise [qT]

/-- The reference's latents. -/
def latR (h : FVec Ideal S16x256x2048 .f32) (W : FVec Ideal S2048x13120 .f32) (g : FVec Ideal S256 .f32) : FVec Ideal S4096x256 .f32 :=
  shapeCast S4096x256 (latT (extractStridedSlice S16x256x256 ![0, 0, 512] (projT h W) slices_S16x256x832_S16x256x256_0_0_512) g) shapeCasts_S16x256x256_S4096x256

/-- The reference's rotary keys. -/
def rotR (h : FVec Ideal S16x256x2048 .f32) (W : FVec Ideal S2048x13120 .f32) : FVec Ideal S4096x64 .f32 :=
  shapeCast S4096x64 (extractStridedSlice S16x256x64 ![0, 0, 768] (projT h W) slices_S16x256x832_S16x256x64_0_0_768) shapeCasts_S16x256x64_S4096x64

/-- The reference's queries before the heads' parts are taken. -/
def headsR (h : FVec Ideal S16x256x2048 .f32) (W : FVec Ideal S2048x13120 .f32) (g : FVec Ideal S512 .f32) (U : FVec Ideal S512x1536 .f32) : FVec Ideal S16x256x8x192 .f32 :=
  qT (qlatT (extractStridedSlice S16x256x512 ![0, 0, 0] (projT h W) slices_S16x256x832_S16x256x512_0_0_0) g) U

/-- The reference's queries. -/
def qR (h : FVec Ideal S16x256x2048 .f32) (W : FVec Ideal S2048x13120 .f32) (g : FVec Ideal S512 .f32) (U : FVec Ideal S512x1536 .f32) : FVec Ideal S4096x1024 .bf16 :=
  truncf .bf16 (shapeCast S4096x1024 (mulf (extractStridedSlice S16x256x8x128 ![0, 0, 0, 0] (headsR h W g U) slices_S16x256x8x192_S16x256x8x128_0_0_0_0) (broadcastInDim S16x256x8x128 ![] bcast_S_S16x256x8x128 (constant S_ .f32 0x3D93CD3A#32))) shapeCasts_S16x256x8x128_S4096x1024) bitsLt_bf16_f32

/-- The reference's rotary queries. -/
def qrotR (h : FVec Ideal S16x256x2048 .f32) (W : FVec Ideal S2048x13120 .f32) (g : FVec Ideal S512 .f32) (U : FVec Ideal S512x1536 .f32) : FVec Ideal S4096x512 .bf16 :=
  truncf .bf16 (shapeCast S4096x512 (mulf (extractStridedSlice S16x256x8x64 ![0, 0, 0, 128] (headsR h W g U) slices_S16x256x8x192_S16x256x8x64_0_0_0_128) (broadcastInDim S16x256x8x64 ![] bcast_S_S16x256x8x64 (constant S_ .f32 0x3D93CD3A#32))) shapeCasts_S16x256x8x64_S4096x512) bitsLt_bf16_f32

/-- The reference's latents, at an index. -/
theorem latR_at (h : FVec Ideal S16x256x2048 .f32) (W : FVec Ideal S2048x13120 .f32) (g : FVec Ideal S256 .f32) (r : Fin 4096) (j : Fin 256) :
    latR h W g (ix2 r j) = vlat h W g ⟨r.val / 256, by omega⟩ ⟨r.val % 256, by omega⟩ j := by
  unfold latR
  generalize hP : extractStridedSlice S16x256x256 ![0, 0, 512] (projT h W) slices_S16x256x832_S16x256x256_0_0_512 = P
  generalize hA : latT P g = A
  pointwise
  subst hA
  rw [latT_at]
  refine normed_congr (fun k => ?_) (fun _ => rfl) _
  subst hP
  rw [← projT_at]
  generalize projT h W = Q
  pointwise

/-- The reference's rotary keys, at an index. -/
theorem rotR_at (h : FVec Ideal S16x256x2048 .f32) (W : FVec Ideal S2048x13120 .f32) (r : Fin 4096) (j : Fin 64) :
    rotR h W (ix2 r j) = vproj h W ⟨r.val / 256, by omega⟩ ⟨r.val % 256, by omega⟩ ⟨768 + j.val, by omega⟩ := by
  rw [← projT_at]
  unfold rotR
  generalize projT h W = Q
  pointwise

/-- The reference's queries by head, at an index. -/
theorem headsR_at (h : FVec Ideal S16x256x2048 .f32) (W : FVec Ideal S2048x13120 .f32) (g : FVec Ideal S512 .f32) (U : FVec Ideal S512x1536 .f32)
    (b : Fin 16) (l : Fin 256) (a : Fin 8) (j : Fin 192) :
    headsR h W g U (ix4 b l a j) * Ideal.ofBits .f32 0x3D93CD3A#32 = vq h W g U b l ⟨a.val * 192 + j.val, by omega⟩ := by
  unfold headsR vq
  rw [qT_at]
  refine congrArg (· * _) (Finset.sum_congr rfl fun k _ => congrArg (· * _) ?_)
  rw [qlatT_at]
  refine normed_congr (fun k => ?_) (fun _ => rfl) _
  rw [← projT_at]
  generalize projT h W = Q
  pointwise

/-- The reference's queries, at an index. -/
theorem qR_at (h : FVec Ideal S16x256x2048 .f32) (W : FVec Ideal S2048x13120 .f32) (g : FVec Ideal S512 .f32) (U : FVec Ideal S512x1536 .f32)
    (r : Fin 4096) (j : Fin 1024) :
    qR h W g U (ix2 r j) = vq h W g U ⟨r.val / 256, by omega⟩ ⟨r.val % 256, by omega⟩ ⟨j.val / 128 * 192 + j.val % 128, by omega⟩ := by
  rw [← headsR_at h W g U _ _ ⟨j.val / 128, by omega⟩ ⟨j.val % 128, by omega⟩]
  unfold qR
  generalize headsR h W g U = Q
  pointwise

/-- The reference's rotary queries, at an index. -/
theorem qrotR_at (h : FVec Ideal S16x256x2048 .f32) (W : FVec Ideal S2048x13120 .f32) (g : FVec Ideal S512 .f32) (U : FVec Ideal S512x1536 .f32)
    (r : Fin 4096) (j : Fin 512) :
    qrotR h W g U (ix2 r j) = vq h W g U ⟨r.val / 256, by omega⟩ ⟨r.val % 256, by omega⟩ ⟨j.val / 64 * 192 + (128 + j.val % 64), by omega⟩ := by
  rw [← headsR_at h W g U _ _ ⟨j.val / 64, by omega⟩ ⟨128 + j.val % 64, by omega⟩]
  unfold qrotR
  generalize headsR h W g U = Q
  pointwise

/-- The latents of both programs are equal. -/
theorem lat (h : FVec Ideal S16x256x2048 .f32) (W : FVec Ideal S2048x13120 .f32) (g : FVec Ideal S256 .f32) : latR h W g = OUTLAT h W g := by
  funext i
  rw [eq_ix2 i]
  exact (latR_at h W g (i 0) (i 1)).trans (latent_at h W g (i 0) (i 1)).symm

/-- The rotary keys of both programs are equal. -/
theorem rot (h : FVec Ideal S16x256x2048 .f32) (W : FVec Ideal S2048x13120 .f32) : rotR h W = OUTROT h W := by
  funext i
  rw [eq_ix2 i]
  exact (rotR_at h W (i 0) (i 1)).trans (proj_at h W (i 0) ⟨768 + (i 1).val, by have : (i 1).val < 64 := (i 1).isLt; omega⟩).symm

/-- The queries of both programs are equal. -/
theorem q (h : FVec Ideal S16x256x2048 .f32) (W : FVec Ideal S2048x13120 .f32) (g : FVec Ideal S512 .f32) (U : FVec Ideal S512x1536 .f32) : qR h W g U = OUTQ h W g U := by
  funext i
  rw [eq_ix2 i]
  exact (qR_at h W g U (i 0) (i 1)).trans (query_at h W g U (i 0) _ _ fun k => upT_lat U k (i 1)).symm

/-- The rotary queries of both programs are equal. -/
theorem qrot (h : FVec Ideal S16x256x2048 .f32) (W : FVec Ideal S2048x13120 .f32) (g : FVec Ideal S512 .f32) (U : FVec Ideal S512x1536 .f32) : qrotR h W g U = OUTQROT h W g U := by
  funext i
  rw [eq_ix2 i]
  exact (qrotR_at h W g U (i 0) (i 1)).trans (query_at h W g U (i 0) _ _ fun k => upT_rot U k (i 1)).symm

end Cert.MlaInRefIdeal.Mla

namespace Cert.MlaInIdeal.Mla

open Cert.MlaInIdeal Cert.MlaInIdeal.Gen

/-- The latent projections and their reference end with equal results. -/
theorem algebraic : Cert.algebraic_MlaInIdeal_MlaInRefIdeal (hMlaInIdeal := Cert.MlaInIdeal.Gen.facts)
    (hMlaInRefIdeal := Cert.MlaInRefIdeal.Gen.facts) := by
  intro m g m' g' _ hag
  refine ⟨fun c => OUTLAT (m ((c.tc : Thread nD τ).loc main_arg0)) (m ((c.tc : Thread nD τ).loc main_arg1)) (m ((c.tc : Thread nD τ).loc main_arg3)),
    fun c => OUTROT (m ((c.tc : Thread nD τ).loc main_arg0)) (m ((c.tc : Thread nD τ).loc main_arg1)),
    fun c => OUTLAT (m ((c.tc : Thread nD τ).loc main_arg0)) (m ((c.tc : Thread nD τ).loc main_arg1)) (m ((c.tc : Thread nD τ).loc main_arg3)),
    fun c => OUTROT (m ((c.tc : Thread nD τ).loc main_arg0)) (m ((c.tc : Thread nD τ).loc main_arg1)),
    fun c => OUTQ (m ((c.tc : Thread nD τ).loc main_arg0)) (m ((c.tc : Thread nD τ).loc main_arg1)) (m ((c.tc : Thread nD τ).loc main_arg2)) (m ((c.tc : Thread nD τ).loc main_arg4)),
    fun c => OUTQROT (m ((c.tc : Thread nD τ).loc main_arg0)) (m ((c.tc : Thread nD τ).loc main_arg1)) (m ((c.tc : Thread nD τ).loc main_arg2)) (m ((c.tc : Thread nD τ).loc main_arg4)),
    (θ_run _ _ _).mono (fun r h c => ?_) (Cert.MlaInIdeal.Value.run_blocks (F := Ideal) m g), ?_⟩
  · obtain ⟨e0, e1, e2, e3, e4, e5, ea⟩ := h c
    exact ⟨e0.trans ((final5 m c).trans (lat_eq m c)), e1.trans ((final6 m c).trans (rot_eq m c)), e2.trans ((final7 m c).trans (lat_eq m c)),
      e3.trans ((final8 m c).trans (rot_eq m c)), e4.trans ((final9 m c).trans (q_eq m c)), e5.trans ((final10 m c).trans (qrot_eq m c)), ea⟩
  refine (θ_run _ _ _).mono (fun r h c => ?_) (Cert.MlaInRefIdeal.Value.run (F := Ideal) m' g')
  obtain ⟨e0, e1, e2, e3, e4, e5, ea⟩ := h c
  obtain ⟨h0, h1, h2, h3, h4⟩ := hag c
  rw [h0, h1, h3] at e0 e2
  rw [h0, h1] at e1 e3
  rw [h0, h1, h2, h4] at e4 e5
  exact ⟨e0.trans (Cert.MlaInRefIdeal.Mla.lat _ _ _), e1.trans (Cert.MlaInRefIdeal.Mla.rot _ _), e2.trans (Cert.MlaInRefIdeal.Mla.lat _ _ _),
    e3.trans (Cert.MlaInRefIdeal.Mla.rot _ _), e4.trans (Cert.MlaInRefIdeal.Mla.q _ _ _ _), e5.trans (Cert.MlaInRefIdeal.Mla.qrot _ _ _ _), ea⟩

end Cert.MlaInIdeal.Mla

end
-- ==== Proof.ScArr.lean ====
module

public import proofs.«01_k».proof.Proof.Gen.ShortConvIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ShortConvIdeal.Conv

open Cert.ShortConvIdeal Cert.ShortConvIdeal.Gen

/-- Three taps along a sequence of 2048 positions, zero outside it. -/
def taps (w0 w1 w2 : EReal) (p : Fin 2048 → EReal) (l : Fin 2048) : EReal :=
  (if h : l.val = 0 then 0 else w0 * p ⟨l.val - 1, by omega⟩) + w1 * p l + (if h : l.val = 2047 then 0 else w2 * p ⟨l.val + 1, by omega⟩)

/-- The test for a position of the lower rows. -/
theorem low_bit (t : Fin 2) : ∀ n : Fin 1040, IntOp.cmpi .eq (IntOp.andi (IntOp.addi (BitVec.ofNat 32 n.val) 0#32) 2047#32) (BitVec.ofNat 32 (t.val * 2047))
    = if n.val = t.val * 2047 then 1#1 else 0#1 := by
  revert t
  decide +kernel

/-- The test for a position of the upper rows. -/
theorem high_bit (t : Fin 2) : ∀ n : Fin 1040, IntOp.cmpi .eq (IntOp.andi (IntOp.addi (BitVec.ofNat 32 n.val) 1008#32) 2047#32) (BitVec.ofNat 32 (t.val * 2047))
    = if n.val + 1008 = t.val * 2047 then 1#1 else 0#1 := by
  revert t
  decide +kernel

/-- A selection by a decided bit. -/
theorem select_ite (p : Prop) [Decidable p] (a b : EReal) : Scalar.select (if p then 1#1 else 0#1) a b = if p then a else b := by
  split_ifs <;> rfl

/-- The lower rows of a tile, over the whole sequence's projections. -/
theorem pay8_at (w : Vec Ideal S3x256 .f32) (a b d : FVec Ideal S1040x256 .f32) (A B D : Fin 2048 → EReal) (j : Fin 256)
    (ha : ∀ i : Fin 1040, a (ix2 i j) = A ⟨i.val, by omega⟩) (hb : ∀ i : Fin 1040, b (ix2 i j) = B ⟨i.val, by omega⟩)
    (hd : ∀ i : Fin 1040, d (ix2 i j) = D ⟨i.val, by omega⟩) (i : Fin 1024) :
    k0_pay8 (F := Ideal) w a b d (ix2 i j)
      = A ⟨i.val, by omega⟩ * taps (w (ix2 0 j)) (w (ix2 1 j)) (w (ix2 2 j)) (fun l => B l * D l) ⟨i.val, by omega⟩ := by
  pointwise [k0_pay8, taps]
  have e0 := low_bit 0 ⟨i.val, by omega⟩
  have e1 := low_bit 1 ⟨i.val, by omega⟩
  simp only [Fin.val_zero, Fin.val_one, Nat.zero_mul, Nat.one_mul] at e0 e1
  rw [e0, e1, select_ite, select_ite]
  simp only [ha, hb, hd]
  by_cases h : i.val = 0
  · have h' : ¬ i.val = 2047 := by omega
    simp only [h, h', ↓reduceIte, ↓reduceDIte]
    norm_num
  · have h' : ¬ i.val = 2047 := by omega
    have e2 : (i.val + 1040 - 1) % 1040 = i.val - 1 := by omega
    have e3 : (i.val + 1040 - 1039) % 1040 = i.val + 1 := by omega
    simp only [h, h', e2, e3, ↓reduceIte, ↓reduceDIte]

/-- The upper rows of a tile, over the whole sequence's projections. -/
theorem pay1_at (w : Vec Ideal S3x256 .f32) (a b d : FVec Ideal S1040x256 .f32) (A B D : Fin 2048 → EReal) (j : Fin 256)
    (ha : ∀ i : Fin 1040, a (ix2 i j) = A ⟨1008 + i.val, by omega⟩) (hb : ∀ i : Fin 1040, b (ix2 i j) = B ⟨1008 + i.val, by omega⟩)
    (hd : ∀ i : Fin 1040, d (ix2 i j) = D ⟨1008 + i.val, by omega⟩) (i : Fin 1024) :
    k0_pay1 (F := Ideal) w a b d (iota .tc S1040x256 32 [0] iota_S1040x256_d0_w32) (ix2 i j)
      = A ⟨1024 + i.val, by omega⟩ * taps (w (ix2 0 j)) (w (ix2 1 j)) (w (ix2 2 j)) (fun l => B l * D l) ⟨1024 + i.val, by omega⟩ := by
  pointwise [k0_pay1, taps]
  have e0 := high_bit 0 ⟨16 + i.val, by omega⟩
  have e1 := high_bit 1 ⟨16 + i.val, by omega⟩
  simp only [Fin.val_zero, Fin.val_one, Nat.zero_mul, Nat.one_mul] at e0 e1
  rw [e0, e1, select_ite, select_ite]
  simp only [ha, hb, hd]
  have h0 : ¬ 16 + i.val + 1008 = 0 := by omega
  have h0' : ¬ 1024 + i.val = 0 := by omega
  have e2 : 1008 + (16 + i.val + 1040 - 1) % 1040 = 1024 + i.val - 1 := by omega
  have e4 : 1008 + (16 + i.val) = 1024 + i.val := by omega
  by_cases h : i.val = 1023
  · have h1 : 16 + i.val + 1008 = 2047 := by omega
    have h1' : 1024 + i.val = 2047 := by omega
    simp only [h0, h0', h1, h1', e2, e4, ↓reduceIte, ↓reduceDIte]
    norm_num
  · have h1 : ¬ 16 + i.val + 1008 = 2047 := by omega
    have h1' : ¬ 1024 + i.val = 2047 := by omega
    have e3 : 1008 + (16 + i.val + 1040 - 1039) % 1040 = 1024 + i.val + 1 := by omega
    simp only [h0, h0', h1, h1', e2, e3, e4, ↓reduceIte, ↓reduceDIte]

/-- One of the three projections of row `r` at a column. -/
def proj {a b : ℕ} (x0 : FVec Ideal ⟨2, ![a, 2048]⟩ .bf16) (x1 : FVec Ideal ⟨3, ![3, 2048, b]⟩ .bf16) (g : Fin 3) (r : Fin a) (j : Fin b) : EReal :=
  ∑ k : Fin 2048, x0 (ix2 r k) * x1 (ix3 g k j)

/-- The tile's result from its operands' blocks. -/
theorem out0_3_at (x0 : FVec Ideal S2048x2048 .bf16) (x1 : FVec Ideal S3x2048x256 .bf16) (x2 : FVec Ideal S3x256 .f32) (y : S2048x256.Idx) :
    out0_3 (F := Ideal) x0 x1 x2 y = proj x0 x1 0 (y 0) (y 1)
      * taps (x2 (ix2 0 (y 1))) (x2 (ix2 1 (y 1))) (x2 (ix2 2 (y 1))) (fun l => proj x0 x1 1 l (y 1) * proj x0 x1 2 l (y 1)) (y 0) := by
  unfold out0_3
  canon_tiles x hx
  · have ey0 : y 0 = ⟨1024 + (x 0).val, by omega⟩ := Fin.ext hx0
    have ey1 : y 1 = x 1 := Fin.ext hx1
    have ew : ∀ t : Fin 3, (show FVec Ideal S3x256 .f32 from View.ld (show Vec Ideal S3x256 .f32 from x2) r0_0) (ix2 t (x 1)) = x2 (ix2 t (x 1)) := by
      intro t
      pointwise
    rw [ey0, ey1, ← ew 0, ← ew 1, ← ew 2]
    refine (congrArg _ (eq_ix2 x)).trans (pay1_at _ _ _ _ (fun l => proj x0 x1 0 l (x 1)) (fun l => proj x0 x1 1 l (x 1)) (fun l => proj x0 x1 2 l (x 1)) (x 1) ?_ ?_ ?_ (x 0))
    all_goals
      intro i
      pointwise [k0_pay5, k0_pay6, k0_pay7, proj]
  · have ey0 : y 0 = ⟨(x 0).val, by omega⟩ := Fin.ext hx0
    have ey1 : y 1 = x 1 := Fin.ext hx1
    have ew : ∀ t : Fin 3, (show FVec Ideal S3x256 .f32 from View.ld (show Vec Ideal S3x256 .f32 from x2) r0_0) (ix2 t (x 1)) = x2 (ix2 t (x 1)) := by
      intro t
      pointwise
    rw [ey0, ey1, ← ew 0, ← ew 1, ← ew 2]
    refine (congrArg _ (eq_ix2 x)).trans (pay8_at _ _ _ _ (fun l => proj x0 x1 0 l (x 1)) (fun l => proj x0 x1 1 l (x 1)) (fun l => proj x0 x1 2 l (x 1)) (x 1) ?_ ?_ ?_ (x 0))
    all_goals
      intro i
      pointwise [k0_pay2, k0_pay3, k0_pay4, proj]

/-- The convolution's element of row `r`: 2048 rows to a sequence. -/
def scAt (x0 : FVec Ideal S16384x2048 .bf16) (x1 : FVec Ideal S3x2048x1024 .bf16) (x2 : FVec Ideal S3x1024 .f32) (b : Fin 8) (l : Fin 2048) (j : Fin 1024) : EReal :=
  proj x0 x1 0 ⟨b.val * 2048 + l.val, by omega⟩ j * taps (x2 (ix2 0 j)) (x2 (ix2 1 j)) (x2 (ix2 2 j))
    (fun l => proj x0 x1 1 ⟨b.val * 2048 + l.val, by omega⟩ j * proj x0 x1 2 ⟨b.val * 2048 + l.val, by omega⟩ j) l

/-- The convolution's array from the call's operands. -/
def SC (x0 : FVec Ideal S16384x2048 .bf16) (x1 : FVec Ideal S3x2048x1024 .bf16) (x2 : FVec Ideal S3x1024 .f32) : FVec Ideal S16384x1024 .bf16 :=
  fun i => scAt x0 x1 x2 ⟨(i 0).val / 2048, by have : (i 0).val < 16384 := (i 0).isLt; omega⟩ ⟨(i 0).val % 2048, by omega⟩ (i 1)

variable (m : (ℓ : Loc nD τ sig) → Buf (Elt Ideal) ℓ) (c : Dev nD)

/-- The windows, in closed form. -/
theorem idx0 : ∀ t : Fin cfg0.N, win0_0.index t = ![t.val / 4, 0] ∧ win0_1.index t = ![0, 0, t.val % 4] ∧ win0_2.index t = ![0, t.val % 4]
    ∧ win0_3.index t = ![t.val / 4, t.val % 4] :=
  (by decide +kernel : ∀ t : Fin grid0.N, _)

/-- A point's projections. -/
theorem proj_blk (t : Fin cfg0.N) (g : Fin 3) (r : Fin 2048) (j : Fin 256) :
    proj (show FVec Ideal S2048x2048 .bf16 from iblk m c 0 t) (show FVec Ideal S3x2048x256 .bf16 from iblk m c 1 t) g r j
      = proj (show FVec Ideal S16384x2048 .bf16 from V m c main_v9) (show FVec Ideal S3x2048x1024 .bf16 from V m c main_v7) g
        ⟨t.val / 4 * 2048 + r.val, by have := t.isLt; have : cfg0.N = 32 := N_0; omega⟩ ⟨t.val % 4 * 256 + j.val, by omega⟩ := by
  unfold proj
  blk_point [iblk, idx0 t]

/-- A point's taps. -/
theorem taps_blk (t : Fin cfg0.N) (g : Fin 3) (j : Fin 256) :
    (show FVec Ideal S3x256 .f32 from iblk m c 2 t) (ix2 g j) = (show FVec Ideal S3x1024 .f32 from V m c main_arg2) (ix2 g ⟨t.val % 4 * 256 + j.val, by omega⟩) := by
  blk_point [iblk, idx0 t]

/-- A point's tile of the convolution. -/
theorem sc_blk (t : Fin cfg0.N) (r : Fin 2048) (j : Fin 256) :
    proj (show FVec Ideal S2048x2048 .bf16 from iblk m c 0 t) (show FVec Ideal S3x2048x256 .bf16 from iblk m c 1 t) 0 r j
      * taps ((show FVec Ideal S3x256 .f32 from iblk m c 2 t) (ix2 0 j)) ((show FVec Ideal S3x256 .f32 from iblk m c 2 t) (ix2 1 j)) ((show FVec Ideal S3x256 .f32 from iblk m c 2 t) (ix2 2 j))
        (fun l => proj (show FVec Ideal S2048x2048 .bf16 from iblk m c 0 t) (show FVec Ideal S3x2048x256 .bf16 from iblk m c 1 t) 1 l j
          * proj (show FVec Ideal S2048x2048 .bf16 from iblk m c 0 t) (show FVec Ideal S3x2048x256 .bf16 from iblk m c 1 t) 2 l j) r
      = scAt (V m c main_v9) (V m c main_v7) (V m c main_arg2) ⟨t.val / 4, by have := t.isLt; have : cfg0.N = 32 := N_0; omega⟩ r ⟨t.val % 4 * 256 + j.val, by omega⟩ := by
  rw [taps_blk, taps_blk, taps_blk, proj_blk]
  simp only [proj_blk m c t]
  rfl

/-- The convolution's array. -/
theorem final3 : (dats m 0 c).arrAt 3 cfg0.N = SC (V m c main_v9) (V m c main_v7) (V m c main_arg2) := by
  refine (dats m 0 c).arrAt_eq_of_covers 3 _ (by decide +kernel) fun t _ y => ?_
  blk_simp
  rw [after0_3]
  refine (out0_3_at _ _ _ _).trans ((sc_blk m c t (y 0) (y 1)).trans ?_)
  unfold SC
  have e0 : (((View.whole main_v10).slice (win0_3.rect t)).emb y 0 : ℕ) = t.val / 4 * 2048 + (y 0 : ℕ) := by blk_simp [idx0 t]
  have e1 : (((View.whole main_v10).slice (win0_3.rect t)).emb y 1 : ℕ) = t.val % 4 * 256 + (y 1 : ℕ) := by blk_simp [idx0 t]
  have hy : (y 0 : ℕ) < 2048 := (y 0).isLt
  refine congr (congrArg₂ (scAt _ _ _) (Fin.ext ?_) (Fin.ext ?_)) (Fin.ext e1.symm)
  · show t.val / 4 = (((View.whole main_v10).slice (win0_3.rect t)).emb y 0 : ℕ) / 2048
    rw [e0]; omega
  · show (y 0 : ℕ) = (((View.whole main_v10).slice (win0_3.rect t)).emb y 0 : ℕ) % 2048
    rw [e0]; omega

end Cert.ShortConvIdeal.Conv

end
-- ==== Proof.ScEq.lean ====
module

public import proofs.«01_k».proof.Proof.ScArr
public import proofs.«01_k».proof.Proof.Gen.ShortConvRefIdeal.Run
public import proofs.«01_k».proof.Defs

@[expose] public section

set_option maxRecDepth 16384

noncomputable section

open Idealize.ShloMosaic Idealize.ShloMosaic.TcCoe Idealize.ShloMosaic.Tactic Idealize.SL.Sem

namespace Cert.ShortConvIdeal.Conv

open Cert.ShortConvIdeal Cert.ShortConvIdeal.Gen

/-- The input's rows. -/
def inT (h : FVec Ideal S8x2048x2048 .f32) : FVec Ideal S16384x2048 .bf16 :=
  truncf .bf16 (shapeCast S16384x2048 h shapeCasts_S8x2048x2048_S16384x2048) bitsLt_bf16_f32

/-- The three projections' weights, one above the other. -/
def weightsT (W : FVec Ideal S2048x13120 .f32) : FVec Ideal S3x2048x1024 .bf16 :=
  truncf .bf16 (concatenate S3x2048x1024 0 [⟨S1x2048x1024, broadcastInDim S1x2048x1024 ![1, 2] bcast_S2048x1024_S1x2048x1024_1_2 (extractStridedSlice S2048x1024 ![0, 3904] W slices_S2048x13120_S2048x1024_0_3904)⟩,
    ⟨S1x2048x1024, broadcastInDim S1x2048x1024 ![1, 2] bcast_S2048x1024_S1x2048x1024_1_2 (extractStridedSlice S2048x1024 ![0, 4928] W slices_S2048x13120_S2048x1024_0_4928)⟩,
    ⟨S1x2048x1024, broadcastInDim S1x2048x1024 ![1, 2] bcast_S2048x1024_S1x2048x1024_1_2 (extractStridedSlice S2048x1024 ![0, 5952] W slices_S2048x13120_S2048x1024_0_5952)⟩] concatenates_S1x2048x1024_S1x2048x1024_S1x2048x1024_S3x2048x1024_d0) bitsLt_bf16_f32

/-- An element of the input's rows. -/
theorem inT_at (h : FVec Ideal S8x2048x2048 .f32) (b : Fin 8) (l : Fin 2048) (k : Fin 2048) :
    inT h (ix2 ⟨b.val * 2048 + l.val, by omega⟩ k) = h (ix3 b l k) := by
  pointwise [inT]

/-- A weight of the first projection. -/
theorem weightsT_0 (W : FVec Ideal S2048x13120 .f32) (k : Fin 2048) (j : Fin 1024) : weightsT W (ix3 0 k j) = W (ix2 k ⟨3904 + j.val, by omega⟩) := by
  pointwise [weightsT]

/-- A weight of the second projection. -/
theorem weightsT_1 (W : FVec Ideal S2048x13120 .f32) (k : Fin 2048) (j : Fin 1024) : weightsT W (ix3 1 k j) = W (ix2 k ⟨4928 + j.val, by omega⟩) := by
  pointwise [weightsT]

/-- A weight of the third projection. -/
theorem weightsT_2 (W : FVec Ideal S2048x13120 .f32) (k : Fin 2048) (j : Fin 1024) : weightsT W (ix3 2 k j) = W (ix2 k ⟨5952 + j.val, by omega⟩) := by
  pointwise [weightsT]

/-- A column of the input's projection. -/
def vproj (h : FVec Ideal S8x2048x2048 .f32) (W : FVec Ideal S2048x13120 .f32) (b : Fin 8) (l : Fin 2048) (j : Fin 13120) : EReal :=
  ∑ k : Fin 2048, h (ix3 b l k) * W (ix2 k j)

/-- The convolution's element, from the problem's arrays. -/
def VALUE (h : FVec Ideal S8x2048x2048 .f32) (W : FVec Ideal S2048x13120 .f32) (w : FVec Ideal S3x1024 .f32) (b : Fin 8) (l : Fin 2048) (j : Fin 1024) : EReal :=
  vproj h W b l ⟨3904 + j.val, by omega⟩ * taps (w (ix2 0 j)) (w (ix2 1 j)) (w (ix2 2 j))
    (fun l => vproj h W b l ⟨4928 + j.val, by omega⟩ * vproj h W b l ⟨5952 + j.val, by omega⟩) l

/-- The convolution of the packed arrays, element by element. -/
theorem sc_at (h : FVec Ideal S8x2048x2048 .f32) (W : FVec Ideal S2048x13120 .f32) (w : FVec Ideal S3x1024 .f32) (b : Fin 8) (l : Fin 2048) (j : Fin 1024) :
    scAt (inT h) (weightsT W) w b l j = VALUE h W w b l j := by
  unfold scAt VALUE proj vproj
  simp only [inT_at, weightsT_0, weightsT_1, weightsT_2]

variable (m : (ℓ : Loc nD τ sig) → Buf (Elt Ideal) ℓ) (c : Dev nD)

/-- The convolution's array, from the arguments. -/
def OUT : FVec Ideal S16384x1024 .bf16 :=
  SC (inT (m ((c.tc : Thread nD τ).loc main_arg0))) (weightsT (m ((c.tc : Thread nD τ).loc main_arg1))) (m ((c.tc : Thread nD τ).loc main_arg2))

/-- The input's rows, as the call takes them. -/
theorem v9_eq : (show FVec Ideal S16384x2048 .bf16 from V m c main_v9) = inT (m ((c.tc : Thread nD τ).loc main_arg0)) := by
  show StableHlo.after hostOps0 (fun b => m (c, b)) main_v9 = _
  after_results <;> rfl

/-- The weights, as the call takes them. -/
theorem v7_eq : (show FVec Ideal S3x2048x1024 .bf16 from V m c main_v7) = weightsT (m ((c.tc : Thread nD τ).loc main_arg1)) := by
  show StableHlo.after hostOps0 (fun b => m (c, b)) main_v7 = _
  after_results <;> rfl

/-- The taps, as the call takes them. -/
theorem arg2_eq : (show FVec Ideal S3x1024 .f32 from V m c main_arg2) = m ((c.tc : Thread nD τ).loc main_arg2) := by
  show StableHlo.after hostOps0 (fun b => m (c, b)) main_arg2 = _
  after_results <;> rfl

/-- Three equal arguments give equal results. -/
theorem congrArg₃ {α₁ α₂ α₃ β : Type} (f : α₁ → α₂ → α₃ → β) {a₁ b₁ a₂ b₂ a₃ b₃} (h₁ : a₁ = b₁) (h₂ : a₂ = b₂) (h₃ : a₃ = b₃) :
    f a₁ a₂ a₃ = f b₁ b₂ b₃ := by
  subst h₁ h₂ h₃; rfl

/-- The convolution's array at the end of the run. -/
theorem final : (show FVec Ideal S16384x1024 .bf16 from (dats m 0 c).arrAt 3 cfg0.N) = OUT m c :=
  (final3 m c).trans (congrArg₃ SC (v9_eq m c) (v7_eq m c) (arg2_eq m c))

end Cert.ShortConvIdeal.Conv

namespace Cert.ShortConvRefIdeal.Conv

open Cert.ShortConvRefIdeal Cert.ShortConvRefIdeal.Gen Cert.ShortConvIdeal.Conv

/-- The reference's projection. -/
def projT (h : FVec Ideal S8x2048x2048 .f32) (W : FVec Ideal S2048x13120 .f32) : FVec Ideal S8x2048x3072 .f32 :=
  extractStridedSlice S8x2048x3072 ![0, 0, 3904] (Host.dotGeneral dot_S8x2048x2048_S2048x13120_S8x2048x13120_2_0_01_1_n_n none h W) slices_S8x2048x13120_S8x2048x3072_0_0_3904

/-- The reference's product of the second and third projections. -/
def prodT (P : FVec Ideal S8x2048x3072 .f32) : FVec Ideal S8x2048x1024 .f32 :=
  mulf (extractStridedSlice S8x2048x1024 ![0, 0, 1024] P slices_S8x2048x3072_S8x2048x1024_0_0_1024) (extractStridedSlice S8x2048x1024 ![0, 0, 2048] P slices_S8x2048x3072_S8x2048x1024_0_0_2048)

/-- The reference's convolution along the sequence. -/
def convT (x : FVec Ideal S8x2048x1024 .f32) (w : FVec Ideal S3x1024 .f32) : FVec Ideal S8x2048x1024 .f32 :=
  addf (addf (mulf (extractStridedSlice S8x2048x1024 ![0, 0, 0] (pad S8x2050x1024 ![0, 1, 0] ![0, 1, 0] ![0, 0, 0] x (sitofp .f32 (constantI S_ 32 0#32)) pads_S8x2048x1024_S8x2050x1024_000_110_000 h_S_) slices_S8x2050x1024_S8x2048x1024_0_0_0) (broadcastInDim S8x2048x1024 ![0, 1, 2] bcast_S1x1x1024_S8x2048x1024_0_1_2 (broadcastInDim S1x1x1024 ![2] bcast_S1024_S1x1x1024_2 (shapeCast S1024 (extractStridedSlice S1x1024 ![0, 0] w slices_S3x1024_S1x1024_0_0) shapeCasts_S1x1024_S1024))))
    (mulf x (broadcastInDim S8x2048x1024 ![0, 1, 2] bcast_S1x1x1024_S8x2048x1024_0_1_2 (broadcastInDim S1x1x1024 ![2] bcast_S1024_S1x1x1024_2 (shapeCast S1024 (extractStridedSlice S1x1024 ![1, 0] w slices_S3x1024_S1x1024_1_0) shapeCasts_S1x1024_S1024)))))
    (mulf (extractStridedSlice S8x2048x1024 ![0, 2, 0] (pad S8x2050x1024 ![0, 1, 0] ![0, 1, 0] ![0, 0, 0] x (sitofp .f32 (constantI S_ 32 0#32)) pads_S8x2048x1024_S8x2050x1024_000_110_000 h_S_) slices_S8x2050x1024_S8x2048x1024_0_2_0) (broadcastInDim S8x2048x1024 ![0, 1, 2] bcast_S1x1x1024_S8x2048x1024_0_1_2 (broadcastInDim S1x1x1024 ![2] bcast_S1024_S1x1x1024_2 (shapeCast S1024 (extractStridedSlice S1x1024 ![2, 0] w slices_S3x1024_S1x1024_2_0) shapeCasts_S1x1024_S1024))))

/-- The reference's result. -/
def allT (h : FVec Ideal S8x2048x2048 .f32) (W : FVec Ideal S2048x13120 .f32) (w : FVec Ideal S3x1024 .f32) : FVec Ideal S16384x1024 .bf16 :=
  truncf .bf16 (shapeCast S16384x1024 (mulf (extractStridedSlice S8x2048x1024 ![0, 0, 0] (projT h W) slices_S8x2048x3072_S8x2048x1024_0_0_0) (convT (prodT (projT h W)) w)) shapeCasts_S8x2048x1024_S16384x1024) bitsLt_bf16_f32

/-- The reference's projection, at an index. -/
theorem projT_at (h : FVec Ideal S8x2048x2048 .f32) (W : FVec Ideal S2048x13120 .f32) (b : Fin 8) (l : Fin 2048) (j : Fin 3072) :
    projT h W (ix3 b l j) = vproj h W b l ⟨3904 + j.val, by omega⟩ := by
  pointwise [projT, vproj]

/-- The convolution along the sequence, at an index. -/
theorem convT_at (x : FVec Ideal S8x2048x1024 .f32) (w : FVec Ideal S3x1024 .f32) (b : Fin 8) (l : Fin 2048) (j : Fin 1024) :
    convT x w (ix3 b l j) = taps (w (ix2 0 j)) (w (ix2 1 j)) (w (ix2 2 j)) (fun l => x (ix3 b l j)) l := by
  pointwise [convT, taps]
  have hz : (FloatOps.sitofp FTy.f32 0#32 : Ideal FTy.f32) = 0 := by
    show (((0#32 : BitVec 32).toInt : ℝ) : EReal) = 0
    norm_num
  rw [hz]
  have e0 : ∀ h h', (x (ix3 b ⟨2 + l.val - 1, h⟩ j)) = x (ix3 b ⟨l.val + 1, h'⟩ j) := fun _ _ => congrArg (fun a => x (ix3 b a j)) (Fin.ext (by show 2 + l.val - 1 = l.val + 1; omega))
  refine congrArg₂ (· + ·) (congrArg₂ (· + ·) ?_ (mul_comm _ _)) ?_
  · by_cases h : l.val = 0
    · rw [dif_neg (by omega), dif_pos h, zero_mul]
    · rw [dif_pos ⟨by omega, by omega⟩, dif_neg h, mul_comm]
  · by_cases h : l.val = 2047
    · rw [dif_neg (by omega), dif_pos h, zero_mul]
    · rw [dif_pos ⟨by omega, by omega⟩, dif_neg h, mul_comm, e0]

/-- The reference's result, at an index. -/
theorem allT_at (h : FVec Ideal S8x2048x2048 .f32) (W : FVec Ideal S2048x13120 .f32) (w : FVec Ideal S3x1024 .f32) (r : Fin 16384) (j : Fin 1024) :
    allT h W w (ix2 r j) = VALUE h W w ⟨r.val / 2048, by omega⟩ ⟨r.val % 2048, by omega⟩ j := by
  unfold allT VALUE
  simp only [show ∀ (l : Fin 2048), vproj h W ⟨r.val / 2048, by omega⟩ l ⟨3904 + j.val, by omega⟩ = projT h W (ix3 ⟨r.val / 2048, by omega⟩ l ⟨j.val, by omega⟩) from fun l => (projT_at h W ⟨r.val / 2048, by omega⟩ l ⟨j.val, by omega⟩).symm,
    show ∀ (l : Fin 2048), vproj h W ⟨r.val / 2048, by omega⟩ l ⟨4928 + j.val, by omega⟩ = projT h W (ix3 ⟨r.val / 2048, by omega⟩ l ⟨1024 + j.val, by omega⟩) from fun l => ((projT_at h W _ l _).trans (congrArg _ (Fin.ext (by show 3904 + (1024 + j.val) = 4928 + j.val; omega)))).symm,
    show ∀ (l : Fin 2048), vproj h W ⟨r.val / 2048, by omega⟩ l ⟨5952 + j.val, by omega⟩ = projT h W (ix3 ⟨r.val / 2048, by omega⟩ l ⟨2048 + j.val, by omega⟩) from fun l => ((projT_at h W _ l _).trans (congrArg _ (Fin.ext (by show 3904 + (2048 + j.val) = 5952 + j.val; omega)))).symm]
  generalize projT h W = P
  generalize hC : convT (prodT P) w = C
  pointwise
  subst hC
  rw [convT_at]
  refine congrArg (fun p => P (ix3 ⟨r.val / 2048, by omega⟩ ⟨r.val % 2048, by omega⟩ ⟨j.val, by omega⟩) * taps (w (ix2 0 j)) (w (ix2 1 j)) (w (ix2 2 j)) p ⟨r.val % 2048, by omega⟩) (funext fun l => ?_)
  pointwise [prodT]

end Cert.ShortConvRefIdeal.Conv

namespace Cert.ShortConvIdeal.Conv

open Cert.ShortConvIdeal Cert.ShortConvIdeal.Gen

/-- The short convolution and its reference end with equal results. -/
theorem algebraic : Cert.algebraic_ShortConvIdeal_ShortConvRefIdeal (hShortConvIdeal := Cert.ShortConvIdeal.Gen.facts)
    (hShortConvRefIdeal := Cert.ShortConvRefIdeal.Gen.facts) := by
  intro m g m' g' _ hag
  refine ⟨fun c => OUT m c, (θ_run _ _ _).mono (fun r h c => ?_) (Cert.ShortConvIdeal.Value.run_blocks (F := Ideal) m g), ?_⟩
  · exact ⟨(h c).1.trans (final m c), (h c).2⟩
  refine (θ_run _ _ _).mono (fun r h c => ?_) (Cert.ShortConvRefIdeal.Value.run (F := Ideal) m' g')
  refine ⟨(h c).1.trans ?_, (h c).2⟩
  obtain ⟨h0, h1, h2⟩ := hag c
  rw [h0, h1, h2]
  funext i
  rw [eq_ix2 i]
  exact (Cert.ShortConvRefIdeal.Conv.allT_at _ _ _ (i 0) (i 1)).trans (sc_at _ _ _ _ _ (i 1)).symm

end Cert.ShortConvIdeal.Conv

end
-- ==== Proof.FfnBody.lean ====
module

public import proofs.«01_k».proof.Proof.Gen.FfnIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.ShloMosaic.Tactic Idealize.SL.Sem

namespace Cert.FfnIdeal.Ffn

open Cert.FfnIdeal Cert.FfnIdeal.Gen

variable {F : FTy → Type} [FloatOps F]

/-- One step of the up-projection's contraction. -/
def stepT (a : Vec F S528x256 .bf16) (b : Vec F S1x256x256 .bf16) : FVec F S528x256 .f32 :=
  matmul dot_S528x256_S256x256_S528x256_1_0_0_1_n_n none a (shapeCast S256x256 b shapeCasts_S1x256x256_S256x256) (constant S528x256 .f32 0x00000000#32)

/-- The first half of a chunk's up-projection. -/
def up0T (hx : Vec F S528x2048 .bf16) (w : Vec F S2x2048x256 .bf16) : FVec F S528x256 .f32 :=
  addf (addf (addf (addf (addf (addf (addf (stepT (View.ld hx (Rect.unit ![0, 0] ![528, 256] inb_S528x2048_S528x256_0_0)) (View.ld w (Rect.unit ![0, 0, 0] ![1, 256, 256] inb_S2x2048x256_S1x256x256_0_0_0)))
    (stepT (View.ld hx (Rect.unit ![0, 256] ![528, 256] inb_S528x2048_S528x256_0_256)) (View.ld w (Rect.unit ![0, 256, 0] ![1, 256, 256] inb_S2x2048x256_S1x256x256_0_256_0))))
    (stepT (View.ld hx (Rect.unit ![0, 512] ![528, 256] inb_S528x2048_S528x256_0_512)) (View.ld w (Rect.unit ![0, 512, 0] ![1, 256, 256] inb_S2x2048x256_S1x256x256_0_512_0))))
    (stepT (View.ld hx (Rect.unit ![0, 768] ![528, 256] inb_S528x2048_S528x256_0_768)) (View.ld w (Rect.unit ![0, 768, 0] ![1, 256, 256] inb_S2x2048x256_S1x256x256_0_768_0))))
    (stepT (View.ld hx (Rect.unit ![0, 1024] ![528, 256] inb_S528x2048_S528x256_0_1024)) (View.ld w (Rect.unit ![0, 1024, 0] ![1, 256, 256] inb_S2x2048x256_S1x256x256_0_1024_0))))
    (stepT (View.ld hx (Rect.unit ![0, 1280] ![528, 256] inb_S528x2048_S528x256_0_1280)) (View.ld w (Rect.unit ![0, 1280, 0] ![1, 256, 256] inb_S2x2048x256_S1x256x256_0_1280_0))))
    (stepT (View.ld hx (Rect.unit ![0, 1536] ![528, 256] inb_S528x2048_S528x256_0_1536)) (View.ld w (Rect.unit ![0, 1536, 0] ![1, 256, 256] inb_S2x2048x256_S1x256x256_0_1536_0))))
    (stepT (View.ld hx (Rect.unit ![0, 1792] ![528, 256] inb_S528x2048_S528x256_0_1792)) (View.ld w (Rect.unit ![0, 1792, 0] ![1, 256, 256] inb_S2x2048x256_S1x256x256_0_1792_0)))

/-- The second half of a chunk's up-projection. -/
def up1T (hx : Vec F S528x2048 .bf16) (w : Vec F S2x2048x256 .bf16) : FVec F S528x256 .f32 :=
  addf (addf (addf (addf (addf (addf (addf (stepT (View.ld hx (Rect.unit ![0, 0] ![528, 256] inb_S528x2048_S528x256_0_0)) (View.ld w (Rect.unit ![1, 0, 0] ![1, 256, 256] inb_S2x2048x256_S1x256x256_1_0_0)))
    (stepT (View.ld hx (Rect.unit ![0, 256] ![528, 256] inb_S528x2048_S528x256_0_256)) (View.ld w (Rect.unit ![1, 256, 0] ![1, 256, 256] inb_S2x2048x256_S1x256x256_1_256_0))))
    (stepT (View.ld hx (Rect.unit ![0, 512] ![528, 256] inb_S528x2048_S528x256_0_512)) (View.ld w (Rect.unit ![1, 512, 0] ![1, 256, 256] inb_S2x2048x256_S1x256x256_1_512_0))))
    (stepT (View.ld hx (Rect.unit ![0, 768] ![528, 256] inb_S528x2048_S528x256_0_768)) (View.ld w (Rect.unit ![1, 768, 0] ![1, 256, 256] inb_S2x2048x256_S1x256x256_1_768_0))))
    (stepT (View.ld hx (Rect.unit ![0, 1024] ![528, 256] inb_S528x2048_S528x256_0_1024)) (View.ld w (Rect.unit ![1, 1024, 0] ![1, 256, 256] inb_S2x2048x256_S1x256x256_1_1024_0))))
    (stepT (View.ld hx (Rect.unit ![0, 1280] ![528, 256] inb_S528x2048_S528x256_0_1280)) (View.ld w (Rect.unit ![1, 1280, 0] ![1, 256, 256] inb_S2x2048x256_S1x256x256_1_1280_0))))
    (stepT (View.ld hx (Rect.unit ![0, 1536] ![528, 256] inb_S528x2048_S528x256_0_1536)) (View.ld w (Rect.unit ![1, 1536, 0] ![1, 256, 256] inb_S2x2048x256_S1x256x256_1_1536_0))))
    (stepT (View.ld hx (Rect.unit ![0, 1792] ![528, 256] inb_S528x2048_S528x256_0_1792)) (View.ld w (Rect.unit ![1, 1792, 0] ![1, 256, 256] inb_S2x2048x256_S1x256x256_1_1792_0)))

/-- The stores of a chunk's up-projection, half by half. -/
def upP (hx : Vec F S528x2048 .bf16) (w : Vec F S2x2048x256 .bf16) : List (View.Piece (Elt F) S2x528x256 .f32) :=
  [⟨Rect.unit ![1, 0, 0] ![1, 528, 256] inb_S2x528x256_S1x528x256_1_0_0, shapeCast S1x528x256 (up1T hx w) shapeCasts_S528x256_S1x528x256⟩,
    ⟨Rect.unit ![0, 0, 0] ![1, 528, 256] inb_S2x528x256_S1x528x256_0_0_0, shapeCast S1x528x256 (up0T hx w) shapeCasts_S528x256_S1x528x256⟩]

/-- A chunk's up-projection. -/
def upT (hx : Vec F S528x2048 .bf16) (w : Vec F S2x2048x256 .bf16) : Vec F S2x528x256 .f32 := View.canon (upP hx w)

/-- The convolution's three taps and its bias over 64 rows. -/
def tapT (u : FVec F S80x256 .f32) (w0 w1 w2 w3 : Vec F S1x1x256 .f32) : FVec F S64x256 .f32 :=
  addf (addf (addf (mulf (broadcastTo S64x256 (shapeCast S1x256 w0 shapeCasts_S1x1x256_S1x256) broadcasts_S1x256_S64x256) (extractStridedSlice S64x256 ![7, 0] u slices_S80x256_o7_0_S64x256))
      (mulf (broadcastTo S64x256 (shapeCast S1x256 w1 shapeCasts_S1x1x256_S1x256) broadcasts_S1x256_S64x256) (extractStridedSlice S64x256 ![8, 0] u slices_S80x256_o8_0_S64x256)))
      (mulf (broadcastTo S64x256 (shapeCast S1x256 w2 shapeCasts_S1x1x256_S1x256) broadcasts_S1x256_S64x256) (extractStridedSlice S64x256 ![9, 0] u slices_S80x256_o9_0_S64x256)))
    (broadcastTo S64x256 (shapeCast S1x256 w3 shapeCasts_S1x1x256_S1x256) broadcasts_S1x256_S64x256)

/-- The gated product over 64 rows. -/
def gateT (a b : FVec F S64x256 .f32) : FVec F S64x256 .bf16 :=
  shapeCast S64x256 (truncf .bf16 (mulf (mulf a (logistic a)) b) bitsLt_bf16_f32) shapeCasts_S64x256_S64x256

/-- 64 rows of the activation, from the rows around them. -/
def pieceT (cw : Vec F S4x2x256 .f32) (u0 u1 : FVec F S80x256 .f32) : FVec F S64x256 .bf16 :=
  gateT (tapT u0 (View.ld cw (Rect.unit ![0, 0, 0] ![1, 1, 256] inb_S4x2x256_S1x1x256_0_0_0)) (View.ld cw (Rect.unit ![1, 0, 0] ![1, 1, 256] inb_S4x2x256_S1x1x256_1_0_0)) (View.ld cw (Rect.unit ![2, 0, 0] ![1, 1, 256] inb_S4x2x256_S1x1x256_2_0_0)) (View.ld cw (Rect.unit ![3, 0, 0] ![1, 1, 256] inb_S4x2x256_S1x1x256_3_0_0)))
    (tapT u1 (View.ld cw (Rect.unit ![0, 1, 0] ![1, 1, 256] inb_S4x2x256_S1x1x256_0_1_0)) (View.ld cw (Rect.unit ![1, 1, 0] ![1, 1, 256] inb_S4x2x256_S1x1x256_1_1_0)) (View.ld cw (Rect.unit ![2, 1, 0] ![1, 1, 256] inb_S4x2x256_S1x1x256_2_1_0)) (View.ld cw (Rect.unit ![3, 1, 0] ![1, 1, 256] inb_S4x2x256_S1x1x256_3_1_0)))

/-- Rows of a half of the up-projection. -/
def rowsT (u : Vec F S1x80x256 .f32) : FVec F S80x256 .f32 := shapeCast S80x256 u shapeCasts_S1x80x256_S80x256

/-- The first rows of a half of the up-projection, below those before them. -/
def wrapT (a : Vec F S1x8x256 .f32) (b : Vec F S1x72x256 .f32) : FVec F S80x256 .f32 :=
  concatenate S80x256 0 [⟨S8x256, shapeCast S8x256 a shapeCasts_S1x8x256_S8x256⟩, ⟨S72x256, shapeCast S72x256 b shapeCasts_S1x72x256_S72x256⟩] concatenates_S8x256_S72x256_S80x256_d0

/-- The stores of a chunk's activation, 64 rows each. -/
def actP (u : Vec F S2x528x256 .f32) (cw : Vec F S4x2x256 .f32) : List (View.Piece (Elt F) S512x256 .bf16) :=
  [⟨Rect.unit ![448, 0] ![64, 256] inb_S512x256_S64x256_448_0, pieceT cw (rowsT (View.ld u (Rect.unit ![0, 440, 0] ![1, 80, 256] inb_S2x528x256_S1x80x256_0_440_0))) (rowsT (View.ld u (Rect.unit ![1, 440, 0] ![1, 80, 256] inb_S2x528x256_S1x80x256_1_440_0)))⟩,
    ⟨Rect.unit ![384, 0] ![64, 256] inb_S512x256_S64x256_384_0, pieceT cw (rowsT (View.ld u (Rect.unit ![0, 376, 0] ![1, 80, 256] inb_S2x528x256_S1x80x256_0_376_0))) (rowsT (View.ld u (Rect.unit ![1, 376, 0] ![1, 80, 256] inb_S2x528x256_S1x80x256_1_376_0)))⟩,
    ⟨Rect.unit ![320, 0] ![64, 256] inb_S512x256_S64x256_320_0, pieceT cw (rowsT (View.ld u (Rect.unit ![0, 312, 0] ![1, 80, 256] inb_S2x528x256_S1x80x256_0_312_0))) (rowsT (View.ld u (Rect.unit ![1, 312, 0] ![1, 80, 256] inb_S2x528x256_S1x80x256_1_312_0)))⟩,
    ⟨Rect.unit ![256, 0] ![64, 256] inb_S512x256_S64x256_256_0, pieceT cw (rowsT (View.ld u (Rect.unit ![0, 248, 0] ![1, 80, 256] inb_S2x528x256_S1x80x256_0_248_0))) (rowsT (View.ld u (Rect.unit ![1, 248, 0] ![1, 80, 256] inb_S2x528x256_S1x80x256_1_248_0)))⟩,
    ⟨Rect.unit ![192, 0] ![64, 256] inb_S512x256_S64x256_192_0, pieceT cw (rowsT (View.ld u (Rect.unit ![0, 184, 0] ![1, 80, 256] inb_S2x528x256_S1x80x256_0_184_0))) (rowsT (View.ld u (Rect.unit ![1, 184, 0] ![1, 80, 256] inb_S2x528x256_S1x80x256_1_184_0)))⟩,
    ⟨Rect.unit ![128, 0] ![64, 256] inb_S512x256_S64x256_128_0, pieceT cw (rowsT (View.ld u (Rect.unit ![0, 120, 0] ![1, 80, 256] inb_S2x528x256_S1x80x256_0_120_0))) (rowsT (View.ld u (Rect.unit ![1, 120, 0] ![1, 80, 256] inb_S2x528x256_S1x80x256_1_120_0)))⟩,
    ⟨Rect.unit ![64, 0] ![64, 256] inb_S512x256_S64x256_64_0, pieceT cw (rowsT (View.ld u (Rect.unit ![0, 56, 0] ![1, 80, 256] inb_S2x528x256_S1x80x256_0_56_0))) (rowsT (View.ld u (Rect.unit ![1, 56, 0] ![1, 80, 256] inb_S2x528x256_S1x80x256_1_56_0)))⟩,
    ⟨Rect.unit ![0, 0] ![64, 256] inb_S512x256_S64x256_0_0, pieceT cw (wrapT (View.ld u (Rect.unit ![0, 520, 0] ![1, 8, 256] inb_S2x528x256_S1x8x256_0_520_0)) (View.ld u (Rect.unit ![0, 0, 0] ![1, 72, 256] inb_S2x528x256_S1x72x256_0_0_0))) (wrapT (View.ld u (Rect.unit ![1, 520, 0] ![1, 8, 256] inb_S2x528x256_S1x8x256_1_520_0)) (View.ld u (Rect.unit ![1, 0, 0] ![1, 72, 256] inb_S2x528x256_S1x72x256_1_0_0)))⟩]

/-- A chunk's activation. -/
def actT (u : Vec F S2x528x256 .f32) (cw : Vec F S4x2x256 .f32) : Vec F S512x256 .bf16 := View.canon (actP u cw)

/-- The stores of a chunk's activation reach every element. -/
theorem act_cover (u : Vec F S2x528x256 .f32) (cw : Vec F S4x2x256 .f32) (y : S512x256.Idx) : ∃ p ∈ actP u cw, y ∈ p.1.set :=
  View.cover_of_tiled (actP u cw) ![64, 256] rfl y

/-- Stores that reach every element hide those before them. -/
theorem canon_over {s : Shape} {e : EltTy} : ∀ (L L' : List (View.Piece (Elt F) s e)) (y : s.Idx), (∃ p ∈ L, y ∈ p.1.set) → View.canon (L ++ L') y = View.canon L y
  | [], _, _, h => by
    obtain ⟨p, hp, _⟩ := h
    exact absurd hp List.not_mem_nil
  | p :: L, L', y, h => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine canon_over L L' y ?_
      obtain ⟨q, hq, hy⟩ := h
      rcases List.mem_cons.mp hq with rfl | hq
      · exact absurd hy hm
      · exact ⟨q, hq, hy⟩

/-- A chunk's up-projection, stored over earlier stores. -/
theorem up_over (hx : Vec F S528x2048 .bf16) (w : Vec F S2x2048x256 .bf16) (L : List (View.Piece (Elt F) S2x528x256 .f32)) : View.canon (upP hx w ++ L) = upT hx w :=
  funext fun y => canon_over (upP hx w) L y (View.cover_of_tiled (upP hx w) ![1, 528, 256] rfl y)

/-- A chunk's activation, stored over earlier stores. -/
theorem act_over (u : Vec F S2x528x256 .f32) (cw : Vec F S4x2x256 .f32) (L : List (View.Piece (Elt F) S512x256 .bf16)) : View.canon (actP u cw ++ L) = actT u cw :=
  funext fun y => canon_over (actP u cw) L y (act_cover u cw y)

/-- A chunk's down-projection. -/
def downT (a : Vec F S512x256 .bf16) (w : Vec F S256x2048 .bf16) : FVec F S512x2048 .f32 :=
  matmul dot_S512x256_S256x2048_S512x2048_1_0_0_1_n_n none a w (constant S512x2048 .f32 0x00000000#32)

/-- A chunk's down-projection, added to those before it. -/
def moreT (s : Vec F S512x2048 .f32) (a : Vec F S512x256 .bf16) (w : Vec F S256x2048 .bf16) : FVec F S512x2048 .f32 :=
  shapeCast S512x2048 (addf s (downT a w)) shapeCasts_S512x2048_S512x2048

/-- A block's rows, with those after and before it. -/
def rowsAroundT (i : BitVec 32) (x0 : Vec F S512x2048 .bf16) (x1 x2 : Vec F S16x2048 .bf16) : Vec F S528x2048 .bf16 :=
  View.canon [⟨Rect.unit ![512, 0] ![16, 2048] inb_S528x2048_S16x2048_512_0,
      k0_pay1 (k0_pay7 i x2) 2048#32 (Scalar.remsi (Scalar.muli i 512#32) 2048#32) (Scalar.cmpi .ne (Scalar.remsi (Scalar.muli i 512#32) 2048#32) 0#32) 0#32 x1⟩,
    ⟨Rect.unit ![512, 0] ![16, 2048] inb_S528x2048_S16x2048_512_0, k0_pay6⟩,
    ⟨Rect.unit ![0, 0] ![512, 2048] inb_S528x2048_S512x2048_0_0, k0_pay5 x0⟩]

/-- A covered load reads what the stores left. -/
theorem readCov_ld {sig : RefSig} {κ : Kind} {sp : Space} {s : Shape} {e : EltTy} (v : View sig κ sp s e) (L : List (View.Piece (Elt F) s e)) (r : Rect s) :
    v.readCov L r.toLoadRect = View.ld (View.canon L) r :=
  View.readCov_eq_canon' v L r.toLoadRect

variable (m : (ℓ : Loc nD τ sig) → Buf (Elt F) ℓ) (c : Dev nD) (t : Fin cfg0.N)

section First

variable (h0 : t.val % 11 = 0)
include h0

/-- The rows that the first chunk of a block leaves. -/
theorem rows_A : (outsAt0 m c t.val t.isLt).2.1 = rowsAroundT (BitVec.ofNat 32 (grid0.coords t 0).val) (iblk m c 0 t) (iblk m c 1 t) (iblk m c 2 t) := by
  rw [outsAt0_A m c t h0 h0 (by omega) (by omega)]
  funext y
  frame_out

set_option maxHeartbeats 400000 in
/-- The second chunk's up-projection that the first point of a block leaves. -/
theorem up_A : (outsAt0 m c t.val t.isLt).2.2.1
    = upT (rowsAroundT (BitVec.ofNat 32 (grid0.coords t 0).val) (iblk m c 0 t) (iblk m c 1 t) (iblk m c 2 t)) (iblk m c 4 t) := by
  rw [outsAt0_A m c t h0 h0 (by omega) (by omega)]
  funext y
  frame_out [readCov_ld]
  rfl

set_option maxHeartbeats 400000 in
/-- The second chunk's taps that the first point of a block leaves. -/
theorem taps_A : (outsAt0 m c t.val t.isLt).2.2.2.1 = k0_pay65 (iblk m c 6 t) := by
  rw [outsAt0_A m c t h0 h0 (by omega) (by omega)]
  funext y
  frame_out

set_option maxHeartbeats 400000 in
/-- The second chunk's weights that the first point of a block leaves. -/
theorem weights_A : (outsAt0 m c t.val t.isLt).2.2.2.2.1 = k0_pay2 (k0_pay66 (iblk m c 8 t)) := by
  rw [outsAt0_A m c t h0 h0 (by omega) (by omega)]
  funext y
  frame_out

set_option maxHeartbeats 1000000 in
/-- The sum that the first point of a block leaves. -/
theorem sum_A : (outsAt0 m c t.val t.isLt).2.2.2.2.2
    = shapeCast S512x2048 (downT (actT (upT (rowsAroundT (BitVec.ofNat 32 (grid0.coords t 0).val) (iblk m c 0 t) (iblk m c 1 t) (iblk m c 2 t)) (iblk m c 3 t)) (iblk m c 5 t)) (shapeCast S256x2048 (show Vec F S256x2048 .bf16 from iblk m c 7 t) shapeCasts_S256x2048_S256x2048))
      shapeCasts_S512x2048_S512x2048 := by
  rw [outsAt0_A m c t h0 h0 (by omega) (by omega)]
  funext y
  frame_out [readCov_ld]
  rfl

end First

section Middle

variable (h0 : 1 ≤ t.val % 11 ∧ t.val % 11 ≤ 9) (hp : t.val - 1 < cfg0.N)
include h0

/-- A middle point keeps the rows. -/
theorem rows_B : (outsAt0 m c t.val t.isLt).2.1 = (outsAt0 m c (t.val - 1) hp).2.1 := by
  rw [outsAt0_B m c t (by omega) (by omega) h0 (by omega)]
  funext y
  unfold sout0_B_0
  frame_out [read_unread_whole]

set_option maxHeartbeats 400000 in
/-- The second chunk's up-projection that a middle point leaves. -/
theorem up_B : (outsAt0 m c t.val t.isLt).2.2.1 = upT (outsAt0 m c (t.val - 1) hp).2.1 (iblk m c 4 t) := by
  rw [outsAt0_B m c t (by omega) (by omega) h0 (by omega)]
  funext y
  frame_out [read_unread_whole]
  rfl

set_option maxHeartbeats 400000 in
/-- The second chunk's taps that a middle point leaves. -/
theorem taps_B : (outsAt0 m c t.val t.isLt).2.2.2.1 = k0_pay3 (k0_pay169 (iblk m c 6 t)) := by
  rw [outsAt0_B m c t (by omega) (by omega) h0 (by omega)]
  funext y
  frame_out [read_unread_whole]

set_option maxHeartbeats 400000 in
/-- The second chunk's weights that a middle point leaves. -/
theorem weights_B : (outsAt0 m c t.val t.isLt).2.2.2.2.1 = k0_pay4 (iblk m c 8 t) := by
  rw [outsAt0_B m c t (by omega) (by omega) h0 (by omega)]
  funext y
  frame_out [read_unread_whole]

set_option maxHeartbeats 1000000 in
/-- The sum that a middle point leaves. -/
theorem sum_B : (outsAt0 m c t.val t.isLt).2.2.2.2.2
    = moreT (moreT (outsAt0 m c (t.val - 1) hp).2.2.2.2.2 (actT (outsAt0 m c (t.val - 1) hp).2.2.1 (outsAt0 m c (t.val - 1) hp).2.2.2.1) (outsAt0 m c (t.val - 1) hp).2.2.2.2.1)
      (actT (upT (outsAt0 m c (t.val - 1) hp).2.1 (iblk m c 3 t)) (iblk m c 5 t)) (shapeCast S256x2048 (show Vec F S256x2048 .bf16 from iblk m c 7 t) shapeCasts_S256x2048_S256x2048) := by
  rw [outsAt0_B m c t (by omega) (by omega) h0 (by omega)]
  funext y
  frame_out [readCov_ld, read_unread_whole]
  have e1 : ∀ (a : Vec F S512x256 .bf16) w s, k0_pay168 a w s = moreT s a (shapeCast S256x2048 w shapeCasts_S256x2048_S256x2048) := fun _ _ _ => rfl
  have e2 : ∀ (a : Vec F S512x256 .bf16) w s, k0_pay114 a w s = moreT s a w := fun _ _ _ => rfl
  rw [e1, e2]
  refine congrFun (congr (congrArg₂ moreT (congr (congrArg₂ moreT ?_ ?_) ?_) ?_) ?_) y
  · rfl
  · rfl
  · rfl
  · exact act_over _ _ (actP _ _)
  · rfl

end Middle

set_option maxHeartbeats 400000 in
/-- The result that the last point of a block leaves. -/
theorem out_C (h0 : t.val % 11 = 10) (hp : t.val - 1 < cfg0.N) : (outsAt0 m c t.val t.isLt).1
    = k0_pay308 (iblk m c 9 t) (iblk m c 10 t) (moreT (moreT (moreT (outsAt0 m c (t.val - 1) hp).2.2.2.2.2 (actT (outsAt0 m c (t.val - 1) hp).2.2.1 (outsAt0 m c (t.val - 1) hp).2.2.2.1) (outsAt0 m c (t.val - 1) hp).2.2.2.2.1)
      (actT (upT (outsAt0 m c (t.val - 1) hp).2.1 (iblk m c 3 t)) (iblk m c 5 t)) (shapeCast S256x2048 (show Vec F S256x2048 .bf16 from iblk m c 7 t) shapeCasts_S256x2048_S256x2048))
      (actT (upT (outsAt0 m c (t.val - 1) hp).2.1 (iblk m c 4 t)) (iblk m c 6 t)) (shapeCast S256x2048 (show Vec F S256x2048 .bf16 from iblk m c 8 t) shapeCasts_S256x2048_S256x2048)) (iblk m c 11 t) := by
  rw [outsAt0_C m c t (by omega) (by omega) (by omega) h0]
  funext y
  frame_out [readCov_ld, read_unread_whole]
  have e1 : ∀ (a : Vec F S512x256 .bf16) w s, k0_pay307 a w s = moreT s a (shapeCast S256x2048 w shapeCasts_S256x2048_S256x2048) := fun _ _ _ => rfl
  have e2 : ∀ (a : Vec F S512x256 .bf16) w s, k0_pay271 a w s = moreT s a (shapeCast S256x2048 w shapeCasts_S256x2048_S256x2048) := fun _ _ _ => rfl
  have e3 : ∀ (a : Vec F S512x256 .bf16) w s, k0_pay217 a w s = moreT s a w := fun _ _ _ => rfl
  rw [e1, e2, e3]
  refine congrFun (congrArg (fun a => k0_pay308 _ _ a _) (congr (congrArg₂ moreT (congr (congrArg₂ moreT (congr (congrArg₂ moreT ?_ ?_) ?_) ?_) ?_) ?_) ?_)) y
  · rfl
  · rfl
  · rfl
  · exact act_over _ _ (actP _ _)
  · rfl
  · exact act_over (upT (outsAt0 m c (t.val - 1) hp).2.1 (iblk m c 4 t)) (iblk m c 6 t) (actP (upT (outsAt0 m c (t.val - 1) hp).2.1 (iblk m c 3 t)) (iblk m c 5 t)
      ++ actP (outsAt0 m c (t.val - 1) hp).2.2.1 (outsAt0 m c (t.val - 1) hp).2.2.2.1)
  · rfl

end Cert.FfnIdeal.Ffn

end
-- ==== Proof.FfnMath.lean ====
module

public import proofs.«01_k».proof.Proof.FfnBody
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.ShloMosaic.Tactic Idealize.SL.Sem

namespace Cert.FfnIdeal.Ffn

open Cert.FfnIdeal Cert.FfnIdeal.Gen

/-- A sum over 2048, in eight parts. -/
theorem sum_eight (f : Fin 2048 → EReal) : ∑ k, f k
    = ∑ k : Fin 256, f ⟨k.val, by omega⟩ + ∑ k : Fin 256, f ⟨256 + k.val, by omega⟩ + ∑ k : Fin 256, f ⟨512 + k.val, by omega⟩ + ∑ k : Fin 256, f ⟨768 + k.val, by omega⟩
      + ∑ k : Fin 256, f ⟨1024 + k.val, by omega⟩ + ∑ k : Fin 256, f ⟨1280 + k.val, by omega⟩ + ∑ k : Fin 256, f ⟨1536 + k.val, by omega⟩ + ∑ k : Fin 256, f ⟨1792 + k.val, by omega⟩ := by
  rw [← Fintype.sum_equiv (finProdFinEquiv (m := 8) (n := 256)) (fun p => f (finProdFinEquiv p)) f (fun _ => rfl), Fintype.sum_prod_type, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine Finset.sum_congr rfl fun k _ => congrArg f (Fin.ext ?_)
    simp only [finProdFinEquiv_apply_val]
    norm_num [add_comm]

/-- One step of a contraction, at an element. -/
theorem step_at (a : Vec Ideal S528x256 .bf16) (b : Vec Ideal S1x256x256 .bf16) (q : Fin 528) (d : Fin 256) :
    stepT (F := Ideal) a b (ix2 q d) = ∑ k : Fin 256, a (ix2 q k) * b (ix3 0 k d) := by
  pointwise [stepT]

/-- A row of the up-projection: half `g` of a chunk. -/
def upAt (hx : Vec Ideal S528x2048 .bf16) (w : Vec Ideal S2x2048x256 .bf16) (g : Fin 2) (q : Fin 528) (d : Fin 256) : EReal := ∑ k : Fin 2048, hx (ix2 q k) * w (ix3 g k d)

/-- The first half of the up-projection, at an element. -/
theorem up0_at (hx : Vec Ideal S528x2048 .bf16) (w : Vec Ideal S2x2048x256 .bf16) (q : Fin 528) (d : Fin 256) : up0T (F := Ideal) hx w (ix2 q d) = upAt hx w 0 q d := by
  unfold upAt
  rw [sum_eight (fun k => hx (ix2 q k) * w (ix3 0 k d))]
  pointwise [up0T, step_at]

/-- The second half of the up-projection, at an element. -/
theorem up1_at (hx : Vec Ideal S528x2048 .bf16) (w : Vec Ideal S2x2048x256 .bf16) (q : Fin 528) (d : Fin 256) : up1T (F := Ideal) hx w (ix2 q d) = upAt hx w 1 q d := by
  unfold upAt
  rw [sum_eight (fun k => hx (ix2 q k) * w (ix3 1 k d))]
  pointwise [up1T, step_at]

/-- A chunk's up-projection, at an element. -/
theorem up_at (hx : Vec Ideal S528x2048 .bf16) (w : Vec Ideal S2x2048x256 .bf16) (g : Fin 2) (q : Fin 528) (d : Fin 256) : upT (F := Ideal) hx w (ix3 g q d) = upAt hx w g q d := by
  unfold upT upP
  canon_tiles x hx
  all_goals
    obtain ⟨z, q', d', rfl⟩ : ∃ (z : Fin 1) (q' : Fin 528) (d' : Fin 256), x = ix3 z q' d' := ⟨x 0, x 1, x 2, eq_ix3 x⟩
    have e1 : q = q' := Fin.ext hx1
    have e2 : d = d' := Fin.ext hx2
    subst e1 e2
  · have e0 : g = 1 := Fin.ext (by have hx0 : (g : ℕ) = 1 + z.val := hx0; show (g : ℕ) = 1; omega)
    rw [e0, ← up1_at]
    pointwise
  · have e0 : g = 0 := Fin.ext (by have hx0 : (g : ℕ) = z.val := hx0; show (g : ℕ) = 0; omega)
    rw [e0, ← up0_at]
    pointwise

/-- The convolution at a row, from the row before, the row itself and the row after. -/
def convAt (u : Vec Ideal S2x528x256 .f32) (cw : Vec Ideal S4x2x256 .f32) (g : Fin 2) (a b e : Fin 528) (d : Fin 256) : EReal :=
  cw (ix3 0 g d) * u (ix3 g a d) + cw (ix3 1 g d) * u (ix3 g b d) + cw (ix3 2 g d) * u (ix3 g e d) + cw (ix3 3 g d)

/-- The row before a block's row: the block's last row stands before its first. -/
def before (r : Fin 512) : Fin 528 := if r.val = 0 then 527 else ⟨r.val - 1, by omega⟩

/-- The activation at a row of a block. -/
def actAt (u : Vec Ideal S2x528x256 .f32) (cw : Vec Ideal S4x2x256 .f32) (r : Fin 512) (d : Fin 256) : EReal :=
  convAt u cw 0 (before r) ⟨r.val, by omega⟩ ⟨r.val + 1, by omega⟩ d * Ideal.logistic (convAt u cw 0 (before r) ⟨r.val, by omega⟩ ⟨r.val + 1, by omega⟩ d)
    * convAt u cw 1 (before r) ⟨r.val, by omega⟩ ⟨r.val + 1, by omega⟩ d

/-- A piece of the activation, at an element. -/
theorem piece_at (u : Vec Ideal S2x528x256 .f32) (cw : Vec Ideal S4x2x256 .f32) (u0 u1 : FVec Ideal S80x256 .f32) (x : Fin 64) (d : Fin 256) (r : Fin 512)
    (h0 : u0 (ix2 ⟨7 + x.val, by omega⟩ d) = u (ix3 0 (before r) d) ∧ u0 (ix2 ⟨8 + x.val, by omega⟩ d) = u (ix3 0 ⟨r.val, by omega⟩ d) ∧ u0 (ix2 ⟨9 + x.val, by omega⟩ d) = u (ix3 0 ⟨r.val + 1, by omega⟩ d))
    (h1 : u1 (ix2 ⟨7 + x.val, by omega⟩ d) = u (ix3 1 (before r) d) ∧ u1 (ix2 ⟨8 + x.val, by omega⟩ d) = u (ix3 1 ⟨r.val, by omega⟩ d) ∧ u1 (ix2 ⟨9 + x.val, by omega⟩ d) = u (ix3 1 ⟨r.val + 1, by omega⟩ d)) :
    pieceT (F := Ideal) cw u0 u1 (ix2 x d) = actAt u cw r d := by
  unfold actAt convAt
  rw [← h0.1, ← h0.2.1, ← h0.2.2, ← h1.1, ← h1.2.1, ← h1.2.2]
  pointwise [pieceT, gateT, tapT]

/-- The row before a row that isn't the first. -/
theorem before_of_pos (r : Fin 512) (h : 0 < r.val) : before r = ⟨r.val - 1, by omega⟩ := if_neg (by omega)

/-- Rows around a piece, at an element. -/
theorem rows_at (v : Vec Ideal S1x80x256 .f32) (q : Fin 80) (d : Fin 256) : rowsT (F := Ideal) v (ix2 q d) = v (ix3 0 q d) := by
  pointwise [rowsT]

/-- The first piece's rows, at an element. -/
theorem wrap_at (a : Vec Ideal S1x8x256 .f32) (b : Vec Ideal S1x72x256 .f32) (q : Fin 80) (d : Fin 256) :
    wrapT (F := Ideal) a b (ix2 q d) = if h : q.val < 8 then a (ix3 0 ⟨q.val, h⟩ d) else b (ix3 0 ⟨q.val - 8, by omega⟩ d) := by
  pointwise [wrapT]

/-- A chunk's activation, at an element. -/
theorem act_at (u : Vec Ideal S2x528x256 .f32) (cw : Vec Ideal S4x2x256 .f32) (r : Fin 512) (d : Fin 256) : actT (F := Ideal) u cw (ix2 r d) = actAt u cw r d := by
  unfold actT actP
  canon_tiles x hx
  all_goals
    obtain ⟨p, d', rfl⟩ : ∃ (p : Fin 64) (d' : Fin 256), x = ix2 p d' := ⟨x 0, x 1, eq_ix2 x⟩
    have e1 : d = d' := Fin.ext hx1
    subst e1
    have hp := p.isLt
    first
    | have hr : (r : ℕ) = _ + (p : ℕ) := hx0
    | have hr : (r : ℕ) = (p : ℕ) := hx0
    refine piece_at u cw _ _ p d r ⟨?_, ?_, ?_⟩ ⟨?_, ?_, ?_⟩
  iterate 7
    iterate 2
      · rw [rows_at, before_of_pos _ (by omega)]
        pointwise
        refine congrArg (fun q => u (ix3 _ q d)) (Fin.ext ?_)
        show _ + (7 + (p : ℕ)) = (r : ℕ) - 1
        omega
      · rw [rows_at]
        pointwise
        refine congrArg (fun q => u (ix3 _ q d)) (Fin.ext ?_)
        show _ + (8 + (p : ℕ)) = (r : ℕ)
        omega
      · rw [rows_at]
        pointwise
        refine congrArg (fun q => u (ix3 _ q d)) (Fin.ext ?_)
        show _ + (9 + (p : ℕ)) = (r : ℕ) + 1
        omega
  iterate 2
    · rw [wrap_at]
      pointwise
      by_cases h : (p : ℕ) = 0
      · have hb : before r = 527 := if_pos (by omega)
        rw [dif_pos (by omega), hb]
        refine congrArg (fun q => u (ix3 _ q d)) (Fin.ext ?_)
        show 520 + (7 + (p : ℕ)) = 527
        omega
      · rw [dif_neg (by omega), before_of_pos _ (by omega)]
        refine congrArg (fun q => u (ix3 _ q d)) (Fin.ext ?_)
        show 7 + (p : ℕ) - 8 = (r : ℕ) - 1
        omega
    · rw [wrap_at]
      pointwise
      exact congrArg (fun q => u (ix3 _ q d)) (Fin.ext hr.symm)
    · rw [wrap_at]
      pointwise
      rw [dif_neg (by omega)]
      refine congrArg (fun q => u (ix3 _ q d)) (Fin.ext ?_)
      show 9 + (p : ℕ) - 8 = (r : ℕ) + 1
      omega

/-- A chunk's down-projection, at an element. -/
theorem down_at (a : Vec Ideal S512x256 .bf16) (w : Vec Ideal S256x2048 .bf16) (r : Fin 512) (e : Fin 2048) :
    downT (F := Ideal) a w (ix2 r e) = ∑ k : Fin 256, a (ix2 r k) * w (ix2 k e) := by
  pointwise [downT]

/-- A sum with a chunk's down-projection added, at an element. -/
theorem more_at (s : Vec Ideal S512x2048 .f32) (a : Vec Ideal S512x256 .bf16) (w : Vec Ideal S256x2048 .bf16) (r : Fin 512) (e : Fin 2048) :
    moreT (F := Ideal) s a w (ix2 r e) = s (ix2 r e) + ∑ k : Fin 256, a (ix2 r k) * w (ix2 k e) := by
  unfold moreT
  rw [← down_at]
  pointwise

/-- The test for rows after a block's own in its sequence. -/
def nextBit (i : BitVec 32) : BitVec 1 :=
  let v24 := Scalar.muli (Scalar.addi i 1#32) 512#32
  let v26 := Scalar.select (Scalar.cmpi .eq 2048#32 0#32) 1#32 2048#32
  let v27 := Scalar.remsi v24 v26
  Scalar.cmpi .ne (Scalar.select (Scalar.andi (Scalar.xori (Scalar.cmpi .slt v27 0#32) (Scalar.cmpi .slt v26 0#32)) (Scalar.cmpi .ne v27 0#32)) (Scalar.addi v27 v26) v27) 0#32

/-- The test for rows before a block's own in its sequence. -/
def prevBit (i : BitVec 32) : BitVec 1 :=
  let v45 := Scalar.remsi (Scalar.muli i 512#32) 2048#32
  Scalar.cmpi .ne (Scalar.select (Scalar.andi (Scalar.xori (Scalar.cmpi .slt v45 0#32) (Scalar.cmpi .slt 2048#32 0#32)) (Scalar.cmpi .ne v45 0#32)) (Scalar.addi v45 2048#32) v45) 0#32

/-- A block has rows after it except at its sequence's end. -/
theorem nextBit_eq : ∀ i : Fin 32, nextBit (BitVec.ofNat 32 i.val) = if i.val % 4 = 3 then 0#1 else 1#1 := by
  decide +kernel

/-- A block has rows before it except at its sequence's start. -/
theorem prevBit_eq : ∀ i : Fin 32, prevBit (BitVec.ofNat 32 i.val) = if i.val % 4 = 0 then 0#1 else 1#1 := by
  decide +kernel

/-- A selection by a decided bit. -/
theorem select_ite (p : Prop) [Decidable p] (a b : EReal) : Scalar.select (if p then 0#1 else 1#1) a b = if p then b else a := by
  split_ifs <;> rfl

/-- The rows after a block's own. -/
theorem pay7_at (i : Fin 32) (x : Vec Ideal S16x2048 .bf16) (q : Fin 8) (k : Fin 2048) :
    k0_pay7 (F := Ideal) (BitVec.ofNat 32 i.val) x (ix2 q k) = if i.val % 4 = 3 then 0 else x (ix2 ⟨q.val, by omega⟩ k) := by
  unfold k0_pay7
  show (Scalar.select (nextBit (BitVec.ofNat 32 i.val)) (_ : FVec Ideal S8x2048 .f32) _ : FVec Ideal S8x2048 .f32) (ix2 q k) = _
  rw [nextBit_eq i]
  pointwise
  exact select_ite _ _ _

/-- The rows around a block's own. -/
theorem pay1_at (i : Fin 32) (a : FVec Ideal S8x2048 .f32) (x : Vec Ideal S16x2048 .bf16) (q : Fin 16) (k : Fin 2048) :
    k0_pay1 (F := Ideal) a 2048#32 (Scalar.remsi (Scalar.muli (BitVec.ofNat 32 i.val) 512#32) 2048#32) (Scalar.cmpi .ne (Scalar.remsi (Scalar.muli (BitVec.ofNat 32 i.val) 512#32) 2048#32) 0#32) 0#32 x (ix2 q k)
      = if h : q.val < 8 then a (ix2 ⟨q.val, h⟩ k) else if i.val % 4 = 0 then 0 else x (ix2 q k) := by
  unfold k0_pay1
  show shapeCast S16x2048 (truncf .bf16 (concatenate S16x2048 0 [⟨S8x2048, a⟩, ⟨S8x2048, (Scalar.select (prevBit (BitVec.ofNat 32 i.val)) (_ : FVec Ideal S8x2048 .f32) _ : FVec Ideal S8x2048 .f32)⟩]
    concatenates_S8x2048_S8x2048_S16x2048_d0) bitsLt_bf16_f32) shapeCasts_S16x2048_S16x2048 (ix2 q k) = _
  rw [prevBit_eq i]
  pointwise
  by_cases h : q.val < 8
  · simp only [h, ↓reduceDIte]
  · refine (dif_neg h).trans (Eq.trans ?_ (dif_neg h).symm)
    refine (select_ite _ _ _).trans ?_
    refine congrArg (fun z => if i.val % 4 = 0 then (0 : EReal) else z) (congrArg (fun p => x (ix2 p k)) (Fin.ext ?_))
    show 8 + (q.val - 8) = q.val
    omega

/-- The rows after a block's own stand below it. -/
theorem low_emb (q : Fin 528) (k : Fin 2048) (h : ¬ q.val < 512) :
    (ix2 q k : S528x2048.Idx) = (Rect.unit ![512, 0] ![16, 2048] inb_S528x2048_S16x2048_512_0).emb (ix2 (⟨q.val - 512, by omega⟩ : Fin 16) k) := by
  funext a
  refine Fin.ext ?_
  rw [Rect.emb_apply]
  fin_cases a
  · show q.val = 512 + 1 * (q.val - 512)
    omega
  · show k.val = 0 + 1 * k.val
    omega

/-- A block's own rows stand first. -/
theorem high_emb (q : Fin 528) (k : Fin 2048) (h : q.val < 512) :
    (ix2 q k : S528x2048.Idx) = (Rect.unit ![0, 0] ![512, 2048] inb_S528x2048_S512x2048_0_0).emb (ix2 (⟨q.val, h⟩ : Fin 512) k) := by
  funext a
  refine Fin.ext ?_
  rw [Rect.emb_apply]
  fin_cases a
  · show q.val = 0 + 1 * q.val
    omega
  · show k.val = 0 + 1 * k.val
    omega

/-- A block's own rows aren't among those below. -/
theorem high_not (q : Fin 528) (k : Fin 2048) (h : q.val < 512) : (ix2 q k : S528x2048.Idx) ∉ (Rect.unit ![512, 0] ![16, 2048] inb_S528x2048_S16x2048_512_0).set := by
  intro hm
  exact absurd (Rect.mem_set_unit.mp hm 0).1 (Nat.not_le.mpr h)

/-- A block's rows and those around it, at an element. -/
theorem around_at (i : Fin 32) (x0 : Vec Ideal S512x2048 .bf16) (x1 x2 : Vec Ideal S16x2048 .bf16) (q : Fin 528) (k : Fin 2048) :
    rowsAroundT (F := Ideal) (BitVec.ofNat 32 i.val) x0 x1 x2 (ix2 q k) = if h : q.val < 512 then x0 (ix2 ⟨q.val, h⟩ k)
      else if q.val < 520 then if i.val % 4 = 3 then 0 else x2 (ix2 ⟨q.val - 512, by omega⟩ k) else if i.val % 4 = 0 then 0 else x1 (ix2 ⟨q.val - 512, by omega⟩ k) := by
  unfold rowsAroundT
  by_cases h : q.val < 512
  · rw [dif_pos h]
    refine (View.canon_cons_of_not_mem _ _ ?_).trans ((View.canon_cons_of_not_mem _ _ ?_).trans ?_)
    · exact high_not q k h
    · exact high_not q k h
    rw [high_emb q k h]
    refine (View.canon_cons_emb _ _ _ _).trans ?_
    pointwise [k0_pay5]
  · rw [dif_neg h, low_emb q k h]
    refine (View.canon_cons_emb _ _ _ _).trans ((pay1_at i _ x1 _ k).trans ?_)
    by_cases h2 : q.val < 520
    · rw [if_pos h2]
      refine (dif_pos (show q.val - 512 < 8 by omega)).trans ?_
      exact pay7_at i x2 _ k
    · rw [if_neg h2]
      exact dif_neg (show ¬ q.val - 512 < 8 by omega)

/-- The last point's result, at an element. -/
theorem norm_at (x : Vec Ideal S512x2048 .f32) (g : Vec Ideal S1x1x2048 .f32) (a : Vec Ideal S512x2048 .f32) (n : Vec Ideal S1x2048 .f32) (r : Fin 512) (e : Fin 2048) :
    k0_pay308 (F := Ideal) x g a n (ix2 r e) = x (ix2 r e) + g (ix3 0 0 e)
      * (a (ix2 r e) * Ideal.rsqrt (Ideal.div (∑ k : Fin 2048, a (ix2 r k) * a (ix2 r k)) (Ideal.ofBits .f32 0x45000000#32) + Ideal.ofBits .f32 0x358637BD#32) * n (ix2 0 e)) := by
  pointwise [k0_pay308]

/-- The first point's taps. -/
theorem pay65_eq (x : Vec Ideal S4x2x256 .f32) : k0_pay65 (F := Ideal) x = x := by
  funext y
  pointwise [k0_pay65]

/-- A later point's taps. -/
theorem pay169_eq (x : Vec Ideal S4x2x256 .f32) : k0_pay3 (F := Ideal) (k0_pay169 x) = x := by
  funext y
  pointwise [k0_pay3, k0_pay169]

/-- A point's weights. -/
theorem pay66_eq (x : Vec Ideal S256x2048 .bf16) : k0_pay2 (F := Ideal) (k0_pay66 x) = x := by
  funext y
  pointwise [k0_pay2, k0_pay66]

/-- Weights in their own shape. -/
theorem same_eq (x : Vec Ideal S256x2048 .bf16) : shapeCast S256x2048 x shapeCasts_S256x2048_S256x2048 = x := by
  funext y
  pointwise

end Cert.FfnIdeal.Ffn

end
-- ==== Proof.FfnInv.lean ====
module

public import proofs.«01_k».proof.Proof.FfnMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.ShloMosaic.Tactic Idealize.SL.Sem

namespace Cert.FfnIdeal.Ffn

open Cert.FfnIdeal Cert.FfnIdeal.Gen

/-- A chunk's columns of the up-projection's weights. -/
def chunkW (W : FVec Ideal S2x2048x5632 .bf16) (p : ℕ) : Vec Ideal S2x2048x256 .bf16 :=
  fun y => W (ix3 (y 0) (y 1) ⟨(256 * p + (y 2).val) % 5632, Nat.mod_lt _ (by norm_num)⟩)

/-- A chunk's taps and bias. -/
def chunkC (C : FVec Ideal S4x2x5632 .f32) (p : ℕ) : Vec Ideal S4x2x256 .f32 :=
  fun y => C (ix3 (y 0) (y 1) ⟨(256 * p + (y 2).val) % 5632, Nat.mod_lt _ (by norm_num)⟩)

/-- A chunk's rows of the down-projection's weights. -/
def chunkD (D : FVec Ideal S5632x2048 .bf16) (p : ℕ) : Vec Ideal S256x2048 .bf16 :=
  fun y => D (ix2 ⟨(256 * p + (y 0).val) % 5632, Nat.mod_lt _ (by norm_num)⟩ (y 1))

/-- A block's rows, those after them and those before them, zero outside the sequence. -/
def rowsOf (H : FVec Ideal S16384x2048 .bf16) (i : ℕ) : Vec Ideal S528x2048 .bf16 := fun y =>
  if (y 0).val < 512 then H (ix2 ⟨(512 * i + (y 0).val) % 16384, Nat.mod_lt _ (by norm_num)⟩ (y 1))
  else if (y 0).val < 520 then if i % 4 = 3 then 0 else H (ix2 ⟨(512 * i + (y 0).val) % 16384, Nat.mod_lt _ (by norm_num)⟩ (y 1))
  else if i % 4 = 0 then 0 else H (ix2 ⟨(512 * i + (y 0).val - 528) % 16384, Nat.mod_lt _ (by norm_num)⟩ (y 1))

/-- A chunk's part of the down-projection. -/
def chunkAt (H : FVec Ideal S16384x2048 .bf16) (W : FVec Ideal S2x2048x5632 .bf16) (C : FVec Ideal S4x2x5632 .f32) (D : FVec Ideal S5632x2048 .bf16)
    (i p : ℕ) (r : Fin 512) (e : Fin 2048) : EReal :=
  ∑ k : Fin 256, actAt (upT (F := Ideal) (rowsOf H i) (chunkW W p)) (chunkC C p) r k * chunkD D p (ix2 k e)

/-- The first chunks' parts together. -/
def sumOf (H : FVec Ideal S16384x2048 .bf16) (W : FVec Ideal S2x2048x5632 .bf16) (C : FVec Ideal S4x2x5632 .f32) (D : FVec Ideal S5632x2048 .bf16)
    (i n : ℕ) : Vec Ideal S512x2048 .f32 := fun y => ∑ p ∈ Finset.range n, chunkAt H W C D i p (y 0) (y 1)

section Sums

variable (H : FVec Ideal S16384x2048 .bf16) (W : FVec Ideal S2x2048x5632 .bf16) (C : FVec Ideal S4x2x5632 .f32) (D : FVec Ideal S5632x2048 .bf16) (i : ℕ)

/-- The first chunk's part. -/
theorem sum_first : shapeCast S512x2048 (downT (F := Ideal) (actT (upT (rowsOf H i) (chunkW W 0)) (chunkC C 0)) (chunkD D 0)) shapeCasts_S512x2048_S512x2048 = sumOf H W C D i 1 := by
  funext y
  obtain ⟨r, e, rfl⟩ : ∃ (r : Fin 512) (e : Fin 2048), y = ix2 r e := ⟨y 0, y 1, eq_ix2 y⟩
  refine Eq.trans (b := downT (F := Ideal) (actT (upT (rowsOf H i) (chunkW W 0)) (chunkC C 0)) (chunkD D 0) (ix2 r e)) (by pointwise) ?_
  rw [down_at]
  show _ = ∑ p ∈ Finset.range 1, chunkAt H W C D i p r e
  rw [Finset.sum_range_one]
  exact Finset.sum_congr rfl fun k _ => congrArg (· * _) (act_at _ _ r k)

/-- One chunk's part more. -/
theorem sum_more (n : ℕ) : (moreT (F := Ideal) (sumOf H W C D i n) (actT (upT (rowsOf H i) (chunkW W n)) (chunkC C n)) (chunkD D n) : Vec Ideal S512x2048 .f32) = sumOf H W C D i (n + 1) := by
  funext y
  obtain ⟨r, e, rfl⟩ : ∃ (r : Fin 512) (e : Fin 2048), y = ix2 r e := ⟨y 0, y 1, eq_ix2 y⟩
  rw [more_at]
  show _ = ∑ p ∈ Finset.range (n + 1), chunkAt H W C D i p r e
  rw [Finset.sum_range_succ]
  exact congrArg (_ + ·) (Finset.sum_congr rfl fun k _ => congrArg (· * _) (act_at _ _ r k))

end Sums

variable (m : (ℓ : Loc nD τ sig) → Buf (Elt Ideal) ℓ) (c : Dev nD) (t : Fin cfg0.N)

/-- The windows, in closed form. -/
theorem idx0 : ∀ t : Fin cfg0.N, win0_0.index t = ![t.val / 11, 0] ∧ win0_1.index t = ![32 * (t.val / 11) - 1, 0] ∧ win0_2.index t = ![min (32 * (t.val / 11 + 1)) 1023, 0]
    ∧ win0_3.index t = ![0, 0, 2 * (t.val % 11)] ∧ win0_4.index t = ![0, 0, 2 * (t.val % 11) + 1] ∧ win0_5.index t = ![0, 0, 2 * (t.val % 11)] ∧ win0_6.index t = ![0, 0, 2 * (t.val % 11) + 1]
    ∧ win0_7.index t = ![2 * (t.val % 11), 0] ∧ win0_8.index t = ![2 * (t.val % 11) + 1, 0] ∧ win0_9.index t = ![t.val / 11, 0] ∧ win0_10.index t = ![t.val / 44, 0, 0]
    ∧ win0_11.index t = ![0, 0] ∧ win0_12.index t = ![t.val / 11, 0] :=
  (by decide +kernel : ∀ t : Fin grid0.N, _)

/-- A point's block of rows. -/
theorem coord0 : ∀ t : Fin cfg0.N, (grid0.coords t 0).val = t.val / 11 := (by decide +kernel : ∀ t : Fin grid0.N, _)

/-- A grid's point. -/
theorem point_lt : t.val < 352 := by
  have := t.isLt
  have : cfg0.N = 352 := N_0
  omega

/-- A block's own rows. -/
theorem blk_own (q : Fin 512) (k : Fin 2048) : (show FVec Ideal S512x2048 .bf16 from iblk m c 0 t) (ix2 q k)
    = (show FVec Ideal S16384x2048 .bf16 from V m c main_v10) (ix2 ⟨t.val / 11 * 512 + q.val, by have := point_lt t; omega⟩ k) := by
  blk_point [iblk, idx0 t]

/-- The rows before a block. -/
theorem blk_prev (q : Fin 16) (k : Fin 2048) : (show FVec Ideal S16x2048 .bf16 from iblk m c 1 t) (ix2 q k)
    = (show FVec Ideal S16384x2048 .bf16 from V m c main_v10) (ix2 ⟨(32 * (t.val / 11) - 1) * 16 + q.val, by have := point_lt t; omega⟩ k) := by
  blk_point [iblk, idx0 t]

/-- The rows after a block. -/
theorem blk_next (q : Fin 16) (k : Fin 2048) : (show FVec Ideal S16x2048 .bf16 from iblk m c 2 t) (ix2 q k)
    = (show FVec Ideal S16384x2048 .bf16 from V m c main_v10) (ix2 ⟨min (32 * (t.val / 11 + 1)) 1023 * 16 + q.val, by have := point_lt t; omega⟩ k) := by
  blk_point [iblk, idx0 t]

/-- A block's rows and those around it. -/
theorem rows_eq : rowsAroundT (F := Ideal) (BitVec.ofNat 32 (grid0.coords t 0).val) (iblk m c 0 t) (iblk m c 1 t) (iblk m c 2 t) = rowsOf (V m c main_v10) (t.val / 11) := by
  have ht := point_lt t
  funext y
  obtain ⟨q, k, rfl⟩ : ∃ (q : Fin 528) (k : Fin 2048), y = ix2 q k := ⟨y 0, y 1, eq_ix2 y⟩
  rw [coord0 t]
  refine (around_at ⟨t.val / 11, by omega⟩ _ _ _ q k).trans ?_
  show _ = if q.val < 512 then _ else if q.val < 520 then if t.val / 11 % 4 = 3 then 0 else _ else if t.val / 11 % 4 = 0 then 0 else _
  by_cases h : q.val < 512
  · rw [if_pos h]
    refine (dif_pos h).trans ((blk_own m c t _ k).trans (congrArg (fun a => (show FVec Ideal S16384x2048 .bf16 from V m c main_v10) (ix2 a k)) (Fin.ext ?_)))
    show t.val / 11 * 512 + q.val = (512 * (t.val / 11) + q.val) % 16384
    omega
  · rw [if_neg h]
    refine (dif_neg h).trans ?_
    by_cases h2 : q.val < 520
    · rw [if_pos h2, if_pos h2]
      by_cases h3 : t.val / 11 % 4 = 3
      · rw [if_pos h3, if_pos h3]
      · rw [if_neg h3, if_neg h3]
        refine (blk_next m c t _ k).trans (congrArg (fun a => (show FVec Ideal S16384x2048 .bf16 from V m c main_v10) (ix2 a k)) (Fin.ext ?_))
        show min (32 * (t.val / 11 + 1)) 1023 * 16 + (q.val - 512) = (512 * (t.val / 11) + q.val) % 16384
        omega
    · rw [if_neg h2, if_neg h2]
      by_cases h3 : t.val / 11 % 4 = 0
      · rw [if_pos h3, if_pos h3]
      · rw [if_neg h3, if_neg h3]
        refine (blk_prev m c t _ k).trans (congrArg (fun a => (show FVec Ideal S16384x2048 .bf16 from V m c main_v10) (ix2 a k)) (Fin.ext ?_))
        have := q.isLt
        show (32 * (t.val / 11) - 1) * 16 + (q.val - 512) = (512 * (t.val / 11) + q.val - 528) % 16384
        omega

/-- A point's first chunk of the up-projection's weights. -/
theorem w3_eq : (iblk m c 3 t : Vec Ideal S2x2048x256 .bf16) = chunkW (V m c main_v5) (2 * (t.val % 11)) := by
  funext y
  obtain ⟨g, k, d, rfl⟩ : ∃ (g : Fin 2) (k : Fin 2048) (d : Fin 256), y = ix3 g k d := ⟨y 0, y 1, y 2, eq_ix3 y⟩
  refine Eq.trans (b := (show FVec Ideal S2x2048x5632 .bf16 from V m c main_v5) (ix3 g k ⟨(2 * (t.val % 11)) * 256 + d.val, by omega⟩)) (by blk_point [iblk, idx0 t]) ?_
  refine congrArg (fun a => (show FVec Ideal S2x2048x5632 .bf16 from V m c main_v5) (ix3 g k a)) (Fin.ext ?_)
  show (2 * (t.val % 11)) * 256 + d.val = (256 * (2 * (t.val % 11)) + d.val) % 5632
  omega

/-- A point's second chunk of the up-projection's weights. -/
theorem w4_eq : (iblk m c 4 t : Vec Ideal S2x2048x256 .bf16) = chunkW (V m c main_v5) (2 * (t.val % 11) + 1) := by
  funext y
  obtain ⟨g, k, d, rfl⟩ : ∃ (g : Fin 2) (k : Fin 2048) (d : Fin 256), y = ix3 g k d := ⟨y 0, y 1, y 2, eq_ix3 y⟩
  refine Eq.trans (b := (show FVec Ideal S2x2048x5632 .bf16 from V m c main_v5) (ix3 g k ⟨(2 * (t.val % 11) + 1) * 256 + d.val, by omega⟩)) (by blk_point [iblk, idx0 t]) ?_
  refine congrArg (fun a => (show FVec Ideal S2x2048x5632 .bf16 from V m c main_v5) (ix3 g k a)) (Fin.ext ?_)
  show (2 * (t.val % 11) + 1) * 256 + d.val = (256 * (2 * (t.val % 11) + 1) + d.val) % 5632
  omega

/-- A point's first chunk of the taps and the bias. -/
theorem w5_eq : (iblk m c 5 t : Vec Ideal S4x2x256 .f32) = chunkC (V m c main_v8) (2 * (t.val % 11)) := by
  funext y
  obtain ⟨g, k, d, rfl⟩ : ∃ (g : Fin 4) (k : Fin 2) (d : Fin 256), y = ix3 g k d := ⟨y 0, y 1, y 2, eq_ix3 y⟩
  refine Eq.trans (b := (show FVec Ideal S4x2x5632 .f32 from V m c main_v8) (ix3 g k ⟨(2 * (t.val % 11)) * 256 + d.val, by omega⟩)) (by blk_point [iblk, idx0 t]) ?_
  refine congrArg (fun a => (show FVec Ideal S4x2x5632 .f32 from V m c main_v8) (ix3 g k a)) (Fin.ext ?_)
  show (2 * (t.val % 11)) * 256 + d.val = (256 * (2 * (t.val % 11)) + d.val) % 5632
  omega

/-- A point's second chunk of the taps and the bias. -/
theorem w6_eq : (iblk m c 6 t : Vec Ideal S4x2x256 .f32) = chunkC (V m c main_v8) (2 * (t.val % 11) + 1) := by
  funext y
  obtain ⟨g, k, d, rfl⟩ : ∃ (g : Fin 4) (k : Fin 2) (d : Fin 256), y = ix3 g k d := ⟨y 0, y 1, y 2, eq_ix3 y⟩
  refine Eq.trans (b := (show FVec Ideal S4x2x5632 .f32 from V m c main_v8) (ix3 g k ⟨(2 * (t.val % 11) + 1) * 256 + d.val, by omega⟩)) (by blk_point [iblk, idx0 t]) ?_
  refine congrArg (fun a => (show FVec Ideal S4x2x5632 .f32 from V m c main_v8) (ix3 g k a)) (Fin.ext ?_)
  show (2 * (t.val % 11) + 1) * 256 + d.val = (256 * (2 * (t.val % 11) + 1) + d.val) % 5632
  omega

/-- A point's first chunk of the down-projection's weights. -/
theorem w7_eq : (iblk m c 7 t : Vec Ideal S256x2048 .bf16) = chunkD (V m c main_v11) (2 * (t.val % 11)) := by
  funext y
  obtain ⟨k, e, rfl⟩ : ∃ (k : Fin 256) (e : Fin 2048), y = ix2 k e := ⟨y 0, y 1, eq_ix2 y⟩
  refine Eq.trans (b := (show FVec Ideal S5632x2048 .bf16 from V m c main_v11) (ix2 ⟨(2 * (t.val % 11)) * 256 + k.val, by omega⟩ e)) (by blk_point [iblk, idx0 t]) ?_
  refine congrArg (fun a => (show FVec Ideal S5632x2048 .bf16 from V m c main_v11) (ix2 a e)) (Fin.ext ?_)
  show (2 * (t.val % 11)) * 256 + k.val = (256 * (2 * (t.val % 11)) + k.val) % 5632
  omega

/-- A point's second chunk of the down-projection's weights. -/
theorem w8_eq : (iblk m c 8 t : Vec Ideal S256x2048 .bf16) = chunkD (V m c main_v11) (2 * (t.val % 11) + 1) := by
  funext y
  obtain ⟨k, e, rfl⟩ : ∃ (k : Fin 256) (e : Fin 2048), y = ix2 k e := ⟨y 0, y 1, eq_ix2 y⟩
  refine Eq.trans (b := (show FVec Ideal S5632x2048 .bf16 from V m c main_v11) (ix2 ⟨(2 * (t.val % 11) + 1) * 256 + k.val, by omega⟩ e)) (by blk_point [iblk, idx0 t]) ?_
  refine congrArg (fun a => (show FVec Ideal S5632x2048 .bf16 from V m c main_v11) (ix2 a e)) (Fin.ext ?_)
  show (2 * (t.val % 11) + 1) * 256 + k.val = (256 * (2 * (t.val % 11) + 1) + k.val) % 5632
  omega

end Cert.FfnIdeal.Ffn

end
-- ==== Proof.FfnArr.lean ====
module

public import proofs.«01_k».proof.Proof.FfnInv
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.ShloMosaic.Tactic Idealize.SL.Sem

namespace Cert.FfnIdeal.Ffn

open Cert.FfnIdeal Cert.FfnIdeal.Gen

/-- Which point a block's row stands at, and what it holds: the carried arrays of a point that isn't a block's last. -/
theorem carried (m : (ℓ : Loc nD τ sig) → Buf (Elt Ideal) ℓ) (c : Dev nD) : ∀ (n : ℕ) (hn : n < cfg0.N), n % 11 ≤ 9 →
    (outsAt0 m c n hn).2.1 = rowsOf (V m c main_v10) (n / 11)
    ∧ (outsAt0 m c n hn).2.2.1 = upT (F := Ideal) (rowsOf (V m c main_v10) (n / 11)) (chunkW (V m c main_v5) (2 * (n % 11) + 1))
    ∧ (outsAt0 m c n hn).2.2.2.1 = chunkC (V m c main_v8) (2 * (n % 11) + 1)
    ∧ (outsAt0 m c n hn).2.2.2.2.1 = chunkD (V m c main_v11) (2 * (n % 11) + 1)
    ∧ (outsAt0 m c n hn).2.2.2.2.2 = sumOf (V m c main_v10) (V m c main_v5) (V m c main_v8) (V m c main_v11) (n / 11) (2 * (n % 11) + 1) := by
  intro n
  induction n using Nat.strong_induction_on with
  | _ n ih =>
    intro hn h
    by_cases h0 : n % 11 = 0
    · have e := rows_eq m c ⟨n, hn⟩
      have e4 := w4_eq m c ⟨n, hn⟩
      have e6 := w6_eq m c ⟨n, hn⟩
      have e8 := w8_eq m c ⟨n, hn⟩
      refine ⟨(rows_A m c ⟨n, hn⟩ h0).trans e, (up_A m c ⟨n, hn⟩ h0).trans (congrArg₂ upT e e4), (taps_A m c ⟨n, hn⟩ h0).trans ((pay65_eq _).trans e6),
        (weights_A m c ⟨n, hn⟩ h0).trans ((pay66_eq _).trans e8), (sum_A m c ⟨n, hn⟩ h0).trans ?_⟩
      have e3 := w3_eq m c ⟨n, hn⟩
      have e5 := w5_eq m c ⟨n, hn⟩
      have e7 := w7_eq m c ⟨n, hn⟩
      simp only [h0, Nat.mul_zero] at e3 e5 e7 ⊢
      rw [same_eq, e, e3, e5, e7]
      exact sum_first _ _ _ _ _
    · have hp : n - 1 < cfg0.N := by omega
      have h1 : 1 ≤ n % 11 ∧ n % 11 ≤ 9 := by omega
      obtain ⟨i0, i2, i4, i5, i6⟩ := ih (n - 1) (by omega) hp (by omega)
      have ei : (n - 1) / 11 = n / 11 := by omega
      have ej : 2 * ((n - 1) % 11) + 1 + 1 = 2 * (n % 11) := by omega
      have e4 := w4_eq m c ⟨n, hn⟩
      have e6 := w6_eq m c ⟨n, hn⟩
      have e8 := w8_eq m c ⟨n, hn⟩
      refine ⟨(rows_B m c ⟨n, hn⟩ h1 hp).trans (i0.trans (by rw [ei])), (up_B m c ⟨n, hn⟩ h1 hp).trans (congrArg₂ upT (i0.trans (by rw [ei])) e4), (taps_B m c ⟨n, hn⟩ h1).trans ((pay169_eq _).trans e6),
        (weights_B m c ⟨n, hn⟩ h1).trans ((same_eq _).trans ((same_eq _).trans e8)), (sum_B m c ⟨n, hn⟩ h1 hp).trans ?_⟩
      rw [same_eq, w3_eq m c ⟨n, hn⟩, w5_eq m c ⟨n, hn⟩, w7_eq m c ⟨n, hn⟩]
      show moreT (moreT (outsAt0 m c (n - 1) hp).2.2.2.2.2 (actT (outsAt0 m c (n - 1) hp).2.2.1 (outsAt0 m c (n - 1) hp).2.2.2.1) (outsAt0 m c (n - 1) hp).2.2.2.2.1)
          (actT (upT (outsAt0 m c (n - 1) hp).2.1 (chunkW (V m c main_v5) (2 * (n % 11)))) (chunkC (V m c main_v8) (2 * (n % 11)))) (chunkD (V m c main_v11) (2 * (n % 11))) = _
      rw [i0, i2, i4, i5, i6, sum_more, ej, ei, sum_more]

/-- The sum of all the chunks' parts, at a block's last point. -/
theorem out_last (m : (ℓ : Loc nD τ sig) → Buf (Elt Ideal) ℓ) (c : Dev nD) (t : Fin cfg0.N) (h : t.val % 11 = 10) : (outsAt0 m c t.val t.isLt).1
    = k0_pay308 (F := Ideal) (iblk m c 9 t) (iblk m c 10 t) (sumOf (V m c main_v10) (V m c main_v5) (V m c main_v8) (V m c main_v11) (t.val / 11) 22) (iblk m c 11 t) := by
  have hp : t.val - 1 < cfg0.N := by have := t.isLt; omega
  obtain ⟨i0, i2, i4, i5, i6⟩ := carried m c (t.val - 1) hp (by omega)
  have ei : (t.val - 1) / 11 = t.val / 11 := by omega
  have ej : (t.val - 1) % 11 = 9 := by omega
  rw [out_C m c t h hp, same_eq, same_eq, w3_eq m c t, w5_eq m c t, w7_eq m c t, w4_eq m c t, w6_eq m c t, w8_eq m c t, i0, i2, i4, i5, i6, ei, ej, h, sum_more, sum_more, sum_more]

/-- A row's up-projection. -/
def upRow (H : FVec Ideal S16384x2048 .bf16) (W : FVec Ideal S2x2048x5632 .bf16) (g : Fin 2) (n : ℕ) (d : Fin 5632) : EReal :=
  ∑ k : Fin 2048, H (ix2 ⟨n % 16384, Nat.mod_lt _ (by norm_num)⟩ k) * W (ix3 g k d)

/-- The short convolution of the up-projection along a sequence, with its bias. -/
def convRow (H : FVec Ideal S16384x2048 .bf16) (W : FVec Ideal S2x2048x5632 .bf16) (C : FVec Ideal S4x2x5632 .f32) (g : Fin 2) (n : ℕ) (d : Fin 5632) : EReal :=
  C (ix3 0 g d) * (if n % 2048 = 0 then 0 else upRow H W g (n - 1) d) + C (ix3 1 g d) * upRow H W g n d
    + C (ix3 2 g d) * (if n % 2048 = 2047 then 0 else upRow H W g (n + 1) d) + C (ix3 3 g d)

/-- A row's activation. -/
def actRow (H : FVec Ideal S16384x2048 .bf16) (W : FVec Ideal S2x2048x5632 .bf16) (C : FVec Ideal S4x2x5632 .f32) (n : ℕ) (d : Fin 5632) : EReal :=
  convRow H W C 0 n d * Ideal.logistic (convRow H W C 0 n d) * convRow H W C 1 n d

/-- A row's down-projection. -/
def downRow (H : FVec Ideal S16384x2048 .bf16) (W : FVec Ideal S2x2048x5632 .bf16) (C : FVec Ideal S4x2x5632 .f32) (D : FVec Ideal S5632x2048 .bf16) (n : ℕ) (e : Fin 2048) : EReal :=
  ∑ k : Fin 5632, actRow H W C n k * D (ix2 k e)

section Rows

variable (H : FVec Ideal S16384x2048 .bf16) (W : FVec Ideal S2x2048x5632 .bf16) (C : FVec Ideal S4x2x5632 .f32) (D : FVec Ideal S5632x2048 .bf16) (i : ℕ)

/-- The row's own up-projection, in a block's chunk. -/
theorem up_own (p : ℕ) (g : Fin 2) (q : Fin 528) (hq : q.val < 512) (d : Fin 256) :
    upAt (rowsOf H i) (chunkW W p) g q d = upRow H W g (512 * i + q.val) ⟨(256 * p + d.val) % 5632, Nat.mod_lt _ (by norm_num)⟩ :=
  Finset.sum_congr rfl fun _ _ => congrArg (· * _) (if_pos hq)

/-- The up-projection of the row before. -/
theorem up_before (p : ℕ) (g : Fin 2) (r : Fin 512) (d : Fin 256) :
    upAt (rowsOf H i) (chunkW W p) g (before r) d
      = if (512 * i + r.val) % 2048 = 0 then 0 else upRow H W g (512 * i + r.val - 1) ⟨(256 * p + d.val) % 5632, Nat.mod_lt _ (by norm_num)⟩ := by
  by_cases h : r.val = 0
  · have hb : before r = ⟨527, by norm_num⟩ := if_pos h
    rw [hb]
    by_cases h4 : i % 4 = 0
    · rw [if_pos (by omega)]
      refine Finset.sum_eq_zero fun k _ => ?_
      have : rowsOf H i (ix2 (⟨527, by norm_num⟩ : Fin 528) k) = (0 : EReal) := (if_neg (by norm_num)).trans ((if_neg (by norm_num)).trans (if_pos h4))
      rw [this, zero_mul]
    · rw [if_neg (by omega)]
      refine Finset.sum_congr rfl fun k _ => congrArg (· * _) ?_
      refine (if_neg (by norm_num)).trans ((if_neg (by norm_num)).trans ((if_neg h4).trans (congrArg (fun a => H (ix2 a k)) (Fin.ext ?_))))
      show (512 * i + 527 - 528) % 16384 = (512 * i + r.val - 1) % 16384
      omega
  · have hb : before r = ⟨r.val - 1, by omega⟩ := if_neg h
    rw [hb, if_neg (by omega), up_own H W i p g _ (show r.val - 1 < 512 by omega)]
    have : 512 * i + (r.val - 1) = 512 * i + r.val - 1 := by omega
    show upRow H W g (512 * i + (r.val - 1)) _ = _
    rw [this]

/-- The up-projection of the row after. -/
theorem up_after (p : ℕ) (g : Fin 2) (r : Fin 512) (d : Fin 256) :
    upAt (rowsOf H i) (chunkW W p) g ⟨r.val + 1, by omega⟩ d
      = if (512 * i + r.val) % 2048 = 2047 then 0 else upRow H W g (512 * i + r.val + 1) ⟨(256 * p + d.val) % 5632, Nat.mod_lt _ (by norm_num)⟩ := by
  by_cases h : r.val = 511
  · have h5 : ¬ r.val + 1 < 512 := by omega
    have h6 : r.val + 1 < 520 := by omega
    by_cases h4 : i % 4 = 3
    · rw [if_pos (by omega)]
      refine Finset.sum_eq_zero fun k _ => ?_
      have : rowsOf H i (ix2 (⟨r.val + 1, by omega⟩ : Fin 528) k) = (0 : EReal) := (if_neg h5).trans ((if_pos h6).trans (if_pos h4))
      rw [this, zero_mul]
    · rw [if_neg (by omega)]
      exact Finset.sum_congr rfl fun k _ => congrArg (· * _) ((if_neg h5).trans ((if_pos h6).trans (if_neg h4)))
  · rw [if_neg (by omega), up_own H W i p g _ (show r.val + 1 < 512 by omega)]
    rfl

/-- A block's activation is the rows'. -/
theorem act_row (p : ℕ) (r : Fin 512) (d : Fin 256) :
    actAt (upT (F := Ideal) (rowsOf H i) (chunkW W p)) (chunkC C p) r d = actRow H W C (512 * i + r.val) ⟨(256 * p + d.val) % 5632, Nat.mod_lt _ (by norm_num)⟩ := by
  have e : ∀ g : Fin 2, convAt (upT (F := Ideal) (rowsOf H i) (chunkW W p)) (chunkC C p) g (before r) ⟨r.val, by omega⟩ ⟨r.val + 1, by omega⟩ d
      = convRow H W C g (512 * i + r.val) ⟨(256 * p + d.val) % 5632, Nat.mod_lt _ (by norm_num)⟩ := by
    intro g
    unfold convAt convRow
    rw [up_at, up_at, up_at, up_before, up_after, up_own H W i p g _ (show r.val < 512 by omega)]
    rfl
  unfold actAt actRow
  rw [e 0, e 1]

/-- The chunks' parts are the whole down-projection. -/
theorem sum_row (r : Fin 512) (e : Fin 2048) : sumOf H W C D i 22 (ix2 r e) = downRow H W C D (512 * i + r.val) e := by
  show ∑ p ∈ Finset.range 22, chunkAt H W C D i p r e = _
  unfold chunkAt downRow
  simp only [act_row]
  rw [Finset.sum_range, ← Fintype.sum_prod_type' (f := fun (p : Fin 22) (k : Fin 256) => actRow H W C (512 * i + r.val) ⟨(256 * p.val + k.val) % 5632, Nat.mod_lt _ (by norm_num)⟩ * chunkD D p.val (ix2 k e))]
  refine Fintype.sum_equiv (finProdFinEquiv (m := 22) (n := 256)) _ (fun k : Fin 5632 => actRow H W C (512 * i + r.val) k * D (ix2 k e)) fun x => ?_
  have hk : (⟨(256 * x.1.val + x.2.val) % 5632, Nat.mod_lt _ (by norm_num)⟩ : Fin 5632) = finProdFinEquiv (m := 22) (n := 256) x := by
    refine Fin.ext ?_
    show (256 * x.1.val + x.2.val) % 5632 = x.2.val + 256 * x.1.val
    omega
  exact congrArg (fun k => actRow H W C (512 * i + r.val) k * D (ix2 k e)) hk

end Rows

/-- The block's result: the residual and the gated, normalised down-projection. -/
def ffnAt (H : FVec Ideal S16384x2048 .bf16) (W : FVec Ideal S2x2048x5632 .bf16) (C : FVec Ideal S4x2x5632 .f32) (D : FVec Ideal S5632x2048 .bf16)
    (X : FVec Ideal S16384x2048 .f32) (G : FVec Ideal S8x1x2048 .f32) (N : FVec Ideal S1x2048 .f32) (n : Fin 16384) (e : Fin 2048) : EReal :=
  X (ix2 n e) + G (ix3 (⟨n.val / 2048, by omega⟩ : Fin 8) (0 : Fin 1) e)
    * (downRow H W C D n.val e * Ideal.rsqrt (Ideal.div (∑ k : Fin 2048, downRow H W C D n.val k * downRow H W C D n.val k) (Ideal.ofBits .f32 0x45000000#32) + Ideal.ofBits .f32 0x358637BD#32)
      * N (ix2 (0 : Fin 1) e))

/-- The call's result from its operands. -/
def FFN (H : FVec Ideal S16384x2048 .bf16) (W : FVec Ideal S2x2048x5632 .bf16) (C : FVec Ideal S4x2x5632 .f32) (D : FVec Ideal S5632x2048 .bf16)
    (X : FVec Ideal S16384x2048 .f32) (G : FVec Ideal S8x1x2048 .f32) (N : FVec Ideal S1x2048 .f32) : FVec Ideal S16384x2048 .f32 :=
  fun y => ffnAt H W C D X G N (y 0) (y 1)

section Final

variable (m : (ℓ : Loc nD τ sig) → Buf (Elt Ideal) ℓ) (c : Dev nD) (t : Fin cfg0.N)

/-- A point's block of the residual. -/
theorem x_blk (r : Fin 512) (e : Fin 2048) : (show FVec Ideal S512x2048 .f32 from iblk m c 9 t) (ix2 r e)
    = (show FVec Ideal S16384x2048 .f32 from V m c main_v12) (ix2 ⟨t.val / 11 * 512 + r.val, by have := point_lt t; omega⟩ e) := by
  blk_point [iblk, idx0 t]

/-- A point's gate. -/
theorem g_blk (e : Fin 2048) : (show FVec Ideal S1x1x2048 .f32 from iblk m c 10 t) (ix3 0 0 e)
    = (show FVec Ideal S8x1x2048 .f32 from V m c main_arg2) (ix3 (⟨t.val / 44, by have := point_lt t; omega⟩ : Fin 8) (0 : Fin 1) e) := by
  blk_point [iblk, idx0 t]

/-- The norm's weights. -/
theorem n_blk (e : Fin 2048) : (show FVec Ideal S1x2048 .f32 from iblk m c 11 t) (ix2 0 e) = (show FVec Ideal S1x2048 .f32 from V m c main_v13) (ix2 0 e) := by
  blk_point [iblk, idx0 t]

/-- The last point's block of the result. -/
theorem last_at (h : t.val % 11 = 10) (r : Fin 512) (e : Fin 2048) : (show FVec Ideal S512x2048 .f32 from (outsAt0 m c t.val t.isLt).1) (ix2 r e)
    = ffnAt (V m c main_v10) (V m c main_v5) (V m c main_v8) (V m c main_v11) (V m c main_v12) (V m c main_arg2) (V m c main_v13)
      ⟨t.val / 11 * 512 + r.val, by have := point_lt t; omega⟩ e := by
  have ht := point_lt t
  rw [out_last m c t h]
  refine (norm_at _ _ _ _ r e).trans ?_
  have eg : (⟨t.val / 44, by omega⟩ : Fin 8) = ⟨(t.val / 11 * 512 + r.val) / 2048, by omega⟩ := Fin.ext (by show t.val / 44 = (t.val / 11 * 512 + r.val) / 2048; omega)
  have er : 512 * (t.val / 11) + r.val = t.val / 11 * 512 + r.val := by omega
  unfold ffnAt
  simp only [sum_row, er]
  refine congr (congrArg HAdd.hAdd (x_blk m c t r e)) (congr (congrArg HMul.hMul ((g_blk m c t e).trans ?_)) (congrArg (_ * ·) (n_blk m c t e)))
  rw [eg]

/-- The call's array. -/
theorem final12 : (dats m 0 c).arrAt 12 cfg0.N = FFN (V m c main_v10) (V m c main_v5) (V m c main_v8) (V m c main_v11) (V m c main_v12) (V m c main_arg2) (V m c main_v13) := by
  refine (dats m 0 c).arrAt_eq_of_covers 12 _ (by decide +kernel) fun t hf y => ?_
  blk_simp
  rw [after0_12]
  obtain ⟨r, e, rfl⟩ : ∃ (r : Fin 512) (e : Fin 2048), y = ix2 r e := ⟨y 0, y 1, eq_ix2 y⟩
  refine (last_at m c t ((flush0_12 t).mp hf) r e).trans ?_
  unfold FFN
  have e0 : (((View.whole main_v14).slice (win0_12.rect t)).emb (ix2 r e) 0 : ℕ) = t.val / 11 * 512 + r.val := by blk_simp [idx0 t]
  have e1 : (((View.whole main_v14).slice (win0_12.rect t)).emb (ix2 r e) 1 : ℕ) = e.val := by blk_simp [idx0 t]
  exact congrArg₂ (ffnAt _ _ _ _ _ _ _) (Fin.ext e0.symm) (Fin.ext e1.symm)

end Final

end Cert.FfnIdeal.Ffn

end
-- ==== Proof.FfnEq.lean ====
module

public import proofs.«01_k».proof.Proof.FfnArr
public import proofs.«01_k».proof.Proof.Gen.FfnRefIdeal.Run
public import proofs.«01_k».proof.Defs

@[expose] public section

set_option maxRecDepth 16384

noncomputable section

open Idealize.ShloMosaic Idealize.ShloMosaic.TcCoe Idealize.ShloMosaic.Tactic Idealize.SL.Sem

namespace Cert.FfnIdeal.Ffn

open Cert.FfnIdeal Cert.FfnIdeal.Gen

/-- The input's rows. -/
def inT (h : FVec Ideal S8x2048x2048 .f32) : FVec Ideal S16384x2048 .bf16 :=
  truncf .bf16 (shapeCast S16384x2048 h shapeCasts_S8x2048x2048_S16384x2048) bitsLt_bf16_f32

/-- The up-projection's weights, the gate's above the value's. -/
def weightsT (W : FVec Ideal S2048x11264 .f32) : FVec Ideal S2x2048x5632 .bf16 :=
  concatenate S2x2048x5632 0 [⟨S1x2048x5632, broadcastInDim S1x2048x5632 ![1, 2] bcast_S2048x5632_S1x2048x5632_1_2 (extractStridedSlice S2048x5632 ![0, 0] (show FVec Ideal S2048x11264 .bf16 from truncf .bf16 W bitsLt_bf16_f32) slices_S2048x11264_S2048x5632_0_0)⟩,
    ⟨S1x2048x5632, broadcastInDim S1x2048x5632 ![1, 2] bcast_S2048x5632_S1x2048x5632_1_2 (extractStridedSlice S2048x5632 ![0, 5632] (show FVec Ideal S2048x11264 .bf16 from truncf .bf16 W bitsLt_bf16_f32) slices_S2048x11264_S2048x5632_0_5632)⟩] concatenates_S1x2048x5632_S1x2048x5632_S2x2048x5632_d0

/-- The taps, and the bias below them. -/
def tapsT (w : FVec Ideal S3x11264 .f32) (b : FVec Ideal S11264 .f32) : FVec Ideal S4x2x5632 .f32 :=
  concatenate S4x2x5632 0 [⟨S3x2x5632, shapeCast S3x2x5632 w shapeCasts_S3x11264_S3x2x5632⟩, ⟨S1x2x5632, shapeCast S1x2x5632 b shapeCasts_S11264_S1x2x5632⟩] concatenates_S3x2x5632_S1x2x5632_S4x2x5632_d0

/-- An element of the input's rows. -/
theorem inT_at (h : FVec Ideal S8x2048x2048 .f32) (b : Fin 8) (l : Fin 2048) (k : Fin 2048) :
    inT h (ix2 ⟨b.val * 2048 + l.val, by omega⟩ k) = h (ix3 b l k) := by
  pointwise [inT]

/-- A weight of the up-projection. -/
theorem weightsT_at (W : FVec Ideal S2048x11264 .f32) (k : Fin 2048) (d : Fin 5632) :
    ∀ g : Fin 2, weightsT W (ix3 g k d) = W (ix2 k ⟨g.val * 5632 + d.val, by omega⟩) := by
  refine Fin.forall_fin_two.mpr ⟨?_, ?_⟩
  · pointwise [weightsT]
  · pointwise [weightsT]

/-- A tap. -/
theorem tapsT_at (w : FVec Ideal S3x11264 .f32) (b : FVec Ideal S11264 .f32) (g : Fin 2) (d : Fin 5632) (i : Fin 3) :
    tapsT w b (ix3 (⟨i.val, by omega⟩ : Fin 4) g d) = w (ix2 i ⟨g.val * 5632 + d.val, by omega⟩) := by
  pointwise [tapsT]

/-- A bias. -/
theorem tapsT_bias (w : FVec Ideal S3x11264 .f32) (b : FVec Ideal S11264 .f32) (g : Fin 2) (d : Fin 5632) :
    tapsT w b (ix3 3 g d) = b (ix1 ⟨g.val * 5632 + d.val, by omega⟩) := by
  pointwise [tapsT]

/-- A convolution of three taps, and a bias, at a place of a sequence of 2048 that is zero outside. -/
def taps (a b c z : EReal) (x : Fin 2048 → EReal) (l : Fin 2048) : EReal :=
  a * (if h : l.val = 0 then 0 else x ⟨l.val - 1, by omega⟩) + b * x l + c * (if h : l.val = 2047 then 0 else x ⟨l.val + 1, by omega⟩) + z

/-- The up-projection of an element. -/
def vup (h : FVec Ideal S8x2048x2048 .f32) (W : FVec Ideal S2048x11264 .f32) (b : Fin 8) (l : Fin 2048) (d : Fin 11264) : EReal :=
  ∑ k : Fin 2048, h (ix3 b l k) * W (ix2 k d)

/-- Its convolution along the sequence. -/
def vconv (h : FVec Ideal S8x2048x2048 .f32) (W : FVec Ideal S2048x11264 .f32) (w : FVec Ideal S3x11264 .f32) (z : FVec Ideal S11264 .f32) (b : Fin 8) (l : Fin 2048) (d : Fin 11264) : EReal :=
  taps (w (ix2 0 d)) (w (ix2 1 d)) (w (ix2 2 d)) (z (ix1 d)) (fun l => vup h W b l d) l

/-- The gated activation. -/
def vact (h : FVec Ideal S8x2048x2048 .f32) (W : FVec Ideal S2048x11264 .f32) (w : FVec Ideal S3x11264 .f32) (z : FVec Ideal S11264 .f32) (b : Fin 8) (l : Fin 2048) (d : Fin 5632) : EReal :=
  vconv h W w z b l ⟨d.val, by omega⟩ * Ideal.logistic (vconv h W w z b l ⟨d.val, by omega⟩) * vconv h W w z b l ⟨5632 + d.val, by omega⟩

/-- The down-projection. -/
def vdown (h : FVec Ideal S8x2048x2048 .f32) (W : FVec Ideal S2048x11264 .f32) (w : FVec Ideal S3x11264 .f32) (z : FVec Ideal S11264 .f32) (D : FVec Ideal S5632x2048 .f32)
    (b : Fin 8) (l : Fin 2048) (e : Fin 2048) : EReal :=
  ∑ k : Fin 5632, vact h W w z b l k * D (ix2 k e)

/-- The residual and the gated normalisation of a row. -/
def vout (x : FVec Ideal S8x2048x2048 .f32) (g : FVec Ideal S8x1x2048 .f32) (n : FVec Ideal S2048 .f32) (b : Fin 8) (l : Fin 2048) (p : Fin 2048 → EReal) (e : Fin 2048) : EReal :=
  x (ix3 b l e) + g (ix3 b (0 : Fin 1) e) * (p e * Ideal.rsqrt (Ideal.div (∑ k : Fin 2048, p k * p k) (Ideal.ofBits .f32 0x45000000#32) + Ideal.ofBits .f32 0x358637BD#32) * n (ix1 e))

section Packed

variable (h : FVec Ideal S8x2048x2048 .f32) (W : FVec Ideal S2048x11264 .f32) (w : FVec Ideal S3x11264 .f32) (z : FVec Ideal S11264 .f32) (b : Fin 8) (l : Fin 2048)

/-- The packed arrays' up-projection. -/
theorem up_vup (n : ℕ) (hn : n = b.val * 2048 + l.val) (g : Fin 2) (d : Fin 5632) :
    upRow (inT h) (weightsT W) g n d = vup h W b l ⟨g.val * 5632 + d.val, by omega⟩ := by
  have e : (⟨n % 16384, Nat.mod_lt _ (by norm_num)⟩ : Fin 16384) = ⟨b.val * 2048 + l.val, by omega⟩ := Fin.ext (by show n % 16384 = b.val * 2048 + l.val; omega)
  unfold upRow vup
  refine Finset.sum_congr rfl fun k _ => congrArg₂ (· * ·) ?_ (weightsT_at W k d g)
  rw [e, inT_at]

/-- The packed arrays' convolution. -/
theorem conv_vconv (g : Fin 2) (d : Fin 5632) :
    convRow (inT h) (weightsT W) (tapsT w z) g (b.val * 2048 + l.val) d = vconv h W w z b l ⟨g.val * 5632 + d.val, by omega⟩ := by
  unfold convRow vconv taps
  have hl := l.isLt
  refine congrArg₂ (· + ·) (congrArg₂ (· + ·) (congrArg₂ (· + ·) (congrArg₂ (· * ·) (tapsT_at w z g d 0) ?_) (congrArg₂ (· * ·) (tapsT_at w z g d 1) (up_vup h W b l _ rfl g d))) (congrArg₂ (· * ·) (tapsT_at w z g d 2) ?_)) (tapsT_bias w z g d)
  · by_cases h0 : l.val = 0
    · rw [if_pos (by omega), dif_pos h0]
    · rw [if_neg (by omega), dif_neg h0]
      exact up_vup h W b ⟨l.val - 1, by omega⟩ _ (by show _ = b.val * 2048 + (l.val - 1); omega) g d
  · by_cases h0 : l.val = 2047
    · rw [if_pos (by omega), dif_pos h0]
    · rw [if_neg (by omega), dif_neg h0]
      exact up_vup h W b ⟨l.val + 1, by omega⟩ _ (by show _ = b.val * 2048 + (l.val + 1); omega) g d

/-- The packed arrays' activation. -/
theorem act_vact (d : Fin 5632) : actRow (inT h) (weightsT W) (tapsT w z) (b.val * 2048 + l.val) d = vact h W w z b l d := by
  unfold actRow vact
  rw [conv_vconv, conv_vconv]
  have e0 : (⟨(0 : Fin 2).val * 5632 + d.val, by simp only [Fin.val_zero]; omega⟩ : Fin 11264) = ⟨d.val, by omega⟩ := Fin.ext (by show 0 * 5632 + d.val = d.val; omega)
  have e1 : (⟨(1 : Fin 2).val * 5632 + d.val, by simp only [Fin.val_one]; omega⟩ : Fin 11264) = ⟨5632 + d.val, by omega⟩ := Fin.ext (by show 1 * 5632 + d.val = 5632 + d.val; omega)
  rw [e0, e1]

/-- The packed arrays' down-projection. -/
theorem down_vdown (D : FVec Ideal S5632x2048 .f32) (e : Fin 2048) :
    downRow (inT h) (weightsT W) (tapsT w z) (truncf .bf16 D bitsLt_bf16_f32) (b.val * 2048 + l.val) e = vdown h W w z D b l e :=
  Finset.sum_congr rfl fun k _ => congrArg (· * _) (act_vact h W w z b l k)

/-- The packed arrays' result. -/
theorem ffn_vout (D : FVec Ideal S5632x2048 .f32) (x : FVec Ideal S8x2048x2048 .f32) (g : FVec Ideal S8x1x2048 .f32) (n : FVec Ideal S2048 .f32) (r : Fin 16384) (e : Fin 2048) :
    ffnAt (inT h) (weightsT W) (tapsT w z) (truncf .bf16 D bitsLt_bf16_f32) (shapeCast S16384x2048 x shapeCasts_S8x2048x2048_S16384x2048) g (shapeCast S1x2048 n shapeCasts_S2048_S1x2048) r e
      = vout x g n ⟨r.val / 2048, by omega⟩ ⟨r.val % 2048, by omega⟩ (vdown h W w z D ⟨r.val / 2048, by omega⟩ ⟨r.val % 2048, by omega⟩) e := by
  have hr : r.val = (⟨r.val / 2048, by omega⟩ : Fin 8).val * 2048 + (⟨r.val % 2048, by omega⟩ : Fin 2048).val := by
    show r.val = r.val / 2048 * 2048 + r.val % 2048
    omega
  have hd : ∀ k, downRow (inT h) (weightsT W) (tapsT w z) (truncf .bf16 D bitsLt_bf16_f32) r.val k = vdown h W w z D ⟨r.val / 2048, by omega⟩ ⟨r.val % 2048, by omega⟩ k :=
    fun k => (congrArg (fun q => downRow (inT h) (weightsT W) (tapsT w z) (truncf .bf16 D bitsLt_bf16_f32) q k) hr).trans (down_vdown h W w z _ _ D k)
  unfold ffnAt vout
  simp only [hd]
  refine congrArg₂ (· + ·) ?_ (congrArg (HMul.hMul _) (congrArg (HMul.hMul _) ?_))
  · pointwise
  · pointwise

end Packed

section Host

variable (m : (ℓ : Loc nD τ sig) → Buf (Elt Ideal) ℓ) (c : Dev nD)

/-- The input's rows, as the call takes them. -/
theorem v10_eq : (show FVec Ideal S16384x2048 .bf16 from V m c main_v10) = inT (m ((c.tc : Thread nD τ).loc main_arg0)) := by
  show StableHlo.after hostOps0 (fun b => m (c, b)) main_v10 = _
  after_results <;> rfl

/-- The up-projection's weights, as the call takes them. -/
theorem v5_eq : (show FVec Ideal S2x2048x5632 .bf16 from V m c main_v5) = weightsT (m ((c.tc : Thread nD τ).loc main_arg3)) := by
  show StableHlo.after hostOps0 (fun b => m (c, b)) main_v5 = _
  after_results <;> rfl

/-- The taps and the bias, as the call takes them. -/
theorem v8_eq : (show FVec Ideal S4x2x5632 .f32 from V m c main_v8) = tapsT (m ((c.tc : Thread nD τ).loc main_arg4)) (m ((c.tc : Thread nD τ).loc main_arg5)) := by
  show StableHlo.after hostOps0 (fun b => m (c, b)) main_v8 = _
  after_results <;> rfl

/-- The down-projection's weights, as the call takes them. -/
theorem v11_eq : (show FVec Ideal S5632x2048 .bf16 from V m c main_v11) = truncf .bf16 (show FVec Ideal S5632x2048 .f32 from m ((c.tc : Thread nD τ).loc main_arg6)) bitsLt_bf16_f32 := by
  show StableHlo.after hostOps0 (fun b => m (c, b)) main_v11 = _
  after_results <;> rfl

/-- The residual's rows, as the call takes them. -/
theorem v12_eq : (show FVec Ideal S16384x2048 .f32 from V m c main_v12) = shapeCast S16384x2048 (show FVec Ideal S8x2048x2048 .f32 from m ((c.tc : Thread nD τ).loc main_arg1)) shapeCasts_S8x2048x2048_S16384x2048 := by
  show StableHlo.after hostOps0 (fun b => m (c, b)) main_v12 = _
  after_results <;> rfl

/-- The gates, as the call takes them. -/
theorem arg2_eq : (show FVec Ideal S8x1x2048 .f32 from V m c main_arg2) = m ((c.tc : Thread nD τ).loc main_arg2) := by
  show StableHlo.after hostOps0 (fun b => m (c, b)) main_arg2 = _
  after_results <;> rfl

/-- The norm's gains, as the call takes them. -/
theorem v13_eq : (show FVec Ideal S1x2048 .f32 from V m c main_v13) = shapeCast S1x2048 (show FVec Ideal S2048 .f32 from m ((c.tc : Thread nD τ).loc main_arg7)) shapeCasts_S2048_S1x2048 := by
  show StableHlo.after hostOps0 (fun b => m (c, b)) main_v13 = _
  after_results <;> rfl

/-- The call's result, from the arguments. -/
def OUT : FVec Ideal S16384x2048 .f32 :=
  FFN (inT (m ((c.tc : Thread nD τ).loc main_arg0))) (weightsT (m ((c.tc : Thread nD τ).loc main_arg3))) (tapsT (m ((c.tc : Thread nD τ).loc main_arg4)) (m ((c.tc : Thread nD τ).loc main_arg5)))
    (truncf .bf16 (show FVec Ideal S5632x2048 .f32 from m ((c.tc : Thread nD τ).loc main_arg6)) bitsLt_bf16_f32)
    (shapeCast S16384x2048 (show FVec Ideal S8x2048x2048 .f32 from m ((c.tc : Thread nD τ).loc main_arg1)) shapeCasts_S8x2048x2048_S16384x2048)
    (m ((c.tc : Thread nD τ).loc main_arg2)) (shapeCast S1x2048 (show FVec Ideal S2048 .f32 from m ((c.tc : Thread nD τ).loc main_arg7)) shapeCasts_S2048_S1x2048)

/-- Seven equal arguments give equal results. -/
theorem congrArg₇ {α₁ α₂ α₃ α₄ α₅ α₆ α₇ β : Type} (f : α₁ → α₂ → α₃ → α₄ → α₅ → α₆ → α₇ → β) {a₁ b₁ a₂ b₂ a₃ b₃ a₄ b₄ a₅ b₅ a₆ b₆ a₇ b₇}
    (h₁ : a₁ = b₁) (h₂ : a₂ = b₂) (h₃ : a₃ = b₃) (h₄ : a₄ = b₄) (h₅ : a₅ = b₅) (h₆ : a₆ = b₆) (h₇ : a₇ = b₇) :
    f a₁ a₂ a₃ a₄ a₅ a₆ a₇ = f b₁ b₂ b₃ b₄ b₅ b₆ b₇ := by
  subst h₁ h₂ h₃ h₄ h₅ h₆ h₇; rfl

/-- The call's array at the end of the run. -/
theorem final : (show FVec Ideal S16384x2048 .f32 from (dats m 0 c).arrAt 12 cfg0.N) = OUT m c :=
  (final12 m c).trans (congrArg₇ FFN (v10_eq m c) (v5_eq m c) (v8_eq m c) (v11_eq m c) (v12_eq m c) (arg2_eq m c) (v13_eq m c))

/-- The run ends with the call's result in place and with every argument as it was launched. -/
theorem run_call (ρ : Dev nD → PrngReg) : θ_run defs (onTc (τ := τ) (main (F := Ideal))) ⟨m, fun _ => 0, ρ⟩ fun r => ∀ c : Dev nD,
      r.2.mem ((c : Thread nD τ).loc main_v14) = OUT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨((h c).1 12).trans (final m c), ?_, ?_, ?_, ?_, ?_, ?_, ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).1 10).trans (((dats m 0 c).arrAt_in 10 rfl _).trans ((A_eq m c 10).trans (V_main_arg2 m c)))
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)
  · exact ((h c).2 main_arg7 (Pipeline.mem_restRefs_of main_arg7 (by decide) (by decide))).trans (V_main_arg7 m c)

end Host

end Cert.FfnIdeal.Ffn

namespace Cert.FfnRefIdeal.Ffn

open Cert.FfnRefIdeal Cert.FfnRefIdeal.Gen

/-- The reference's up-projection. -/
def upT (h : FVec Ideal S8x2048x2048 .f32) (W : FVec Ideal S2048x11264 .f32) : FVec Ideal S8x2048x11264 .f32 :=
  Host.dotGeneral dot_S8x2048x2048_S2048x11264_S8x2048x11264_2_0_01_1_n_n none h W

/-- The reference's convolution along the sequence. -/
def convT (x : FVec Ideal S8x2048x11264 .f32) (w : FVec Ideal S3x11264 .f32) : FVec Ideal S8x2048x11264 .f32 :=
  addf (addf (mulf (extractStridedSlice S8x2048x11264 ![0, 0, 0] (pad S8x2050x11264 ![0, 1, 0] ![0, 1, 0] ![0, 0, 0] x (sitofp .f32 (constantI S_ 32 0#32)) pads_S8x2048x11264_S8x2050x11264_000_110_000 h_S_) slices_S8x2050x11264_S8x2048x11264_0_0_0) (broadcastInDim S8x2048x11264 ![0, 1, 2] bcast_S1x1x11264_S8x2048x11264_0_1_2 (broadcastInDim S1x1x11264 ![2] bcast_S11264_S1x1x11264_2 (shapeCast S11264 (extractStridedSlice S1x11264 ![0, 0] w slices_S3x11264_S1x11264_0_0) shapeCasts_S1x11264_S11264))))
    (mulf x (broadcastInDim S8x2048x11264 ![0, 1, 2] bcast_S1x1x11264_S8x2048x11264_0_1_2 (broadcastInDim S1x1x11264 ![2] bcast_S11264_S1x1x11264_2 (shapeCast S11264 (extractStridedSlice S1x11264 ![1, 0] w slices_S3x11264_S1x11264_1_0) shapeCasts_S1x11264_S11264)))))
    (mulf (extractStridedSlice S8x2048x11264 ![0, 2, 0] (pad S8x2050x11264 ![0, 1, 0] ![0, 1, 0] ![0, 0, 0] x (sitofp .f32 (constantI S_ 32 0#32)) pads_S8x2048x11264_S8x2050x11264_000_110_000 h_S_) slices_S8x2050x11264_S8x2048x11264_0_2_0) (broadcastInDim S8x2048x11264 ![0, 1, 2] bcast_S1x1x11264_S8x2048x11264_0_1_2 (broadcastInDim S1x1x11264 ![2] bcast_S11264_S1x1x11264_2 (shapeCast S11264 (extractStridedSlice S1x11264 ![2, 0] w slices_S3x11264_S1x11264_2_0) shapeCasts_S1x11264_S11264))))

/-- The reference's convolution with its bias. -/
def biasT (u : FVec Ideal S8x2048x11264 .f32) (z : FVec Ideal S11264 .f32) : FVec Ideal S8x2048x11264 .f32 :=
  addf u (broadcastInDim S8x2048x11264 ![0, 1, 2] bcast_S1x1x11264_S8x2048x11264_0_1_2 (broadcastInDim S1x1x11264 ![2] bcast_S11264_S1x1x11264_2 z))

/-- The reference's gate. -/
def siluT (g : FVec Ideal S8x2048x5632 .f32) : FVec Ideal S8x2048x5632 .f32 :=
  mulf g (Host.divf (broadcastInDim S8x2048x5632 ![] bcast_S_S8x2048x5632 (constant S_ .f32 0x3F800000#32)) (addf (broadcastInDim S8x2048x5632 ![] bcast_S_S8x2048x5632 (constant S_ .f32 0x3F800000#32)) (Host.exp (Host.negf g))))

/-- The reference's activation. -/
def actT (u : FVec Ideal S8x2048x11264 .f32) : FVec Ideal S8x2048x5632 .f32 :=
  mulf (siluT (extractStridedSlice S8x2048x5632 ![0, 0, 0] u slices_S8x2048x11264_S8x2048x5632_0_0_0)) (extractStridedSlice S8x2048x5632 ![0, 0, 5632] u slices_S8x2048x11264_S8x2048x5632_0_0_5632)

/-- The reference's down-projection. -/
def downT (a : FVec Ideal S8x2048x5632 .f32) (D : FVec Ideal S5632x2048 .f32) : FVec Ideal S8x2048x2048 .f32 :=
  Host.dotGeneral dot_S8x2048x5632_S5632x2048_S8x2048x2048_2_0_01_1_n_n none a D

/-- The reference's normalisation. -/
def normT (p : FVec Ideal S8x2048x2048 .f32) (n : FVec Ideal S2048 .f32) : FVec Ideal S8x2048x2048 .f32 :=
  mulf (mulf p (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf p p) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 n))

/-- The reference's result from the normalised rows. -/
def outT (x : FVec Ideal S8x2048x2048 .f32) (g : FVec Ideal S8x1x2048 .f32) (p : FVec Ideal S8x2048x2048 .f32) : FVec Ideal S16384x2048 .f32 :=
  shapeCast S16384x2048 (addf x (mulf (broadcastInDim S8x2048x2048 ![0, 1, 2] bcast_S8x1x2048_S8x2048x2048_0_1_2 g) p)) shapeCasts_S8x2048x2048_S16384x2048

/-- The reference's whole result. -/
def allT (h x : FVec Ideal S8x2048x2048 .f32) (g : FVec Ideal S8x1x2048 .f32) (W : FVec Ideal S2048x11264 .f32) (w : FVec Ideal S3x11264 .f32) (z : FVec Ideal S11264 .f32)
    (D : FVec Ideal S5632x2048 .f32) (n : FVec Ideal S2048 .f32) : FVec Ideal S16384x2048 .f32 :=
  outT x g (normT (downT (actT (biasT (convT (upT h W) w) z)) D) n)

/-- The up-projection, at an index. -/
theorem upT_at (h : FVec Ideal S8x2048x2048 .f32) (W : FVec Ideal S2048x11264 .f32) (b : Fin 8) (l : Fin 2048) (d : Fin 11264) :
    upT h W (ix3 b l d) = Cert.FfnIdeal.Ffn.vup h W b l d := by
  pointwise [upT, Cert.FfnIdeal.Ffn.vup]

/-- The convolution with its bias, at an index. -/
theorem convT_at (x : FVec Ideal S8x2048x11264 .f32) (w : FVec Ideal S3x11264 .f32) (z : FVec Ideal S11264 .f32) (b : Fin 8) (l : Fin 2048) (d : Fin 11264) :
    biasT (convT x w) z (ix3 b l d) = Cert.FfnIdeal.Ffn.taps (w (ix2 0 d)) (w (ix2 1 d)) (w (ix2 2 d)) (z (ix1 d)) (fun l => x (ix3 b l d)) l := by
  pointwise [biasT, convT, Cert.FfnIdeal.Ffn.taps]
  have hz : (FloatOps.sitofp FTy.f32 0#32 : Ideal FTy.f32) = 0 := by
    show (((0#32 : BitVec 32).toInt : ℝ) : EReal) = 0
    norm_num
  rw [hz]
  have e0 : ∀ h h', (x (ix3 b ⟨2 + l.val - 1, h⟩ d)) = x (ix3 b ⟨l.val + 1, h'⟩ d) := fun _ _ => congrArg (fun a => x (ix3 b a d)) (Fin.ext (by show 2 + l.val - 1 = l.val + 1; omega))
  refine congrArg₂ (· + ·) (congrArg₂ (· + ·) (congrArg₂ (· + ·) ?_ (mul_comm _ _)) ?_) rfl
  · by_cases h : l.val = 0
    · rw [dif_neg (by omega), dif_pos h, zero_mul, mul_zero]
    · rw [dif_pos ⟨by omega, by omega⟩, dif_neg h, mul_comm]
  · by_cases h : l.val = 2047
    · rw [dif_neg (by omega), dif_pos h, zero_mul, mul_zero]
    · rw [dif_pos ⟨by omega, by omega⟩, dif_neg h, mul_comm, e0]

/-- The gate, at an index. -/
theorem siluT_at (g : FVec Ideal S8x2048x5632 .f32) (b : Fin 8) (l : Fin 2048) (d : Fin 5632) :
    siluT g (ix3 b l d) = g (ix3 b l d) * Ideal.logistic (g (ix3 b l d)) := by
  have h1 : Ideal.ofBits .f32 0x3F800000#32 = 1 := by
    simp [Ideal.ofBits, Ideal.ieee]
    rw [← EReal.coe_mul]
    norm_num
  pointwise [siluT, h1]
  rfl

/-- The activation, at an index. -/
theorem actT_at (u : FVec Ideal S8x2048x11264 .f32) (b : Fin 8) (l : Fin 2048) (d : Fin 5632) :
    actT u (ix3 b l d) = u (ix3 b l ⟨d.val, by omega⟩) * Ideal.logistic (u (ix3 b l ⟨d.val, by omega⟩)) * u (ix3 b l ⟨5632 + d.val, by omega⟩) := by
  unfold actT
  generalize hg : extractStridedSlice S8x2048x5632 ![0, 0, 0] u slices_S8x2048x11264_S8x2048x5632_0_0_0 = G
  have eg : u (ix3 b l ⟨d.val, by omega⟩) = G (ix3 b l d) := by
    subst hg
    pointwise
  rw [eg, ← siluT_at]
  generalize siluT G = S
  pointwise

/-- The down-projection, at an index. -/
theorem downT_at (a : FVec Ideal S8x2048x5632 .f32) (D : FVec Ideal S5632x2048 .f32) (b : Fin 8) (l e : Fin 2048) :
    downT a D (ix3 b l e) = ∑ k : Fin 5632, a (ix3 b l k) * D (ix2 k e) := by
  pointwise [downT]

/-- The normalisation, at an index. -/
theorem normT_at (p : FVec Ideal S8x2048x2048 .f32) (n : FVec Ideal S2048 .f32) (b : Fin 8) (l e : Fin 2048) :
    normT p n (ix3 b l e) = p (ix3 b l e) * Ideal.rsqrt (Ideal.div (∑ k : Fin 2048, p (ix3 b l k) * p (ix3 b l k)) (Ideal.ofBits .f32 0x45000000#32) + Ideal.ofBits .f32 0x358637BD#32) * n (ix1 e) := by
  pointwise [normT]

/-- The result, at an index. -/
theorem outT_at (x : FVec Ideal S8x2048x2048 .f32) (g : FVec Ideal S8x1x2048 .f32) (p : FVec Ideal S8x2048x2048 .f32) (r : Fin 16384) (e : Fin 2048) :
    outT x g p (ix2 r e) = x (ix3 ⟨r.val / 2048, by omega⟩ ⟨r.val % 2048, by omega⟩ e) + g (ix3 (⟨r.val / 2048, by omega⟩ : Fin 8) (0 : Fin 1) e) * p (ix3 ⟨r.val / 2048, by omega⟩ ⟨r.val % 2048, by omega⟩ e) := by
  pointwise [outT]

/-- The whole down-projection, at an index. -/
theorem down_vdown (h : FVec Ideal S8x2048x2048 .f32) (W : FVec Ideal S2048x11264 .f32) (w : FVec Ideal S3x11264 .f32) (z : FVec Ideal S11264 .f32) (D : FVec Ideal S5632x2048 .f32) (b : Fin 8) (l e : Fin 2048) :
    downT (actT (biasT (convT (upT h W) w) z)) D (ix3 b l e) = Cert.FfnIdeal.Ffn.vdown h W w z D b l e := by
  rw [downT_at]
  unfold Cert.FfnIdeal.Ffn.vdown Cert.FfnIdeal.Ffn.vact Cert.FfnIdeal.Ffn.vconv
  simp only [actT_at, convT_at, upT_at]

/-- The reference's result, at an index. -/
theorem allT_at (h x : FVec Ideal S8x2048x2048 .f32) (g : FVec Ideal S8x1x2048 .f32) (W : FVec Ideal S2048x11264 .f32) (w : FVec Ideal S3x11264 .f32) (z : FVec Ideal S11264 .f32)
    (D : FVec Ideal S5632x2048 .f32) (n : FVec Ideal S2048 .f32) (r : Fin 16384) (e : Fin 2048) :
    allT h x g W w z D n (ix2 r e)
      = Cert.FfnIdeal.Ffn.vout x g n ⟨r.val / 2048, by omega⟩ ⟨r.val % 2048, by omega⟩ (Cert.FfnIdeal.Ffn.vdown h W w z D ⟨r.val / 2048, by omega⟩ ⟨r.val % 2048, by omega⟩) e := by
  unfold allT Cert.FfnIdeal.Ffn.vout
  rw [outT_at, normT_at]
  simp only [down_vdown]

end Cert.FfnRefIdeal.Ffn

namespace Cert.FfnIdeal.Ffn

open Cert.FfnIdeal Cert.FfnIdeal.Gen

/-- The feed-forward call and its reference end with equal results. -/
theorem algebraic : Cert.algebraic_FfnIdeal_FfnRefIdeal (hFfnIdeal := Cert.FfnIdeal.Gen.facts) (hFfnRefIdeal := Cert.FfnRefIdeal.Gen.facts) := by
  intro m g m' g' _ hag
  refine ⟨fun c => OUT m c, run_call m g, ?_⟩
  refine (θ_run _ _ _).mono (fun r h c => ?_) (Cert.FfnRefIdeal.Value.run (F := Ideal) m' g')
  refine ⟨(h c).1.trans ?_, (h c).2⟩
  obtain ⟨h0, h1, h2, h3, h4, h5, h6, h7⟩ := hag c
  refine Eq.trans (b := Cert.FfnRefIdeal.Ffn.allT (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))) ?_ ?_
  · rw [← h0, ← h1, ← h2, ← h3, ← h4, ← h5, ← h6, ← h7]
    rfl
  · funext i
    rw [eq_ix2 i]
    exact (Cert.FfnRefIdeal.Ffn.allT_at _ _ _ _ _ _ _ _ (i 0) (i 1)).trans (ffn_vout _ _ _ _ _ _ _ _ (i 0) (i 1)).symm

end Cert.FfnIdeal.Ffn

end
-- ==== Proof.FfnPromptBody.lean ====
module

public import proofs.«01_k».proof.Proof.Gen.FfnPromptIdeal.Frame
public import proofs.«01_k».proof.Proof.FfnBody
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.ShloMosaic.Tactic Idealize.SL.Sem

namespace Cert.FfnPromptIdeal.Ffn

open Cert.FfnPromptIdeal Cert.FfnPromptIdeal.Gen
open Cert.FfnIdeal.Ffn (canon_over readCov_ld)

variable {F : FTy → Type} [FloatOps F]

/-- One step of the up-projection's contraction. -/
def stepT (a : Vec F S544x256 .bf16) (b : Vec F S1x256x256 .bf16) : FVec F S544x256 .f32 :=
  matmul dot_S544x256_S256x256_S544x256_1_0_0_1_n_n none a (shapeCast S256x256 b shapeCasts_S1x256x256_S256x256) (constant S544x256 .f32 0x00000000#32)

/-- The first half of a chunk's up-projection. -/
def up0T (hx : Vec F S544x2048 .bf16) (w : Vec F S2x2048x256 .bf16) : FVec F S544x256 .f32 :=
  addf (addf (addf (addf (addf (addf (addf (stepT (View.ld hx (Rect.unit ![0, 0] ![544, 256] inb_S544x2048_S544x256_0_0)) (View.ld w (Rect.unit ![0, 0, 0] ![1, 256, 256] inb_S2x2048x256_S1x256x256_0_0_0)))
    (stepT (View.ld hx (Rect.unit ![0, 256] ![544, 256] inb_S544x2048_S544x256_0_256)) (View.ld w (Rect.unit ![0, 256, 0] ![1, 256, 256] inb_S2x2048x256_S1x256x256_0_256_0))))
    (stepT (View.ld hx (Rect.unit ![0, 512] ![544, 256] inb_S544x2048_S544x256_0_512)) (View.ld w (Rect.unit ![0, 512, 0] ![1, 256, 256] inb_S2x2048x256_S1x256x256_0_512_0))))
    (stepT (View.ld hx (Rect.unit ![0, 768] ![544, 256] inb_S544x2048_S544x256_0_768)) (View.ld w (Rect.unit ![0, 768, 0] ![1, 256, 256] inb_S2x2048x256_S1x256x256_0_768_0))))
    (stepT (View.ld hx (Rect.unit ![0, 1024] ![544, 256] inb_S544x2048_S544x256_0_1024)) (View.ld w (Rect.unit ![0, 1024, 0] ![1, 256, 256] inb_S2x2048x256_S1x256x256_0_1024_0))))
    (stepT (View.ld hx (Rect.unit ![0, 1280] ![544, 256] inb_S544x2048_S544x256_0_1280)) (View.ld w (Rect.unit ![0, 1280, 0] ![1, 256, 256] inb_S2x2048x256_S1x256x256_0_1280_0))))
    (stepT (View.ld hx (Rect.unit ![0, 1536] ![544, 256] inb_S544x2048_S544x256_0_1536)) (View.ld w (Rect.unit ![0, 1536, 0] ![1, 256, 256] inb_S2x2048x256_S1x256x256_0_1536_0))))
    (stepT (View.ld hx (Rect.unit ![0, 1792] ![544, 256] inb_S544x2048_S544x256_0_1792)) (View.ld w (Rect.unit ![0, 1792, 0] ![1, 256, 256] inb_S2x2048x256_S1x256x256_0_1792_0)))

/-- The second half of a chunk's up-projection. -/
def up1T (hx : Vec F S544x2048 .bf16) (w : Vec F S2x2048x256 .bf16) : FVec F S544x256 .f32 :=
  addf (addf (addf (addf (addf (addf (addf (stepT (View.ld hx (Rect.unit ![0, 0] ![544, 256] inb_S544x2048_S544x256_0_0)) (View.ld w (Rect.unit ![1, 0, 0] ![1, 256, 256] inb_S2x2048x256_S1x256x256_1_0_0)))
    (stepT (View.ld hx (Rect.unit ![0, 256] ![544, 256] inb_S544x2048_S544x256_0_256)) (View.ld w (Rect.unit ![1, 256, 0] ![1, 256, 256] inb_S2x2048x256_S1x256x256_1_256_0))))
    (stepT (View.ld hx (Rect.unit ![0, 512] ![544, 256] inb_S544x2048_S544x256_0_512)) (View.ld w (Rect.unit ![1, 512, 0] ![1, 256, 256] inb_S2x2048x256_S1x256x256_1_512_0))))
    (stepT (View.ld hx (Rect.unit ![0, 768] ![544, 256] inb_S544x2048_S544x256_0_768)) (View.ld w (Rect.unit ![1, 768, 0] ![1, 256, 256] inb_S2x2048x256_S1x256x256_1_768_0))))
    (stepT (View.ld hx (Rect.unit ![0, 1024] ![544, 256] inb_S544x2048_S544x256_0_1024)) (View.ld w (Rect.unit ![1, 1024, 0] ![1, 256, 256] inb_S2x2048x256_S1x256x256_1_1024_0))))
    (stepT (View.ld hx (Rect.unit ![0, 1280] ![544, 256] inb_S544x2048_S544x256_0_1280)) (View.ld w (Rect.unit ![1, 1280, 0] ![1, 256, 256] inb_S2x2048x256_S1x256x256_1_1280_0))))
    (stepT (View.ld hx (Rect.unit ![0, 1536] ![544, 256] inb_S544x2048_S544x256_0_1536)) (View.ld w (Rect.unit ![1, 1536, 0] ![1, 256, 256] inb_S2x2048x256_S1x256x256_1_1536_0))))
    (stepT (View.ld hx (Rect.unit ![0, 1792] ![544, 256] inb_S544x2048_S544x256_0_1792)) (View.ld w (Rect.unit ![1, 1792, 0] ![1, 256, 256] inb_S2x2048x256_S1x256x256_1_1792_0)))

/-- The stores of a chunk's up-projection, half by half. -/
def upP (hx : Vec F S544x2048 .bf16) (w : Vec F S2x2048x256 .bf16) : List (View.Piece (Elt F) S2x544x256 .f32) :=
  [⟨Rect.unit ![1, 0, 0] ![1, 544, 256] inb_S2x544x256_S1x544x256_1_0_0, shapeCast S1x544x256 (up1T hx w) shapeCasts_S544x256_S1x544x256⟩,
    ⟨Rect.unit ![0, 0, 0] ![1, 544, 256] inb_S2x544x256_S1x544x256_0_0_0, shapeCast S1x544x256 (up0T hx w) shapeCasts_S544x256_S1x544x256⟩]

/-- A chunk's up-projection. -/
def upT (hx : Vec F S544x2048 .bf16) (w : Vec F S2x2048x256 .bf16) : Vec F S2x544x256 .f32 := View.canon (upP hx w)

/-- The convolution's three taps and its bias over 64 rows. -/
def tapT (u : FVec F S80x256 .f32) (w0 w1 w2 w3 : Vec F S1x1x256 .f32) : FVec F S64x256 .f32 :=
  addf (addf (addf (mulf (broadcastTo S64x256 (shapeCast S1x256 w0 shapeCasts_S1x1x256_S1x256) broadcasts_S1x256_S64x256) (extractStridedSlice S64x256 ![7, 0] u slices_S80x256_o7_0_S64x256))
      (mulf (broadcastTo S64x256 (shapeCast S1x256 w1 shapeCasts_S1x1x256_S1x256) broadcasts_S1x256_S64x256) (extractStridedSlice S64x256 ![8, 0] u slices_S80x256_o8_0_S64x256)))
      (mulf (broadcastTo S64x256 (shapeCast S1x256 w2 shapeCasts_S1x1x256_S1x256) broadcasts_S1x256_S64x256) (extractStridedSlice S64x256 ![9, 0] u slices_S80x256_o9_0_S64x256)))
    (broadcastTo S64x256 (shapeCast S1x256 w3 shapeCasts_S1x1x256_S1x256) broadcasts_S1x256_S64x256)

/-- The gated product over 64 rows. -/
def gateT (a b : FVec F S64x256 .f32) : FVec F S64x256 .bf16 :=
  shapeCast S64x256 (truncf .bf16 (mulf (mulf a (logistic a)) b) bitsLt_bf16_f32) shapeCasts_S64x256_S64x256

/-- 64 rows of the activation, from the rows around them. -/
def pieceT (cw : Vec F S4x2x256 .f32) (u0 u1 : FVec F S80x256 .f32) : FVec F S64x256 .bf16 :=
  gateT (tapT u0 (View.ld cw (Rect.unit ![0, 0, 0] ![1, 1, 256] inb_S4x2x256_S1x1x256_0_0_0)) (View.ld cw (Rect.unit ![1, 0, 0] ![1, 1, 256] inb_S4x2x256_S1x1x256_1_0_0)) (View.ld cw (Rect.unit ![2, 0, 0] ![1, 1, 256] inb_S4x2x256_S1x1x256_2_0_0)) (View.ld cw (Rect.unit ![3, 0, 0] ![1, 1, 256] inb_S4x2x256_S1x1x256_3_0_0)))
    (tapT u1 (View.ld cw (Rect.unit ![0, 1, 0] ![1, 1, 256] inb_S4x2x256_S1x1x256_0_1_0)) (View.ld cw (Rect.unit ![1, 1, 0] ![1, 1, 256] inb_S4x2x256_S1x1x256_1_1_0)) (View.ld cw (Rect.unit ![2, 1, 0] ![1, 1, 256] inb_S4x2x256_S1x1x256_2_1_0)) (View.ld cw (Rect.unit ![3, 1, 0] ![1, 1, 256] inb_S4x2x256_S1x1x256_3_1_0)))

/-- Rows of a half of the up-projection. -/
def rowsT (u : Vec F S1x80x256 .f32) : FVec F S80x256 .f32 := shapeCast S80x256 u shapeCasts_S1x80x256_S80x256

/-- The first rows of a half of the up-projection, below those before them. -/
def wrapT (a : Vec F S1x8x256 .f32) (b : Vec F S1x72x256 .f32) : FVec F S80x256 .f32 :=
  concatenate S80x256 0 [⟨S8x256, shapeCast S8x256 a shapeCasts_S1x8x256_S8x256⟩, ⟨S72x256, shapeCast S72x256 b shapeCasts_S1x72x256_S72x256⟩] concatenates_S8x256_S72x256_S80x256_d0

/-- The stores of a chunk's activation, 64 rows each. -/
def actP (u : Vec F S2x544x256 .f32) (cw : Vec F S4x2x256 .f32) : List (View.Piece (Elt F) S512x256 .bf16) :=
  [⟨Rect.unit ![448, 0] ![64, 256] inb_S512x256_S64x256_448_0, pieceT cw (rowsT (View.ld u (Rect.unit ![0, 456, 0] ![1, 80, 256] inb_S2x544x256_S1x80x256_0_456_0))) (rowsT (View.ld u (Rect.unit ![1, 456, 0] ![1, 80, 256] inb_S2x544x256_S1x80x256_1_456_0)))⟩,
    ⟨Rect.unit ![384, 0] ![64, 256] inb_S512x256_S64x256_384_0, pieceT cw (rowsT (View.ld u (Rect.unit ![0, 392, 0] ![1, 80, 256] inb_S2x544x256_S1x80x256_0_392_0))) (rowsT (View.ld u (Rect.unit ![1, 392, 0] ![1, 80, 256] inb_S2x544x256_S1x80x256_1_392_0)))⟩,
    ⟨Rect.unit ![320, 0] ![64, 256] inb_S512x256_S64x256_320_0, pieceT cw (rowsT (View.ld u (Rect.unit ![0, 328, 0] ![1, 80, 256] inb_S2x544x256_S1x80x256_0_328_0))) (rowsT (View.ld u (Rect.unit ![1, 328, 0] ![1, 80, 256] inb_S2x544x256_S1x80x256_1_328_0)))⟩,
    ⟨Rect.unit ![256, 0] ![64, 256] inb_S512x256_S64x256_256_0, pieceT cw (rowsT (View.ld u (Rect.unit ![0, 264, 0] ![1, 80, 256] inb_S2x544x256_S1x80x256_0_264_0))) (rowsT (View.ld u (Rect.unit ![1, 264, 0] ![1, 80, 256] inb_S2x544x256_S1x80x256_1_264_0)))⟩,
    ⟨Rect.unit ![192, 0] ![64, 256] inb_S512x256_S64x256_192_0, pieceT cw (rowsT (View.ld u (Rect.unit ![0, 184, 0] ![1, 80, 256] inb_S2x544x256_S1x80x256_0_184_0))) (rowsT (View.ld u (Rect.unit ![1, 184, 0] ![1, 80, 256] inb_S2x544x256_S1x80x256_1_184_0)))⟩,
    ⟨Rect.unit ![128, 0] ![64, 256] inb_S512x256_S64x256_128_0, pieceT cw (rowsT (View.ld u (Rect.unit ![0, 120, 0] ![1, 80, 256] inb_S2x544x256_S1x80x256_0_120_0))) (rowsT (View.ld u (Rect.unit ![1, 120, 0] ![1, 80, 256] inb_S2x544x256_S1x80x256_1_120_0)))⟩,
    ⟨Rect.unit ![64, 0] ![64, 256] inb_S512x256_S64x256_64_0, pieceT cw (rowsT (View.ld u (Rect.unit ![0, 56, 0] ![1, 80, 256] inb_S2x544x256_S1x80x256_0_56_0))) (rowsT (View.ld u (Rect.unit ![1, 56, 0] ![1, 80, 256] inb_S2x544x256_S1x80x256_1_56_0)))⟩,
    ⟨Rect.unit ![0, 0] ![64, 256] inb_S512x256_S64x256_0_0, pieceT cw (wrapT (View.ld u (Rect.unit ![0, 536, 0] ![1, 8, 256] inb_S2x544x256_S1x8x256_0_536_0)) (View.ld u (Rect.unit ![0, 0, 0] ![1, 72, 256] inb_S2x544x256_S1x72x256_0_0_0))) (wrapT (View.ld u (Rect.unit ![1, 536, 0] ![1, 8, 256] inb_S2x544x256_S1x8x256_1_536_0)) (View.ld u (Rect.unit ![1, 0, 0] ![1, 72, 256] inb_S2x544x256_S1x72x256_1_0_0)))⟩]

/-- A chunk's activation. -/
def actT (u : Vec F S2x544x256 .f32) (cw : Vec F S4x2x256 .f32) : Vec F S512x256 .bf16 := View.canon (actP u cw)

/-- The stores of a chunk's activation reach every element. -/
theorem act_cover (u : Vec F S2x544x256 .f32) (cw : Vec F S4x2x256 .f32) (y : S512x256.Idx) : ∃ p ∈ actP u cw, y ∈ p.1.set :=
  View.cover_of_tiled (actP u cw) ![64, 256] rfl y

/-- A chunk's up-projection, stored over earlier stores. -/
theorem up_over (hx : Vec F S544x2048 .bf16) (w : Vec F S2x2048x256 .bf16) (L : List (View.Piece (Elt F) S2x544x256 .f32)) : View.canon (upP hx w ++ L) = upT hx w :=
  funext fun y => canon_over (upP hx w) L y (View.cover_of_tiled (upP hx w) ![1, 544, 256] rfl y)

/-- A chunk's activation, stored over earlier stores. -/
theorem act_over (u : Vec F S2x544x256 .f32) (cw : Vec F S4x2x256 .f32) (L : List (View.Piece (Elt F) S512x256 .bf16)) : View.canon (actP u cw ++ L) = actT u cw :=
  funext fun y => canon_over (actP u cw) L y (act_cover u cw y)

/-- A chunk's down-projection. -/
def downT (a : Vec F S512x256 .bf16) (w : Vec F S256x2048 .bf16) : FVec F S512x2048 .f32 :=
  matmul dot_S512x256_S256x2048_S512x2048_1_0_0_1_n_n none a w (constant S512x2048 .f32 0x00000000#32)

/-- A chunk's down-projection, added to those before it. -/
def moreT (s : Vec F S512x2048 .f32) (a : Vec F S512x256 .bf16) (w : Vec F S256x2048 .bf16) : FVec F S512x2048 .f32 :=
  shapeCast S512x2048 (addf s (downT a w)) shapeCasts_S512x2048_S512x2048

/-- A block's two sequences, each with rows of zeros after it. -/
def rowsAroundT (x0 : Vec F S512x2048 .bf16) : Vec F S544x2048 .bf16 :=
  View.canon [⟨Rect.unit ![528, 0] ![16, 2048] inb_S544x2048_S16x2048_528_0, k0_pay5⟩,
    ⟨Rect.unit ![272, 0] ![256, 2048] inb_S544x2048_S256x2048_272_0, k0_pay4 (View.ld x0 (Rect.unit ![256, 0] ![256, 2048] inb_S512x2048_S256x2048_256_0))⟩,
    ⟨Rect.unit ![256, 0] ![16, 2048] inb_S544x2048_S16x2048_256_0, k0_pay3⟩,
    ⟨Rect.unit ![0, 0] ![256, 2048] inb_S544x2048_S256x2048_0_0, k0_pay2 (View.ld x0 (Rect.unit ![0, 0] ![256, 2048] inb_S512x2048_S256x2048_0_0))⟩]

variable (m : (ℓ : Loc nD τ sig) → Buf (Elt F) ℓ) (c : Dev nD) (t : Fin cfg0.N)

section First

variable (h0 : t.val % 11 = 0)
include h0

/-- The rows that the first chunk of a block leaves. -/
theorem rows_A : (outsAt0 m c t.val t.isLt).2.1 = rowsAroundT (iblk m c 0 t) := by
  rw [outsAt0_A m c t h0 h0 (by omega) (by omega)]
  funext y
  frame_out

set_option maxHeartbeats 400000 in
/-- The second chunk's up-projection that the first point of a block leaves. -/
theorem up_A : (outsAt0 m c t.val t.isLt).2.2.1
    = upT (rowsAroundT (iblk m c 0 t)) (iblk m c 4 t) := by
  rw [outsAt0_A m c t h0 h0 (by omega) (by omega)]
  funext y
  frame_out [readCov_ld]
  rfl

set_option maxHeartbeats 400000 in
/-- The second chunk's taps that the first point of a block leaves. -/
theorem taps_A : (outsAt0 m c t.val t.isLt).2.2.2.1 = k0_pay66 (iblk m c 6 t) := by
  rw [outsAt0_A m c t h0 h0 (by omega) (by omega)]
  funext y
  frame_out

set_option maxHeartbeats 400000 in
/-- The second chunk's weights that the first point of a block leaves. -/
theorem weights_A : (outsAt0 m c t.val t.isLt).2.2.2.2.1 = k0_pay6 (k0_pay67 (iblk m c 8 t)) := by
  rw [outsAt0_A m c t h0 h0 (by omega) (by omega)]
  funext y
  frame_out

set_option maxHeartbeats 1000000 in
/-- The sum that the first point of a block leaves. -/
theorem sum_A : (outsAt0 m c t.val t.isLt).2.2.2.2.2
    = shapeCast S512x2048 (downT (actT (upT (rowsAroundT (iblk m c 0 t)) (iblk m c 3 t)) (iblk m c 5 t)) (shapeCast S256x2048 (show Vec F S256x2048 .bf16 from iblk m c 7 t) shapeCasts_S256x2048_S256x2048))
      shapeCasts_S512x2048_S512x2048 := by
  rw [outsAt0_A m c t h0 h0 (by omega) (by omega)]
  funext y
  frame_out [readCov_ld]
  rfl

end First

section Middle

variable (h0 : 1 ≤ t.val % 11 ∧ t.val % 11 ≤ 9) (hp : t.val - 1 < cfg0.N)
include h0

/-- A middle point keeps the rows. -/
theorem rows_B : (outsAt0 m c t.val t.isLt).2.1 = (outsAt0 m c (t.val - 1) hp).2.1 := by
  rw [outsAt0_B m c t (by omega) (by omega) h0 (by omega)]
  funext y
  unfold sout0_B_0
  frame_out [read_unread_whole]

set_option maxHeartbeats 400000 in
/-- The second chunk's up-projection that a middle point leaves. -/
theorem up_B : (outsAt0 m c t.val t.isLt).2.2.1 = upT (outsAt0 m c (t.val - 1) hp).2.1 (iblk m c 4 t) := by
  rw [outsAt0_B m c t (by omega) (by omega) h0 (by omega)]
  funext y
  frame_out [read_unread_whole]
  rfl

set_option maxHeartbeats 400000 in
/-- The second chunk's taps that a middle point leaves. -/
theorem taps_B : (outsAt0 m c t.val t.isLt).2.2.2.1 = k0_pay7 (k0_pay170 (iblk m c 6 t)) := by
  rw [outsAt0_B m c t (by omega) (by omega) h0 (by omega)]
  funext y
  frame_out [read_unread_whole]

set_option maxHeartbeats 400000 in
/-- The second chunk's weights that a middle point leaves. -/
theorem weights_B : (outsAt0 m c t.val t.isLt).2.2.2.2.1 = k0_pay8 (iblk m c 8 t) := by
  rw [outsAt0_B m c t (by omega) (by omega) h0 (by omega)]
  funext y
  frame_out [read_unread_whole]

set_option maxHeartbeats 1000000 in
/-- The sum that a middle point leaves. -/
theorem sum_B : (outsAt0 m c t.val t.isLt).2.2.2.2.2
    = moreT (moreT (outsAt0 m c (t.val - 1) hp).2.2.2.2.2 (actT (outsAt0 m c (t.val - 1) hp).2.2.1 (outsAt0 m c (t.val - 1) hp).2.2.2.1) (outsAt0 m c (t.val - 1) hp).2.2.2.2.1)
      (actT (upT (outsAt0 m c (t.val - 1) hp).2.1 (iblk m c 3 t)) (iblk m c 5 t)) (shapeCast S256x2048 (show Vec F S256x2048 .bf16 from iblk m c 7 t) shapeCasts_S256x2048_S256x2048) := by
  rw [outsAt0_B m c t (by omega) (by omega) h0 (by omega)]
  funext y
  frame_out [readCov_ld, read_unread_whole]
  have e1 : ∀ (a : Vec F S512x256 .bf16) w s, k0_pay169 a w s = moreT s a (shapeCast S256x2048 w shapeCasts_S256x2048_S256x2048) := fun _ _ _ => rfl
  have e2 : ∀ (a : Vec F S512x256 .bf16) w s, k0_pay115 a w s = moreT s a w := fun _ _ _ => rfl
  rw [e1, e2]
  refine congrFun (congr (congrArg₂ moreT (congr (congrArg₂ moreT ?_ ?_) ?_) ?_) ?_) y
  · rfl
  · rfl
  · rfl
  · exact act_over _ _ (actP _ _)
  · rfl

end Middle

set_option maxHeartbeats 400000 in
/-- The result that the last point of a block leaves. -/
theorem out_C (h0 : t.val % 11 = 10) (hp : t.val - 1 < cfg0.N) : (outsAt0 m c t.val t.isLt).1
    = k0_pay309 (iblk m c 9 t) (iblk m c 10 t) (moreT (moreT (moreT (outsAt0 m c (t.val - 1) hp).2.2.2.2.2 (actT (outsAt0 m c (t.val - 1) hp).2.2.1 (outsAt0 m c (t.val - 1) hp).2.2.2.1) (outsAt0 m c (t.val - 1) hp).2.2.2.2.1)
      (actT (upT (outsAt0 m c (t.val - 1) hp).2.1 (iblk m c 3 t)) (iblk m c 5 t)) (shapeCast S256x2048 (show Vec F S256x2048 .bf16 from iblk m c 7 t) shapeCasts_S256x2048_S256x2048))
      (actT (upT (outsAt0 m c (t.val - 1) hp).2.1 (iblk m c 4 t)) (iblk m c 6 t)) (shapeCast S256x2048 (show Vec F S256x2048 .bf16 from iblk m c 8 t) shapeCasts_S256x2048_S256x2048)) (iblk m c 11 t) := by
  rw [outsAt0_C m c t (by omega) (by omega) (by omega) h0]
  funext y
  frame_out [readCov_ld, read_unread_whole]
  have e1 : ∀ (a : Vec F S512x256 .bf16) w s, k0_pay308 a w s = moreT s a (shapeCast S256x2048 w shapeCasts_S256x2048_S256x2048) := fun _ _ _ => rfl
  have e2 : ∀ (a : Vec F S512x256 .bf16) w s, k0_pay272 a w s = moreT s a (shapeCast S256x2048 w shapeCasts_S256x2048_S256x2048) := fun _ _ _ => rfl
  have e3 : ∀ (a : Vec F S512x256 .bf16) w s, k0_pay218 a w s = moreT s a w := fun _ _ _ => rfl
  rw [e1, e2, e3]
  refine congrFun (congrArg (fun a => k0_pay309 _ _ a _) (congr (congrArg₂ moreT (congr (congrArg₂ moreT (congr (congrArg₂ moreT ?_ ?_) ?_) ?_) ?_) ?_) ?_)) y
  · rfl
  · rfl
  · rfl
  · exact act_over _ _ (actP _ _)
  · rfl
  · exact act_over (upT (outsAt0 m c (t.val - 1) hp).2.1 (iblk m c 4 t)) (iblk m c 6 t) (actP (upT (outsAt0 m c (t.val - 1) hp).2.1 (iblk m c 3 t)) (iblk m c 5 t)
      ++ actP (outsAt0 m c (t.val - 1) hp).2.2.1 (outsAt0 m c (t.val - 1) hp).2.2.2.1)
  · rfl

end Cert.FfnPromptIdeal.Ffn

end
-- ==== Proof.FfnPromptMath.lean ====
module

public import proofs.«01_k».proof.Proof.FfnPromptBody
public import proofs.«01_k».proof.Proof.FfnMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.ShloMosaic.Tactic Idealize.SL.Sem

namespace Cert.FfnPromptIdeal.Ffn

open Cert.FfnPromptIdeal Cert.FfnPromptIdeal.Gen
open Cert.FfnIdeal.Ffn (sum_eight)

/-- One step of a contraction, at an element. -/
theorem step_at (a : Vec Ideal S544x256 .bf16) (b : Vec Ideal S1x256x256 .bf16) (q : Fin 544) (d : Fin 256) :
    stepT (F := Ideal) a b (ix2 q d) = ∑ k : Fin 256, a (ix2 q k) * b (ix3 0 k d) := by
  pointwise [stepT]

/-- A row of the up-projection: half `g` of a chunk. -/
def upAt (hx : Vec Ideal S544x2048 .bf16) (w : Vec Ideal S2x2048x256 .bf16) (g : Fin 2) (q : Fin 544) (d : Fin 256) : EReal := ∑ k : Fin 2048, hx (ix2 q k) * w (ix3 g k d)

/-- The first half of the up-projection, at an element. -/
theorem up0_at (hx : Vec Ideal S544x2048 .bf16) (w : Vec Ideal S2x2048x256 .bf16) (q : Fin 544) (d : Fin 256) : up0T (F := Ideal) hx w (ix2 q d) = upAt hx w 0 q d := by
  unfold upAt
  rw [sum_eight (fun k => hx (ix2 q k) * w (ix3 0 k d))]
  pointwise [up0T, step_at]

/-- The second half of the up-projection, at an element. -/
theorem up1_at (hx : Vec Ideal S544x2048 .bf16) (w : Vec Ideal S2x2048x256 .bf16) (q : Fin 544) (d : Fin 256) : up1T (F := Ideal) hx w (ix2 q d) = upAt hx w 1 q d := by
  unfold upAt
  rw [sum_eight (fun k => hx (ix2 q k) * w (ix3 1 k d))]
  pointwise [up1T, step_at]

/-- A chunk's up-projection, at an element. -/
theorem up_at (hx : Vec Ideal S544x2048 .bf16) (w : Vec Ideal S2x2048x256 .bf16) (g : Fin 2) (q : Fin 544) (d : Fin 256) : upT (F := Ideal) hx w (ix3 g q d) = upAt hx w g q d := by
  unfold upT upP
  canon_tiles x hx
  all_goals
    obtain ⟨z, q', d', rfl⟩ : ∃ (z : Fin 1) (q' : Fin 544) (d' : Fin 256), x = ix3 z q' d' := ⟨x 0, x 1, x 2, eq_ix3 x⟩
    have e1 : q = q' := Fin.ext hx1
    have e2 : d = d' := Fin.ext hx2
    subst e1 e2
  · have e0 : g = 1 := Fin.ext (by have hx0 : (g : ℕ) = 1 + z.val := hx0; show (g : ℕ) = 1; omega)
    rw [e0, ← up1_at]
    pointwise
  · have e0 : g = 0 := Fin.ext (by have hx0 : (g : ℕ) = z.val := hx0; show (g : ℕ) = 0; omega)
    rw [e0, ← up0_at]
    pointwise

/-- The convolution at a row, from the row before, the row itself and the row after. -/
def convAt (u : Vec Ideal S2x544x256 .f32) (cw : Vec Ideal S4x2x256 .f32) (g : Fin 2) (a b e : Fin 544) (d : Fin 256) : EReal :=
  cw (ix3 0 g d) * u (ix3 g a d) + cw (ix3 1 g d) * u (ix3 g b d) + cw (ix3 2 g d) * u (ix3 g e d) + cw (ix3 3 g d)

/-- Where a block's row stands among its sequences and their zeros. -/
def own (r : Fin 512) : Fin 544 := ⟨r.val + 16 * (r.val / 256), by omega⟩

/-- The row before a block's row: the last row of all stands before the first. -/
def before (r : Fin 512) : Fin 544 := if r.val = 0 then 543 else ⟨r.val + 16 * (r.val / 256) - 1, by omega⟩

/-- The row after a block's row. -/
def after (r : Fin 512) : Fin 544 := ⟨r.val + 16 * (r.val / 256) + 1, by omega⟩

/-- The activation at a row of a block. -/
def actAt (u : Vec Ideal S2x544x256 .f32) (cw : Vec Ideal S4x2x256 .f32) (r : Fin 512) (d : Fin 256) : EReal :=
  convAt u cw 0 (before r) (own r) (after r) d * Ideal.logistic (convAt u cw 0 (before r) (own r) (after r) d) * convAt u cw 1 (before r) (own r) (after r) d

/-- A piece of the activation, at an element. -/
theorem piece_at (u : Vec Ideal S2x544x256 .f32) (cw : Vec Ideal S4x2x256 .f32) (u0 u1 : FVec Ideal S80x256 .f32) (x : Fin 64) (d : Fin 256) (r : Fin 512)
    (h0 : u0 (ix2 ⟨7 + x.val, by omega⟩ d) = u (ix3 0 (before r) d) ∧ u0 (ix2 ⟨8 + x.val, by omega⟩ d) = u (ix3 0 (own r) d) ∧ u0 (ix2 ⟨9 + x.val, by omega⟩ d) = u (ix3 0 (after r) d))
    (h1 : u1 (ix2 ⟨7 + x.val, by omega⟩ d) = u (ix3 1 (before r) d) ∧ u1 (ix2 ⟨8 + x.val, by omega⟩ d) = u (ix3 1 (own r) d) ∧ u1 (ix2 ⟨9 + x.val, by omega⟩ d) = u (ix3 1 (after r) d)) :
    pieceT (F := Ideal) cw u0 u1 (ix2 x d) = actAt u cw r d := by
  unfold actAt convAt
  rw [← h0.1, ← h0.2.1, ← h0.2.2, ← h1.1, ← h1.2.1, ← h1.2.2]
  pointwise [pieceT, gateT, tapT]

/-- The row before a row that isn't the first. -/
theorem before_of_pos (r : Fin 512) (h : 0 < r.val) : before r = ⟨r.val + 16 * (r.val / 256) - 1, by omega⟩ := if_neg (by omega)

/-- Rows around a piece, at an element. -/
theorem rows_at (v : Vec Ideal S1x80x256 .f32) (q : Fin 80) (d : Fin 256) : rowsT (F := Ideal) v (ix2 q d) = v (ix3 0 q d) := by
  pointwise [rowsT]

/-- The first piece's rows, at an element. -/
theorem wrap_at (a : Vec Ideal S1x8x256 .f32) (b : Vec Ideal S1x72x256 .f32) (q : Fin 80) (d : Fin 256) :
    wrapT (F := Ideal) a b (ix2 q d) = if h : q.val < 8 then a (ix3 0 ⟨q.val, h⟩ d) else b (ix3 0 ⟨q.val - 8, by omega⟩ d) := by
  pointwise [wrapT]

/-- A chunk's activation, at an element. -/
theorem act_at (u : Vec Ideal S2x544x256 .f32) (cw : Vec Ideal S4x2x256 .f32) (r : Fin 512) (d : Fin 256) : actT (F := Ideal) u cw (ix2 r d) = actAt u cw r d := by
  unfold actT actP
  canon_tiles x hx
  all_goals
    obtain ⟨p, d', rfl⟩ : ∃ (p : Fin 64) (d' : Fin 256), x = ix2 p d' := ⟨x 0, x 1, eq_ix2 x⟩
    have e1 : d = d' := Fin.ext hx1
    subst e1
    have hp := p.isLt
    first
    | have hr : (r : ℕ) = _ + (p : ℕ) := hx0
    | have hr : (r : ℕ) = (p : ℕ) := hx0
    refine piece_at u cw _ _ p d r ⟨?_, ?_, ?_⟩ ⟨?_, ?_, ?_⟩
  iterate 7
    iterate 2
      · rw [rows_at, before_of_pos _ (by omega)]
        pointwise
        refine congrArg (fun q => u (ix3 _ q d)) (Fin.ext ?_)
        show _ + (7 + (p : ℕ)) = (r : ℕ) + 16 * ((r : ℕ) / 256) - 1
        omega
      · rw [rows_at]
        pointwise
        refine congrArg (fun q => u (ix3 _ q d)) (Fin.ext ?_)
        show _ + (8 + (p : ℕ)) = (r : ℕ) + 16 * ((r : ℕ) / 256)
        omega
      · rw [rows_at]
        pointwise
        refine congrArg (fun q => u (ix3 _ q d)) (Fin.ext ?_)
        show _ + (9 + (p : ℕ)) = (r : ℕ) + 16 * ((r : ℕ) / 256) + 1
        omega
  iterate 2
    · rw [wrap_at]
      pointwise
      by_cases h : (p : ℕ) = 0
      · have hb : before r = 543 := if_pos (by omega)
        rw [dif_pos (by omega), hb]
        refine congrArg (fun q => u (ix3 _ q d)) (Fin.ext ?_)
        show 536 + (7 + (p : ℕ)) = 543
        omega
      · rw [dif_neg (by omega), before_of_pos _ (by omega)]
        refine congrArg (fun q => u (ix3 _ q d)) (Fin.ext ?_)
        show 7 + (p : ℕ) - 8 = (r : ℕ) + 16 * ((r : ℕ) / 256) - 1
        omega
    · rw [wrap_at]
      pointwise
      refine congrArg (fun q => u (ix3 _ q d)) (Fin.ext ?_)
      show (p : ℕ) = (r : ℕ) + 16 * ((r : ℕ) / 256)
      omega
    · rw [wrap_at]
      pointwise
      rw [dif_neg (by omega)]
      refine congrArg (fun q => u (ix3 _ q d)) (Fin.ext ?_)
      show 9 + (p : ℕ) - 8 = (r : ℕ) + 16 * ((r : ℕ) / 256) + 1
      omega

/-- A chunk's down-projection, at an element. -/
theorem down_at (a : Vec Ideal S512x256 .bf16) (w : Vec Ideal S256x2048 .bf16) (r : Fin 512) (e : Fin 2048) :
    downT (F := Ideal) a w (ix2 r e) = ∑ k : Fin 256, a (ix2 r k) * w (ix2 k e) := by
  pointwise [downT]

/-- A sum with a chunk's down-projection added, at an element. -/
theorem more_at (s : Vec Ideal S512x2048 .f32) (a : Vec Ideal S512x256 .bf16) (w : Vec Ideal S256x2048 .bf16) (r : Fin 512) (e : Fin 2048) :
    moreT (F := Ideal) s a w (ix2 r e) = s (ix2 r e) + ∑ k : Fin 256, a (ix2 r k) * w (ix2 k e) := by
  unfold moreT
  rw [← down_at]
  pointwise

/-- A block's sequences and the zeros after them, at an element. -/
theorem around_at (x0 : Vec Ideal S512x2048 .bf16) (q : Fin 544) (k : Fin 2048) :
    rowsAroundT (F := Ideal) x0 (ix2 q k) = if h : q.val % 272 < 256 then x0 (ix2 ⟨256 * (q.val / 272) + q.val % 272, by omega⟩ k) else 0 := by
  unfold rowsAroundT
  canon_tiles x hx using View.cover_of_tiledBy _ ![16, 2048] (by sl_kernel_rfl) _
  all_goals
    first
    | obtain ⟨p, k', rfl⟩ : ∃ (p : Fin 16) (k' : Fin 2048), x = ix2 p k' := ⟨x 0, x 1, eq_ix2 x⟩
    | obtain ⟨p, k', rfl⟩ : ∃ (p : Fin 256) (k' : Fin 2048), x = ix2 p k' := ⟨x 0, x 1, eq_ix2 x⟩
    have e1 : k = k' := Fin.ext hx1
    subst e1
    have hp := p.isLt
    first
    | have hr : (q : ℕ) = _ + (p : ℕ) := hx0
    | have hr : (q : ℕ) = (p : ℕ) := hx0
  · rw [dif_neg (by omega)]
    pointwise [k0_pay5, k0_pay1]
  · rw [dif_pos (by omega)]
    pointwise [k0_pay4]
    refine congrArg (fun a => x0 (ix2 a k)) (Fin.ext ?_)
    show 256 + (p : ℕ) = 256 * ((q : ℕ) / 272) + (q : ℕ) % 272
    omega
  · rw [dif_neg (by omega)]
    pointwise [k0_pay3, k0_pay1]
  · rw [dif_pos (by omega)]
    pointwise [k0_pay2]
    refine congrArg (fun a => x0 (ix2 a k)) (Fin.ext ?_)
    show (p : ℕ) = 256 * ((q : ℕ) / 272) + (q : ℕ) % 272
    omega

/-- The last point's result, at an element. -/
theorem norm_at (x : Vec Ideal S512x2048 .f32) (g : Vec Ideal S1x1x2048 .f32) (a : Vec Ideal S512x2048 .f32) (n : Vec Ideal S1x2048 .f32) (r : Fin 512) (e : Fin 2048) :
    k0_pay309 (F := Ideal) x g a n (ix2 r e) = x (ix2 r e) + g (ix3 0 0 e)
      * (a (ix2 r e) * Ideal.rsqrt (Ideal.div (∑ k : Fin 2048, a (ix2 r k) * a (ix2 r k)) (Ideal.ofBits .f32 0x45000000#32) + Ideal.ofBits .f32 0x358637BD#32) * n (ix2 0 e)) := by
  pointwise [k0_pay309]

/-- The first point's taps. -/
theorem pay65_eq (x : Vec Ideal S4x2x256 .f32) : k0_pay66 (F := Ideal) x = x := by
  funext y
  pointwise [k0_pay66]

/-- A later point's taps. -/
theorem pay169_eq (x : Vec Ideal S4x2x256 .f32) : k0_pay7 (F := Ideal) (k0_pay170 x) = x := by
  funext y
  pointwise [k0_pay7, k0_pay170]

/-- A point's weights. -/
theorem pay66_eq (x : Vec Ideal S256x2048 .bf16) : k0_pay6 (F := Ideal) (k0_pay67 x) = x := by
  funext y
  pointwise [k0_pay6, k0_pay67]

/-- Weights in their own shape. -/
theorem same_eq (x : Vec Ideal S256x2048 .bf16) : shapeCast S256x2048 x shapeCasts_S256x2048_S256x2048 = x := by
  funext y
  pointwise

end Cert.FfnPromptIdeal.Ffn

end
-- ==== Proof.FfnPromptInv.lean ====
module

public import proofs.«01_k».proof.Proof.FfnPromptMath
public import Idealize.ShloMosaic.Lib.Pipeline.ValueKit
public import Idealize.ShloMosaic.Lib.Pipeline.ReadBack
public import Idealize.ShloMosaic.Lib.Pointwise

@[expose] public section

set_option maxRecDepth 4096

noncomputable section

open Idealize.ShloMosaic Idealize.ShloMosaic.TcCoe Idealize.ShloMosaic.Tactic Idealize.SL.Sem

namespace Cert.FfnPromptIdeal.Ffn

open Cert.FfnPromptIdeal Cert.FfnPromptIdeal.Gen

/-- A chunk's columns of the up-projection's weights. -/
def chunkW (W : FVec Ideal S2x2048x5632 .bf16) (p : ℕ) : Vec Ideal S2x2048x256 .bf16 :=
  fun y => W (ix3 (y 0) (y 1) ⟨(256 * p + (y 2).val) % 5632, Nat.mod_lt _ (by norm_num)⟩)

/-- A chunk's taps and bias. -/
def chunkC (C : FVec Ideal S4x2x5632 .f32) (p : ℕ) : Vec Ideal S4x2x256 .f32 :=
  fun y => C (ix3 (y 0) (y 1) ⟨(256 * p + (y 2).val) % 5632, Nat.mod_lt _ (by norm_num)⟩)

/-- A chunk's rows of the down-projection's weights. -/
def chunkD (D : FVec Ideal S5632x2048 .bf16) (p : ℕ) : Vec Ideal S256x2048 .bf16 :=
  fun y => D (ix2 ⟨(256 * p + (y 0).val) % 5632, Nat.mod_lt _ (by norm_num)⟩ (y 1))

/-- A block's two sequences, each with rows of zeros after it. -/
def rowsOf (H : FVec Ideal S4096x2048 .bf16) (i : ℕ) : Vec Ideal S544x2048 .bf16 := fun y =>
  if (y 0).val % 272 < 256 then H (ix2 ⟨(512 * i + 256 * ((y 0).val / 272) + (y 0).val % 272) % 4096, Nat.mod_lt _ (by norm_num)⟩ (y 1)) else 0

/-- A chunk's part of the down-projection. -/
def chunkAt (H : FVec Ideal S4096x2048 .bf16) (W : FVec Ideal S2x2048x5632 .bf16) (C : FVec Ideal S4x2x5632 .f32) (D : FVec Ideal S5632x2048 .bf16)
    (i p : ℕ) (r : Fin 512) (e : Fin 2048) : EReal :=
  ∑ k : Fin 256, actAt (upT (F := Ideal) (rowsOf H i) (chunkW W p)) (chunkC C p) r k * chunkD D p (ix2 k e)

/-- The first chunks' parts together. -/
def sumOf (H : FVec Ideal S4096x2048 .bf16) (W : FVec Ideal S2x2048x5632 .bf16) (C : FVec Ideal S4x2x5632 .f32) (D : FVec Ideal S5632x2048 .bf16)
    (i n : ℕ) : Vec Ideal S512x2048 .f32 := fun y => ∑ p ∈ Finset.range n, chunkAt H W C D i p (y 0) (y 1)

section Sums

variable (H : FVec Ideal S4096x2048 .bf16) (W : FVec Ideal S2x2048x5632 .bf16) (C : FVec Ideal S4x2x5632 .f32) (D : FVec Ideal S5632x2048 .bf16) (i : ℕ)

/-- The first chunk's part. -/
theorem sum_first : shapeCast S512x2048 (downT (F := Ideal) (actT (upT (rowsOf H i) (chunkW W 0)) (chunkC C 0)) (chunkD D 0)) shapeCasts_S512x2048_S512x2048 = sumOf H W C D i 1 := by
  funext y
  obtain ⟨r, e, rfl⟩ : ∃ (r : Fin 512) (e : Fin 2048), y = ix2 r e := ⟨y 0, y 1, eq_ix2 y⟩
  refine Eq.trans (b := downT (F := Ideal) (actT (upT (rowsOf H i) (chunkW W 0)) (chunkC C 0)) (chunkD D 0) (ix2 r e)) (by pointwise) ?_
  rw [down_at]
  show _ = ∑ p ∈ Finset.range 1, chunkAt H W C D i p r e
  rw [Finset.sum_range_one]
  exact Finset.sum_congr rfl fun k _ => congrArg (· * _) (act_at _ _ r k)

/-- One chunk's part more. -/
theorem sum_more (n : ℕ) : (moreT (F := Ideal) (sumOf H W C D i n) (actT (upT (rowsOf H i) (chunkW W n)) (chunkC C n)) (chunkD D n) : Vec Ideal S512x2048 .f32) = sumOf H W C D i (n + 1) := by
  funext y
  obtain ⟨r, e, rfl⟩ : ∃ (r : Fin 512) (e : Fin 2048), y = ix2 r e := ⟨y 0, y 1, eq_ix2 y⟩
  rw [more_at]
  show _ = ∑ p ∈ Finset.range (n + 1), chunkAt H W C D i p r e
  rw [Finset.sum_range_succ]
  exact congrArg (_ + ·) (Finset.sum_congr rfl fun k _ => congrArg (· * _) (act_at _ _ r k))

end Sums

variable (m : (ℓ : Loc nD τ sig) → Buf (Elt Ideal) ℓ) (c : Dev nD) (t : Fin cfg0.N)

/-- The windows, in closed form. -/
theorem idx0 : ∀ t : Fin cfg0.N, win0_0.index t = ![t.val / 11, 0] ∧ win0_3.index t = ![0, 0, 2 * (t.val % 11)] ∧ win0_4.index t = ![0, 0, 2 * (t.val % 11) + 1] ∧ win0_5.index t = ![0, 0, 2 * (t.val % 11)] ∧ win0_6.index t = ![0, 0, 2 * (t.val % 11) + 1]
    ∧ win0_7.index t = ![2 * (t.val % 11), 0] ∧ win0_8.index t = ![2 * (t.val % 11) + 1, 0] ∧ win0_9.index t = ![t.val / 11, 0] ∧ win0_10.index t = ![0, 0, 0]
    ∧ win0_11.index t = ![0, 0] ∧ win0_12.index t = ![t.val / 11, 0] :=
  (by decide +kernel : ∀ t : Fin grid0.N, _)

/-- A grid's point. -/
theorem point_lt : t.val < 88 := by
  have := t.isLt
  have : cfg0.N = 88 := N_0
  omega

/-- A block's own rows. -/
theorem blk_own (q : Fin 512) (k : Fin 2048) : (show FVec Ideal S512x2048 .bf16 from iblk m c 0 t) (ix2 q k)
    = (show FVec Ideal S4096x2048 .bf16 from V m c main_v10) (ix2 ⟨t.val / 11 * 512 + q.val, by have := point_lt t; omega⟩ k) := by
  blk_point [iblk, idx0 t]

/-- A block's sequences and the zeros after them. -/
theorem rows_eq : rowsAroundT (F := Ideal) (iblk m c 0 t) = rowsOf (V m c main_v10) (t.val / 11) := by
  have ht := point_lt t
  funext y
  obtain ⟨q, k, rfl⟩ : ∃ (q : Fin 544) (k : Fin 2048), y = ix2 q k := ⟨y 0, y 1, eq_ix2 y⟩
  refine (around_at _ q k).trans ?_
  show _ = if q.val % 272 < 256 then (show FVec Ideal S4096x2048 .bf16 from V m c main_v10) (ix2 ⟨(512 * (t.val / 11) + 256 * (q.val / 272) + q.val % 272) % 4096, Nat.mod_lt _ (by norm_num)⟩ k) else 0
  by_cases h : q.val % 272 < 256
  · rw [if_pos h]
    refine (dif_pos h).trans ((blk_own m c t _ k).trans (congrArg (fun a => (show FVec Ideal S4096x2048 .bf16 from V m c main_v10) (ix2 a k)) (Fin.ext ?_)))
    show t.val / 11 * 512 + (256 * (q.val / 272) + q.val % 272) = (512 * (t.val / 11) + 256 * (q.val / 272) + q.val % 272) % 4096
    omega
  · rw [if_neg h]
    exact dif_neg h

/-- A point's first chunk of the up-projection's weights. -/
theorem w3_eq : (iblk m c 3 t : Vec Ideal S2x2048x256 .bf16) = chunkW (V m c main_v5) (2 * (t.val % 11)) := by
  funext y
  obtain ⟨g, k, d, rfl⟩ : ∃ (g : Fin 2) (k : Fin 2048) (d : Fin 256), y = ix3 g k d := ⟨y 0, y 1, y 2, eq_ix3 y⟩
  refine Eq.trans (b := (show FVec Ideal S2x2048x5632 .bf16 from V m c main_v5) (ix3 g k ⟨(2 * (t.val % 11)) * 256 + d.val, by omega⟩)) (by blk_point [iblk, idx0 t]) ?_
  refine congrArg (fun a => (show FVec Ideal S2x2048x5632 .bf16 from V m c main_v5) (ix3 g k a)) (Fin.ext ?_)
  show (2 * (t.val % 11)) * 256 + d.val = (256 * (2 * (t.val % 11)) + d.val) % 5632
  omega

/-- A point's second chunk of the up-projection's weights. -/
theorem w4_eq : (iblk m c 4 t : Vec Ideal S2x2048x256 .bf16) = chunkW (V m c main_v5) (2 * (t.val % 11) + 1) := by
  funext y
  obtain ⟨g, k, d, rfl⟩ : ∃ (g : Fin 2) (k : Fin 2048) (d : Fin 256), y = ix3 g k d := ⟨y 0, y 1, y 2, eq_ix3 y⟩
  refine Eq.trans (b := (show FVec Ideal S2x2048x5632 .bf16 from V m c main_v5) (ix3 g k ⟨(2 * (t.val % 11) + 1) * 256 + d.val, by omega⟩)) (by blk_point [iblk, idx0 t]) ?_
  refine congrArg (fun a => (show FVec Ideal S2x2048x5632 .bf16 from V m c main_v5) (ix3 g k a)) (Fin.ext ?_)
  show (2 * (t.val % 11) + 1) * 256 + d.val = (256 * (2 * (t.val % 11) + 1) + d.val) % 5632
  omega

/-- A point's first chunk of the taps and the bias. -/
theorem w5_eq : (iblk m c 5 t : Vec Ideal S4x2x256 .f32) = chunkC (V m c main_v8) (2 * (t.val % 11)) := by
  funext y
  obtain ⟨g, k, d, rfl⟩ : ∃ (g : Fin 4) (k : Fin 2) (d : Fin 256), y = ix3 g k d := ⟨y 0, y 1, y 2, eq_ix3 y⟩
  refine Eq.trans (b := (show FVec Ideal S4x2x5632 .f32 from V m c main_v8) (ix3 g k ⟨(2 * (t.val % 11)) * 256 + d.val, by omega⟩)) (by blk_point [iblk, idx0 t]) ?_
  refine congrArg (fun a => (show FVec Ideal S4x2x5632 .f32 from V m c main_v8) (ix3 g k a)) (Fin.ext ?_)
  show (2 * (t.val % 11)) * 256 + d.val = (256 * (2 * (t.val % 11)) + d.val) % 5632
  omega

/-- A point's second chunk of the taps and the bias. -/
theorem w6_eq : (iblk m c 6 t : Vec Ideal S4x2x256 .f32) = chunkC (V m c main_v8) (2 * (t.val % 11) + 1) := by
  funext y
  obtain ⟨g, k, d, rfl⟩ : ∃ (g : Fin 4) (k : Fin 2) (d : Fin 256), y = ix3 g k d := ⟨y 0, y 1, y 2, eq_ix3 y⟩
  refine Eq.trans (b := (show FVec Ideal S4x2x5632 .f32 from V m c main_v8) (ix3 g k ⟨(2 * (t.val % 11) + 1) * 256 + d.val, by omega⟩)) (by blk_point [iblk, idx0 t]) ?_
  refine congrArg (fun a => (show FVec Ideal S4x2x5632 .f32 from V m c main_v8) (ix3 g k a)) (Fin.ext ?_)
  show (2 * (t.val % 11) + 1) * 256 + d.val = (256 * (2 * (t.val % 11) + 1) + d.val) % 5632
  omega

/-- A point's first chunk of the down-projection's weights. -/
theorem w7_eq : (iblk m c 7 t : Vec Ideal S256x2048 .bf16) = chunkD (V m c main_v11) (2 * (t.val % 11)) := by
  funext y
  obtain ⟨k, e, rfl⟩ : ∃ (k : Fin 256) (e : Fin 2048), y = ix2 k e := ⟨y 0, y 1, eq_ix2 y⟩
  refine Eq.trans (b := (show FVec Ideal S5632x2048 .bf16 from V m c main_v11) (ix2 ⟨(2 * (t.val % 11)) * 256 + k.val, by omega⟩ e)) (by blk_point [iblk, idx0 t]) ?_
  refine congrArg (fun a => (show FVec Ideal S5632x2048 .bf16 from V m c main_v11) (ix2 a e)) (Fin.ext ?_)
  show (2 * (t.val % 11)) * 256 + k.val = (256 * (2 * (t.val % 11)) + k.val) % 5632
  omega

/-- A point's second chunk of the down-projection's weights. -/
theorem w8_eq : (iblk m c 8 t : Vec Ideal S256x2048 .bf16) = chunkD (V m c main_v11) (2 * (t.val % 11) + 1) := by
  funext y
  obtain ⟨k, e, rfl⟩ : ∃ (k : Fin 256) (e : Fin 2048), y = ix2 k e := ⟨y 0, y 1, eq_ix2 y⟩
  refine Eq.trans (b := (show FVec Ideal S5632x2048 .bf16 from V m c main_v11) (ix2 ⟨(2 * (t.val % 11) + 1) * 256 + k.val, by omega⟩ e)) (by blk_point [iblk, idx0 t]) ?_
  refine congrArg (fun a => (show FVec Ideal S5632x2048 .bf16 from V m c main_v11) (ix2 a e)) (Fin.ext ?_)
  show (2 * (t.val % 11) + 1) * 256 + k.val = (256 * (2 * (t.val % 11) + 1) + k.val) % 5632
  omega

end Cert.FfnPromptIdeal.Ffn

end
-- ==== Proof.FfnPromptArr.lean ====
module

public import proofs.«01_k».proof.Proof.FfnPromptInv
public import Idealize.ShloMosaic.Lib.Pipeline.ValueKit
public import Idealize.ShloMosaic.Lib.Pipeline.ReadBack
public import Idealize.ShloMosaic.Lib.Pointwise

@[expose] public section

set_option maxRecDepth 4096

noncomputable section

open Idealize.ShloMosaic Idealize.ShloMosaic.TcCoe Idealize.ShloMosaic.Tactic Idealize.SL.Sem

namespace Cert.FfnPromptIdeal.Ffn

open Cert.FfnPromptIdeal Cert.FfnPromptIdeal.Gen

/-- Which point a block's row stands at, and what it holds: the carried arrays of a point that isn't a block's last. -/
theorem carried (m : (ℓ : Loc nD τ sig) → Buf (Elt Ideal) ℓ) (c : Dev nD) : ∀ (n : ℕ) (hn : n < cfg0.N), n % 11 ≤ 9 →
    (outsAt0 m c n hn).2.1 = rowsOf (V m c main_v10) (n / 11)
    ∧ (outsAt0 m c n hn).2.2.1 = upT (F := Ideal) (rowsOf (V m c main_v10) (n / 11)) (chunkW (V m c main_v5) (2 * (n % 11) + 1))
    ∧ (outsAt0 m c n hn).2.2.2.1 = chunkC (V m c main_v8) (2 * (n % 11) + 1)
    ∧ (outsAt0 m c n hn).2.2.2.2.1 = chunkD (V m c main_v11) (2 * (n % 11) + 1)
    ∧ (outsAt0 m c n hn).2.2.2.2.2 = sumOf (V m c main_v10) (V m c main_v5) (V m c main_v8) (V m c main_v11) (n / 11) (2 * (n % 11) + 1) := by
  intro n
  induction n using Nat.strong_induction_on with
  | _ n ih =>
    intro hn h
    by_cases h0 : n % 11 = 0
    · have e := rows_eq m c ⟨n, hn⟩
      have e4 := w4_eq m c ⟨n, hn⟩
      have e6 := w6_eq m c ⟨n, hn⟩
      have e8 := w8_eq m c ⟨n, hn⟩
      refine ⟨(rows_A m c ⟨n, hn⟩ h0).trans e, (up_A m c ⟨n, hn⟩ h0).trans (congrArg₂ upT e e4), (taps_A m c ⟨n, hn⟩ h0).trans ((pay65_eq _).trans e6),
        (weights_A m c ⟨n, hn⟩ h0).trans ((pay66_eq _).trans e8), (sum_A m c ⟨n, hn⟩ h0).trans ?_⟩
      have e3 := w3_eq m c ⟨n, hn⟩
      have e5 := w5_eq m c ⟨n, hn⟩
      have e7 := w7_eq m c ⟨n, hn⟩
      simp only [h0, Nat.mul_zero] at e3 e5 e7 ⊢
      rw [same_eq, e, e3, e5, e7]
      exact sum_first _ _ _ _ _
    · have hp : n - 1 < cfg0.N := by omega
      have h1 : 1 ≤ n % 11 ∧ n % 11 ≤ 9 := by omega
      obtain ⟨i0, i2, i4, i5, i6⟩ := ih (n - 1) (by omega) hp (by omega)
      have ei : (n - 1) / 11 = n / 11 := by omega
      have ej : 2 * ((n - 1) % 11) + 1 + 1 = 2 * (n % 11) := by omega
      have e4 := w4_eq m c ⟨n, hn⟩
      have e6 := w6_eq m c ⟨n, hn⟩
      have e8 := w8_eq m c ⟨n, hn⟩
      refine ⟨(rows_B m c ⟨n, hn⟩ h1 hp).trans (i0.trans (by rw [ei])), (up_B m c ⟨n, hn⟩ h1 hp).trans (congrArg₂ upT (i0.trans (by rw [ei])) e4), (taps_B m c ⟨n, hn⟩ h1).trans ((pay169_eq _).trans e6),
        (weights_B m c ⟨n, hn⟩ h1).trans ((same_eq _).trans ((same_eq _).trans e8)), (sum_B m c ⟨n, hn⟩ h1 hp).trans ?_⟩
      rw [same_eq, w3_eq m c ⟨n, hn⟩, w5_eq m c ⟨n, hn⟩, w7_eq m c ⟨n, hn⟩]
      show moreT (moreT (outsAt0 m c (n - 1) hp).2.2.2.2.2 (actT (outsAt0 m c (n - 1) hp).2.2.1 (outsAt0 m c (n - 1) hp).2.2.2.1) (outsAt0 m c (n - 1) hp).2.2.2.2.1)
          (actT (upT (outsAt0 m c (n - 1) hp).2.1 (chunkW (V m c main_v5) (2 * (n % 11)))) (chunkC (V m c main_v8) (2 * (n % 11)))) (chunkD (V m c main_v11) (2 * (n % 11))) = _
      rw [i0, i2, i4, i5, i6, sum_more, ej, ei, sum_more]

/-- The sum of all the chunks' parts, at a block's last point. -/
theorem out_last (m : (ℓ : Loc nD τ sig) → Buf (Elt Ideal) ℓ) (c : Dev nD) (t : Fin cfg0.N) (h : t.val % 11 = 10) : (outsAt0 m c t.val t.isLt).1
    = k0_pay309 (F := Ideal) (iblk m c 9 t) (iblk m c 10 t) (sumOf (V m c main_v10) (V m c main_v5) (V m c main_v8) (V m c main_v11) (t.val / 11) 22) (iblk m c 11 t) := by
  have hp : t.val - 1 < cfg0.N := by have := t.isLt; omega
  obtain ⟨i0, i2, i4, i5, i6⟩ := carried m c (t.val - 1) hp (by omega)
  have ei : (t.val - 1) / 11 = t.val / 11 := by omega
  have ej : (t.val - 1) % 11 = 9 := by omega
  rw [out_C m c t h hp, same_eq, same_eq, w3_eq m c t, w5_eq m c t, w7_eq m c t, w4_eq m c t, w6_eq m c t, w8_eq m c t, i0, i2, i4, i5, i6, ei, ej, h, sum_more, sum_more, sum_more]

/-- A row's up-projection. -/
def upRow (H : FVec Ideal S4096x2048 .bf16) (W : FVec Ideal S2x2048x5632 .bf16) (g : Fin 2) (n : ℕ) (d : Fin 5632) : EReal :=
  ∑ k : Fin 2048, H (ix2 ⟨n % 4096, Nat.mod_lt _ (by norm_num)⟩ k) * W (ix3 g k d)

/-- The short convolution of the up-projection along a sequence, with its bias. -/
def convRow (H : FVec Ideal S4096x2048 .bf16) (W : FVec Ideal S2x2048x5632 .bf16) (C : FVec Ideal S4x2x5632 .f32) (g : Fin 2) (n : ℕ) (d : Fin 5632) : EReal :=
  C (ix3 0 g d) * (if n % 256 = 0 then 0 else upRow H W g (n - 1) d) + C (ix3 1 g d) * upRow H W g n d
    + C (ix3 2 g d) * (if n % 256 = 255 then 0 else upRow H W g (n + 1) d) + C (ix3 3 g d)

/-- A row's activation. -/
def actRow (H : FVec Ideal S4096x2048 .bf16) (W : FVec Ideal S2x2048x5632 .bf16) (C : FVec Ideal S4x2x5632 .f32) (n : ℕ) (d : Fin 5632) : EReal :=
  convRow H W C 0 n d * Ideal.logistic (convRow H W C 0 n d) * convRow H W C 1 n d

/-- A row's down-projection. -/
def downRow (H : FVec Ideal S4096x2048 .bf16) (W : FVec Ideal S2x2048x5632 .bf16) (C : FVec Ideal S4x2x5632 .f32) (D : FVec Ideal S5632x2048 .bf16) (n : ℕ) (e : Fin 2048) : EReal :=
  ∑ k : Fin 5632, actRow H W C n k * D (ix2 k e)

section Rows

variable (H : FVec Ideal S4096x2048 .bf16) (W : FVec Ideal S2x2048x5632 .bf16) (C : FVec Ideal S4x2x5632 .f32) (D : FVec Ideal S5632x2048 .bf16) (i : ℕ)

/-- The row's own up-projection, in a block's chunk. -/
theorem up_own (p : ℕ) (g : Fin 2) (r : Fin 512) (q : Fin 544) (hq : q.val = r.val + 16 * (r.val / 256)) (d : Fin 256) :
    upAt (rowsOf H i) (chunkW W p) g q d = upRow H W g (512 * i + r.val) ⟨(256 * p + d.val) % 5632, Nat.mod_lt _ (by norm_num)⟩ := by
  refine Finset.sum_congr rfl fun k _ => congrArg (· * _) ((if_pos (show q.val % 272 < 256 by omega)).trans (congrArg (fun a => H (ix2 a k)) (Fin.ext ?_)))
  show (512 * i + 256 * (q.val / 272) + q.val % 272) % 4096 = (512 * i + r.val) % 4096
  omega

/-- The zeros' up-projection, in a block's chunk. -/
theorem up_zero (p : ℕ) (g : Fin 2) (q : Fin 544) (hq : ¬ q.val % 272 < 256) (d : Fin 256) : upAt (rowsOf H i) (chunkW W p) g q d = 0 := by
  refine Finset.sum_eq_zero fun k _ => ?_
  have : rowsOf H i (ix2 q k) = (0 : EReal) := if_neg hq
  rw [this, zero_mul]

/-- The up-projection of the row before. -/
theorem up_before (p : ℕ) (g : Fin 2) (r : Fin 512) (d : Fin 256) :
    upAt (rowsOf H i) (chunkW W p) g (before r) d
      = if (512 * i + r.val) % 256 = 0 then 0 else upRow H W g (512 * i + r.val - 1) ⟨(256 * p + d.val) % 5632, Nat.mod_lt _ (by norm_num)⟩ := by
  by_cases h : r.val = 0
  · have hb : before r = ⟨543, by norm_num⟩ := if_pos h
    rw [hb, if_pos (by omega)]
    exact up_zero H W i p g _ (by norm_num) d
  · rw [before_of_pos r (by omega)]
    by_cases h2 : r.val % 256 = 0
    · rw [if_pos (by omega)]
      exact up_zero H W i p g _ (by show ¬ (r.val + 16 * (r.val / 256) - 1) % 272 < 256; omega) d
    · rw [if_neg (by omega), up_own H W i p g ⟨r.val - 1, by omega⟩ _ (by show r.val + 16 * (r.val / 256) - 1 = r.val - 1 + 16 * ((r.val - 1) / 256); omega)]
      have : 512 * i + (r.val - 1) = 512 * i + r.val - 1 := by omega
      show upRow H W g (512 * i + (r.val - 1)) _ = _
      rw [this]

/-- The up-projection of the row after. -/
theorem up_after (p : ℕ) (g : Fin 2) (r : Fin 512) (d : Fin 256) :
    upAt (rowsOf H i) (chunkW W p) g (after r) d
      = if (512 * i + r.val) % 256 = 255 then 0 else upRow H W g (512 * i + r.val + 1) ⟨(256 * p + d.val) % 5632, Nat.mod_lt _ (by norm_num)⟩ := by
  by_cases h : r.val % 256 = 255
  · rw [if_pos (by omega)]
    exact up_zero H W i p g _ (by show ¬ (r.val + 16 * (r.val / 256) + 1) % 272 < 256; omega) d
  · rw [if_neg (by omega), up_own H W i p g ⟨r.val + 1, by omega⟩ _ (by show r.val + 16 * (r.val / 256) + 1 = r.val + 1 + 16 * ((r.val + 1) / 256); omega)]
    rfl

/-- A block's activation is the rows'. -/
theorem act_row (p : ℕ) (r : Fin 512) (d : Fin 256) :
    actAt (upT (F := Ideal) (rowsOf H i) (chunkW W p)) (chunkC C p) r d = actRow H W C (512 * i + r.val) ⟨(256 * p + d.val) % 5632, Nat.mod_lt _ (by norm_num)⟩ := by
  have e : ∀ g : Fin 2, convAt (upT (F := Ideal) (rowsOf H i) (chunkW W p)) (chunkC C p) g (before r) (own r) (after r) d
      = convRow H W C g (512 * i + r.val) ⟨(256 * p + d.val) % 5632, Nat.mod_lt _ (by norm_num)⟩ := by
    intro g
    unfold convAt convRow
    rw [up_at, up_at, up_at, up_before, up_after, up_own H W i p g r (own r) rfl]
    rfl
  unfold actAt actRow
  rw [e 0, e 1]

/-- The chunks' parts are the whole down-projection. -/
theorem sum_row (r : Fin 512) (e : Fin 2048) : sumOf H W C D i 22 (ix2 r e) = downRow H W C D (512 * i + r.val) e := by
  show ∑ p ∈ Finset.range 22, chunkAt H W C D i p r e = _
  unfold chunkAt downRow
  simp only [act_row]
  rw [Finset.sum_range, ← Fintype.sum_prod_type' (f := fun (p : Fin 22) (k : Fin 256) => actRow H W C (512 * i + r.val) ⟨(256 * p.val + k.val) % 5632, Nat.mod_lt _ (by norm_num)⟩ * chunkD D p.val (ix2 k e))]
  refine Fintype.sum_equiv (finProdFinEquiv (m := 22) (n := 256)) _ (fun k : Fin 5632 => actRow H W C (512 * i + r.val) k * D (ix2 k e)) fun x => ?_
  have hk : (⟨(256 * x.1.val + x.2.val) % 5632, Nat.mod_lt _ (by norm_num)⟩ : Fin 5632) = finProdFinEquiv (m := 22) (n := 256) x := by
    refine Fin.ext ?_
    show (256 * x.1.val + x.2.val) % 5632 = x.2.val + 256 * x.1.val
    omega
  exact congrArg (fun k => actRow H W C (512 * i + r.val) k * D (ix2 k e)) hk

end Rows

/-- The block's result: the residual and the gated, normalised down-projection. -/
def ffnAt (H : FVec Ideal S4096x2048 .bf16) (W : FVec Ideal S2x2048x5632 .bf16) (C : FVec Ideal S4x2x5632 .f32) (D : FVec Ideal S5632x2048 .bf16)
    (X : FVec Ideal S4096x2048 .f32) (G : FVec Ideal S1x1x2048 .f32) (N : FVec Ideal S1x2048 .f32) (n : Fin 4096) (e : Fin 2048) : EReal :=
  X (ix2 n e) + G (ix3 (0 : Fin 1) (0 : Fin 1) e)
    * (downRow H W C D n.val e * Ideal.rsqrt (Ideal.div (∑ k : Fin 2048, downRow H W C D n.val k * downRow H W C D n.val k) (Ideal.ofBits .f32 0x45000000#32) + Ideal.ofBits .f32 0x358637BD#32)
      * N (ix2 (0 : Fin 1) e))

/-- The call's result from its operands. -/
def FFN (H : FVec Ideal S4096x2048 .bf16) (W : FVec Ideal S2x2048x5632 .bf16) (C : FVec Ideal S4x2x5632 .f32) (D : FVec Ideal S5632x2048 .bf16)
    (X : FVec Ideal S4096x2048 .f32) (G : FVec Ideal S1x1x2048 .f32) (N : FVec Ideal S1x2048 .f32) : FVec Ideal S4096x2048 .f32 :=
  fun y => ffnAt H W C D X G N (y 0) (y 1)

section Final

variable (m : (ℓ : Loc nD τ sig) → Buf (Elt Ideal) ℓ) (c : Dev nD) (t : Fin cfg0.N)

/-- A point's block of the residual. -/
theorem x_blk (r : Fin 512) (e : Fin 2048) : (show FVec Ideal S512x2048 .f32 from iblk m c 9 t) (ix2 r e)
    = (show FVec Ideal S4096x2048 .f32 from V m c main_v12) (ix2 ⟨t.val / 11 * 512 + r.val, by have := point_lt t; omega⟩ e) := by
  blk_point [iblk, idx0 t]

/-- A point's gate. -/
theorem g_blk (e : Fin 2048) : (show FVec Ideal S1x1x2048 .f32 from iblk m c 10 t) (ix3 0 0 e)
    = (show FVec Ideal S1x1x2048 .f32 from V m c main_arg2) (ix3 (0 : Fin 1) (0 : Fin 1) e) := by
  blk_point [iblk, idx0 t]

/-- The norm's weights. -/
theorem n_blk (e : Fin 2048) : (show FVec Ideal S1x2048 .f32 from iblk m c 11 t) (ix2 0 e) = (show FVec Ideal S1x2048 .f32 from V m c main_v13) (ix2 0 e) := by
  blk_point [iblk, idx0 t]

/-- The last point's block of the result. -/
theorem last_at (h : t.val % 11 = 10) (r : Fin 512) (e : Fin 2048) : (show FVec Ideal S512x2048 .f32 from (outsAt0 m c t.val t.isLt).1) (ix2 r e)
    = ffnAt (V m c main_v10) (V m c main_v5) (V m c main_v8) (V m c main_v11) (V m c main_v12) (V m c main_arg2) (V m c main_v13)
      ⟨t.val / 11 * 512 + r.val, by have := point_lt t; omega⟩ e := by
  have ht := point_lt t
  rw [out_last m c t h]
  refine (norm_at _ _ _ _ r e).trans ?_
  have er : 512 * (t.val / 11) + r.val = t.val / 11 * 512 + r.val := by omega
  unfold ffnAt
  simp only [sum_row, er]
  refine congr (congrArg HAdd.hAdd (x_blk m c t r e)) (congr (congrArg HMul.hMul (g_blk m c t e)) ?_)
  exact congrArg (HMul.hMul _) (n_blk m c t e)

/-- The call's array. -/
theorem final12 : (dats m 0 c).arrAt 12 cfg0.N = FFN (V m c main_v10) (V m c main_v5) (V m c main_v8) (V m c main_v11) (V m c main_v12) (V m c main_arg2) (V m c main_v13) := by
  refine (dats m 0 c).arrAt_eq_of_covers 12 _ (by decide +kernel) fun t hf y => ?_
  blk_simp
  rw [after0_12]
  obtain ⟨r, e, rfl⟩ : ∃ (r : Fin 512) (e : Fin 2048), y = ix2 r e := ⟨y 0, y 1, eq_ix2 y⟩
  refine (last_at m c t ((flush0_12 t).mp hf) r e).trans ?_
  unfold FFN
  have e0 : (((View.whole main_v14).slice (win0_12.rect t)).emb (ix2 r e) 0 : ℕ) = t.val / 11 * 512 + r.val := by blk_simp [idx0 t]
  have e1 : (((View.whole main_v14).slice (win0_12.rect t)).emb (ix2 r e) 1 : ℕ) = e.val := by blk_simp [idx0 t]
  exact congrArg₂ (ffnAt _ _ _ _ _ _ _) (Fin.ext e0.symm) (Fin.ext e1.symm)

end Final

end Cert.FfnPromptIdeal.Ffn

end
-- ==== Proof.FfnPromptEq.lean ====
module

public import proofs.«01_k».proof.Proof.FfnPromptArr
public import proofs.«01_k».proof.Proof.Gen.FfnPromptRefIdeal.Run
public import proofs.«01_k».proof.Defs

@[expose] public section

set_option maxRecDepth 4096

noncomputable section

open Idealize.ShloMosaic Idealize.ShloMosaic.TcCoe Idealize.ShloMosaic.Tactic Idealize.SL.Sem

namespace Cert.FfnPromptIdeal.Ffn

open Cert.FfnPromptIdeal Cert.FfnPromptIdeal.Gen

/-- The input's rows. -/
def inT (h : FVec Ideal S16x256x2048 .f32) : FVec Ideal S4096x2048 .bf16 :=
  truncf .bf16 (shapeCast S4096x2048 h shapeCasts_S16x256x2048_S4096x2048) bitsLt_bf16_f32

/-- The up-projection's weights, the gate's above the value's. -/
def weightsT (W : FVec Ideal S2048x11264 .f32) : FVec Ideal S2x2048x5632 .bf16 :=
  concatenate S2x2048x5632 0 [⟨S1x2048x5632, broadcastInDim S1x2048x5632 ![1, 2] bcast_S2048x5632_S1x2048x5632_1_2 (extractStridedSlice S2048x5632 ![0, 0] (show FVec Ideal S2048x11264 .bf16 from truncf .bf16 W bitsLt_bf16_f32) slices_S2048x11264_S2048x5632_0_0)⟩,
    ⟨S1x2048x5632, broadcastInDim S1x2048x5632 ![1, 2] bcast_S2048x5632_S1x2048x5632_1_2 (extractStridedSlice S2048x5632 ![0, 5632] (show FVec Ideal S2048x11264 .bf16 from truncf .bf16 W bitsLt_bf16_f32) slices_S2048x11264_S2048x5632_0_5632)⟩] concatenates_S1x2048x5632_S1x2048x5632_S2x2048x5632_d0

/-- The taps, and the bias below them. -/
def tapsT (w : FVec Ideal S3x11264 .f32) (b : FVec Ideal S11264 .f32) : FVec Ideal S4x2x5632 .f32 :=
  concatenate S4x2x5632 0 [⟨S3x2x5632, shapeCast S3x2x5632 w shapeCasts_S3x11264_S3x2x5632⟩, ⟨S1x2x5632, shapeCast S1x2x5632 b shapeCasts_S11264_S1x2x5632⟩] concatenates_S3x2x5632_S1x2x5632_S4x2x5632_d0

/-- An element of the input's rows. -/
theorem inT_at (h : FVec Ideal S16x256x2048 .f32) (b : Fin 16) (l : Fin 256) (k : Fin 2048) :
    inT h (ix2 ⟨b.val * 256 + l.val, by omega⟩ k) = h (ix3 b l k) := by
  pointwise [inT]

/-- A weight of the up-projection. -/
theorem weightsT_at (W : FVec Ideal S2048x11264 .f32) (k : Fin 2048) (d : Fin 5632) :
    ∀ g : Fin 2, weightsT W (ix3 g k d) = W (ix2 k ⟨g.val * 5632 + d.val, by omega⟩) := by
  refine Fin.forall_fin_two.mpr ⟨?_, ?_⟩
  · pointwise [weightsT]
  · pointwise [weightsT]

/-- A tap. -/
theorem tapsT_at (w : FVec Ideal S3x11264 .f32) (b : FVec Ideal S11264 .f32) (g : Fin 2) (d : Fin 5632) (i : Fin 3) :
    tapsT w b (ix3 (⟨i.val, by omega⟩ : Fin 4) g d) = w (ix2 i ⟨g.val * 5632 + d.val, by omega⟩) := by
  pointwise [tapsT]

/-- A bias. -/
theorem tapsT_bias (w : FVec Ideal S3x11264 .f32) (b : FVec Ideal S11264 .f32) (g : Fin 2) (d : Fin 5632) :
    tapsT w b (ix3 3 g d) = b (ix1 ⟨g.val * 5632 + d.val, by omega⟩) := by
  pointwise [tapsT]

/-- A convolution of three taps, and a bias, at a place of a sequence of 256 that is zero outside. -/
def taps (a b c z : EReal) (x : Fin 256 → EReal) (l : Fin 256) : EReal :=
  a * (if h : l.val = 0 then 0 else x ⟨l.val - 1, by omega⟩) + b * x l + c * (if h : l.val = 255 then 0 else x ⟨l.val + 1, by omega⟩) + z

/-- The up-projection of an element. -/
def vup (h : FVec Ideal S16x256x2048 .f32) (W : FVec Ideal S2048x11264 .f32) (b : Fin 16) (l : Fin 256) (d : Fin 11264) : EReal :=
  ∑ k : Fin 2048, h (ix3 b l k) * W (ix2 k d)

/-- Its convolution along the sequence. -/
def vconv (h : FVec Ideal S16x256x2048 .f32) (W : FVec Ideal S2048x11264 .f32) (w : FVec Ideal S3x11264 .f32) (z : FVec Ideal S11264 .f32) (b : Fin 16) (l : Fin 256) (d : Fin 11264) : EReal :=
  taps (w (ix2 0 d)) (w (ix2 1 d)) (w (ix2 2 d)) (z (ix1 d)) (fun l => vup h W b l d) l

/-- The gated activation. -/
def vact (h : FVec Ideal S16x256x2048 .f32) (W : FVec Ideal S2048x11264 .f32) (w : FVec Ideal S3x11264 .f32) (z : FVec Ideal S11264 .f32) (b : Fin 16) (l : Fin 256) (d : Fin 5632) : EReal :=
  vconv h W w z b l ⟨d.val, by omega⟩ * Ideal.logistic (vconv h W w z b l ⟨d.val, by omega⟩) * vconv h W w z b l ⟨5632 + d.val, by omega⟩

/-- The down-projection. -/
def vdown (h : FVec Ideal S16x256x2048 .f32) (W : FVec Ideal S2048x11264 .f32) (w : FVec Ideal S3x11264 .f32) (z : FVec Ideal S11264 .f32) (D : FVec Ideal S5632x2048 .f32)
    (b : Fin 16) (l : Fin 256) (e : Fin 2048) : EReal :=
  ∑ k : Fin 5632, vact h W w z b l k * D (ix2 k e)

/-- The residual and the gated normalisation of a row. -/
def vout (x : FVec Ideal S16x256x2048 .f32) (g : FVec Ideal S1x1x2048 .f32) (n : FVec Ideal S2048 .f32) (b : Fin 16) (l : Fin 256) (p : Fin 2048 → EReal) (e : Fin 2048) : EReal :=
  x (ix3 b l e) + g (ix3 (0 : Fin 1) (0 : Fin 1) e) * (p e * Ideal.rsqrt (Ideal.div (∑ k : Fin 2048, p k * p k) (Ideal.ofBits .f32 0x45000000#32) + Ideal.ofBits .f32 0x358637BD#32) * n (ix1 e))

section Packed

variable (h : FVec Ideal S16x256x2048 .f32) (W : FVec Ideal S2048x11264 .f32) (w : FVec Ideal S3x11264 .f32) (z : FVec Ideal S11264 .f32) (b : Fin 16) (l : Fin 256)

/-- The packed arrays' up-projection. -/
theorem up_vup (n : ℕ) (hn : n = b.val * 256 + l.val) (g : Fin 2) (d : Fin 5632) :
    upRow (inT h) (weightsT W) g n d = vup h W b l ⟨g.val * 5632 + d.val, by omega⟩ := by
  have e : (⟨n % 4096, Nat.mod_lt _ (by norm_num)⟩ : Fin 4096) = ⟨b.val * 256 + l.val, by omega⟩ := Fin.ext (by show n % 4096 = b.val * 256 + l.val; omega)
  unfold upRow vup
  refine Finset.sum_congr rfl fun k _ => congrArg₂ (· * ·) ?_ (weightsT_at W k d g)
  rw [e, inT_at]

/-- The packed arrays' convolution. -/
theorem conv_vconv (g : Fin 2) (d : Fin 5632) :
    convRow (inT h) (weightsT W) (tapsT w z) g (b.val * 256 + l.val) d = vconv h W w z b l ⟨g.val * 5632 + d.val, by omega⟩ := by
  unfold convRow vconv taps
  have hl := l.isLt
  refine congrArg₂ (· + ·) (congrArg₂ (· + ·) (congrArg₂ (· + ·) (congrArg₂ (· * ·) (tapsT_at w z g d 0) ?_) (congrArg₂ (· * ·) (tapsT_at w z g d 1) (up_vup h W b l _ rfl g d))) (congrArg₂ (· * ·) (tapsT_at w z g d 2) ?_)) (tapsT_bias w z g d)
  · by_cases h0 : l.val = 0
    · rw [if_pos (by omega), dif_pos h0]
    · rw [if_neg (by omega), dif_neg h0]
      exact up_vup h W b ⟨l.val - 1, by omega⟩ _ (by show _ = b.val * 256 + (l.val - 1); omega) g d
  · by_cases h0 : l.val = 255
    · rw [if_pos (by omega), dif_pos h0]
    · rw [if_neg (by omega), dif_neg h0]
      exact up_vup h W b ⟨l.val + 1, by omega⟩ _ (by show _ = b.val * 256 + (l.val + 1); omega) g d

/-- The packed arrays' activation. -/
theorem act_vact (d : Fin 5632) : actRow (inT h) (weightsT W) (tapsT w z) (b.val * 256 + l.val) d = vact h W w z b l d := by
  unfold actRow vact
  rw [conv_vconv, conv_vconv]
  have e0 : (⟨(0 : Fin 2).val * 5632 + d.val, by simp only [Fin.val_zero]; omega⟩ : Fin 11264) = ⟨d.val, by omega⟩ := Fin.ext (by show 0 * 5632 + d.val = d.val; omega)
  have e1 : (⟨(1 : Fin 2).val * 5632 + d.val, by simp only [Fin.val_one]; omega⟩ : Fin 11264) = ⟨5632 + d.val, by omega⟩ := Fin.ext (by show 1 * 5632 + d.val = 5632 + d.val; omega)
  rw [e0, e1]

/-- The packed arrays' down-projection. -/
theorem down_vdown (D : FVec Ideal S5632x2048 .f32) (e : Fin 2048) :
    downRow (inT h) (weightsT W) (tapsT w z) (truncf .bf16 D bitsLt_bf16_f32) (b.val * 256 + l.val) e = vdown h W w z D b l e :=
  Finset.sum_congr rfl fun k _ => congrArg (· * _) (act_vact h W w z b l k)

/-- The packed arrays' result. -/
theorem ffn_vout (D : FVec Ideal S5632x2048 .f32) (x : FVec Ideal S16x256x2048 .f32) (g : FVec Ideal S1x1x2048 .f32) (n : FVec Ideal S2048 .f32) (r : Fin 4096) (e : Fin 2048) :
    ffnAt (inT h) (weightsT W) (tapsT w z) (truncf .bf16 D bitsLt_bf16_f32) (shapeCast S4096x2048 x shapeCasts_S16x256x2048_S4096x2048) g (shapeCast S1x2048 n shapeCasts_S2048_S1x2048) r e
      = vout x g n ⟨r.val / 256, by omega⟩ ⟨r.val % 256, by omega⟩ (vdown h W w z D ⟨r.val / 256, by omega⟩ ⟨r.val % 256, by omega⟩) e := by
  have hr : r.val = (⟨r.val / 256, by omega⟩ : Fin 16).val * 256 + (⟨r.val % 256, by omega⟩ : Fin 256).val := by
    show r.val = r.val / 256 * 256 + r.val % 256
    omega
  have hd : ∀ k, downRow (inT h) (weightsT W) (tapsT w z) (truncf .bf16 D bitsLt_bf16_f32) r.val k = vdown h W w z D ⟨r.val / 256, by omega⟩ ⟨r.val % 256, by omega⟩ k :=
    fun k => (congrArg (fun q => downRow (inT h) (weightsT W) (tapsT w z) (truncf .bf16 D bitsLt_bf16_f32) q k) hr).trans (down_vdown h W w z _ _ D k)
  unfold ffnAt vout
  simp only [hd]
  refine congrArg₂ (· + ·) ?_ (congrArg (HMul.hMul _) (congrArg (HMul.hMul _) ?_))
  · pointwise
  · pointwise

end Packed

section Host

variable (m : (ℓ : Loc nD τ sig) → Buf (Elt Ideal) ℓ) (c : Dev nD)

/-- The input's rows, as the call takes them. -/
theorem v10_eq : (show FVec Ideal S4096x2048 .bf16 from V m c main_v10) = inT (m ((c.tc : Thread nD τ).loc main_arg0)) := by
  show StableHlo.after hostOps0 (fun b => m (c, b)) main_v10 = _
  after_results <;> rfl

/-- The up-projection's weights, as the call takes them. -/
theorem v5_eq : (show FVec Ideal S2x2048x5632 .bf16 from V m c main_v5) = weightsT (m ((c.tc : Thread nD τ).loc main_arg3)) := by
  show StableHlo.after hostOps0 (fun b => m (c, b)) main_v5 = _
  after_results <;> rfl

/-- The taps and the bias, as the call takes them. -/
theorem v8_eq : (show FVec Ideal S4x2x5632 .f32 from V m c main_v8) = tapsT (m ((c.tc : Thread nD τ).loc main_arg4)) (m ((c.tc : Thread nD τ).loc main_arg5)) := by
  show StableHlo.after hostOps0 (fun b => m (c, b)) main_v8 = _
  after_results <;> rfl

/-- The down-projection's weights, as the call takes them. -/
theorem v11_eq : (show FVec Ideal S5632x2048 .bf16 from V m c main_v11) = truncf .bf16 (show FVec Ideal S5632x2048 .f32 from m ((c.tc : Thread nD τ).loc main_arg6)) bitsLt_bf16_f32 := by
  show StableHlo.after hostOps0 (fun b => m (c, b)) main_v11 = _
  after_results <;> rfl

/-- The residual's rows, as the call takes them. -/
theorem v12_eq : (show FVec Ideal S4096x2048 .f32 from V m c main_v12) = shapeCast S4096x2048 (show FVec Ideal S16x256x2048 .f32 from m ((c.tc : Thread nD τ).loc main_arg1)) shapeCasts_S16x256x2048_S4096x2048 := by
  show StableHlo.after hostOps0 (fun b => m (c, b)) main_v12 = _
  after_results <;> rfl

/-- The gates, as the call takes them. -/
theorem arg2_eq : (show FVec Ideal S1x1x2048 .f32 from V m c main_arg2) = m ((c.tc : Thread nD τ).loc main_arg2) := by
  show StableHlo.after hostOps0 (fun b => m (c, b)) main_arg2 = _
  after_results <;> rfl

/-- The norm's gains, as the call takes them. -/
theorem v13_eq : (show FVec Ideal S1x2048 .f32 from V m c main_v13) = shapeCast S1x2048 (show FVec Ideal S2048 .f32 from m ((c.tc : Thread nD τ).loc main_arg7)) shapeCasts_S2048_S1x2048 := by
  show StableHlo.after hostOps0 (fun b => m (c, b)) main_v13 = _
  after_results <;> rfl

/-- The call's result, from the arguments. -/
def OUT : FVec Ideal S4096x2048 .f32 :=
  FFN (inT (m ((c.tc : Thread nD τ).loc main_arg0))) (weightsT (m ((c.tc : Thread nD τ).loc main_arg3))) (tapsT (m ((c.tc : Thread nD τ).loc main_arg4)) (m ((c.tc : Thread nD τ).loc main_arg5)))
    (truncf .bf16 (show FVec Ideal S5632x2048 .f32 from m ((c.tc : Thread nD τ).loc main_arg6)) bitsLt_bf16_f32)
    (shapeCast S4096x2048 (show FVec Ideal S16x256x2048 .f32 from m ((c.tc : Thread nD τ).loc main_arg1)) shapeCasts_S16x256x2048_S4096x2048)
    (m ((c.tc : Thread nD τ).loc main_arg2)) (shapeCast S1x2048 (show FVec Ideal S2048 .f32 from m ((c.tc : Thread nD τ).loc main_arg7)) shapeCasts_S2048_S1x2048)

/-- Seven equal arguments give equal results. -/
theorem congrArg₇ {α₁ α₂ α₃ α₄ α₅ α₆ α₇ β : Type} (f : α₁ → α₂ → α₃ → α₄ → α₅ → α₆ → α₇ → β) {a₁ b₁ a₂ b₂ a₃ b₃ a₄ b₄ a₅ b₅ a₆ b₆ a₇ b₇}
    (h₁ : a₁ = b₁) (h₂ : a₂ = b₂) (h₃ : a₃ = b₃) (h₄ : a₄ = b₄) (h₅ : a₅ = b₅) (h₆ : a₆ = b₆) (h₇ : a₇ = b₇) :
    f a₁ a₂ a₃ a₄ a₅ a₆ a₇ = f b₁ b₂ b₃ b₄ b₅ b₆ b₇ := by
  subst h₁ h₂ h₃ h₄ h₅ h₆ h₇; rfl

/-- The call's array at the end of the run. -/
theorem final : (show FVec Ideal S4096x2048 .f32 from (dats m 0 c).arrAt 12 cfg0.N) = OUT m c :=
  (final12 m c).trans (congrArg₇ FFN (v10_eq m c) (v5_eq m c) (v8_eq m c) (v11_eq m c) (v12_eq m c) (arg2_eq m c) (v13_eq m c))

/-- The run ends with the call's result in place and with every argument as it was launched. -/
theorem run_call (ρ : Dev nD → PrngReg) : θ_run defs (onTc (τ := τ) (main (F := Ideal))) ⟨m, fun _ => 0, ρ⟩ fun r => ∀ c : Dev nD,
      r.2.mem ((c : Thread nD τ).loc main_v14) = OUT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨((h c).1 12).trans (final m c), ?_, ?_, ?_, ?_, ?_, ?_, ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).1 10).trans (((dats m 0 c).arrAt_in 10 rfl _).trans ((A_eq m c 10).trans (V_main_arg2 m c)))
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)
  · exact ((h c).2 main_arg7 (Pipeline.mem_restRefs_of main_arg7 (by decide) (by decide))).trans (V_main_arg7 m c)

end Host

end Cert.FfnPromptIdeal.Ffn

namespace Cert.FfnPromptRefIdeal.Ffn

open Cert.FfnPromptRefIdeal Cert.FfnPromptRefIdeal.Gen

/-- The reference's up-projection. -/
def upT (h : FVec Ideal S16x256x2048 .f32) (W : FVec Ideal S2048x11264 .f32) : FVec Ideal S16x256x11264 .f32 :=
  Host.dotGeneral dot_S16x256x2048_S2048x11264_S16x256x11264_2_0_01_1_n_n none h W

/-- The reference's convolution along the sequence. -/
def convT (x : FVec Ideal S16x256x11264 .f32) (w : FVec Ideal S3x11264 .f32) : FVec Ideal S16x256x11264 .f32 :=
  addf (addf (mulf (extractStridedSlice S16x256x11264 ![0, 0, 0] (pad S16x258x11264 ![0, 1, 0] ![0, 1, 0] ![0, 0, 0] x (sitofp .f32 (constantI S_ 32 0#32)) pads_S16x256x11264_S16x258x11264_000_110_000 h_S_) slices_S16x258x11264_S16x256x11264_0_0_0) (broadcastInDim S16x256x11264 ![0, 1, 2] bcast_S1x1x11264_S16x256x11264_0_1_2 (broadcastInDim S1x1x11264 ![2] bcast_S11264_S1x1x11264_2 (shapeCast S11264 (extractStridedSlice S1x11264 ![0, 0] w slices_S3x11264_S1x11264_0_0) shapeCasts_S1x11264_S11264))))
    (mulf x (broadcastInDim S16x256x11264 ![0, 1, 2] bcast_S1x1x11264_S16x256x11264_0_1_2 (broadcastInDim S1x1x11264 ![2] bcast_S11264_S1x1x11264_2 (shapeCast S11264 (extractStridedSlice S1x11264 ![1, 0] w slices_S3x11264_S1x11264_1_0) shapeCasts_S1x11264_S11264)))))
    (mulf (extractStridedSlice S16x256x11264 ![0, 2, 0] (pad S16x258x11264 ![0, 1, 0] ![0, 1, 0] ![0, 0, 0] x (sitofp .f32 (constantI S_ 32 0#32)) pads_S16x256x11264_S16x258x11264_000_110_000 h_S_) slices_S16x258x11264_S16x256x11264_0_2_0) (broadcastInDim S16x256x11264 ![0, 1, 2] bcast_S1x1x11264_S16x256x11264_0_1_2 (broadcastInDim S1x1x11264 ![2] bcast_S11264_S1x1x11264_2 (shapeCast S11264 (extractStridedSlice S1x11264 ![2, 0] w slices_S3x11264_S1x11264_2_0) shapeCasts_S1x11264_S11264))))

/-- The reference's convolution with its bias. -/
def biasT (u : FVec Ideal S16x256x11264 .f32) (z : FVec Ideal S11264 .f32) : FVec Ideal S16x256x11264 .f32 :=
  addf u (broadcastInDim S16x256x11264 ![0, 1, 2] bcast_S1x1x11264_S16x256x11264_0_1_2 (broadcastInDim S1x1x11264 ![2] bcast_S11264_S1x1x11264_2 z))

/-- The reference's gate. -/
def siluT (g : FVec Ideal S16x256x5632 .f32) : FVec Ideal S16x256x5632 .f32 :=
  mulf g (Host.divf (broadcastInDim S16x256x5632 ![] bcast_S_S16x256x5632 (constant S_ .f32 0x3F800000#32)) (addf (broadcastInDim S16x256x5632 ![] bcast_S_S16x256x5632 (constant S_ .f32 0x3F800000#32)) (Host.exp (Host.negf g))))

/-- The reference's activation. -/
def actT (u : FVec Ideal S16x256x11264 .f32) : FVec Ideal S16x256x5632 .f32 :=
  mulf (siluT (extractStridedSlice S16x256x5632 ![0, 0, 0] u slices_S16x256x11264_S16x256x5632_0_0_0)) (extractStridedSlice S16x256x5632 ![0, 0, 5632] u slices_S16x256x11264_S16x256x5632_0_0_5632)

/-- The reference's down-projection. -/
def downT (a : FVec Ideal S16x256x5632 .f32) (D : FVec Ideal S5632x2048 .f32) : FVec Ideal S16x256x2048 .f32 :=
  Host.dotGeneral dot_S16x256x5632_S5632x2048_S16x256x2048_2_0_01_1_n_n none a D

/-- The reference's normalisation. -/
def normT (p : FVec Ideal S16x256x2048 .f32) (n : FVec Ideal S2048 .f32) : FVec Ideal S16x256x2048 .f32 :=
  mulf (mulf p (broadcastInDim S16x256x2048 ![0, 1, 2] bcast_S16x256x1_S16x256x2048_0_1_2 (Host.rsqrt (addf (Host.divf (broadcastInDim S16x256x1 ![0, 1] bcast_S16x256_S16x256x1_0_1 (Host.reduceAdd (mulf p p) (constant S_ .f32 0x00000000#32) reducesTo_S16x256x2048_S16x256_d2 h_S_)) (broadcastInDim S16x256x1 ![] bcast_S_S16x256x1 (constant S_ .f32 0x45000000#32))) (broadcastInDim S16x256x1 ![] bcast_S_S16x256x1 (constant S_ .f32 0x358637BD#32)))))) (broadcastInDim S16x256x2048 ![0, 1, 2] bcast_S1x1x2048_S16x256x2048_0_1_2 (broadcastInDim S1x1x2048 ![2] bcast_S2048_S1x1x2048_2 n))

/-- The reference's result from the normalised rows. -/
def outT (x : FVec Ideal S16x256x2048 .f32) (g : FVec Ideal S1x1x2048 .f32) (p : FVec Ideal S16x256x2048 .f32) : FVec Ideal S4096x2048 .f32 :=
  shapeCast S4096x2048 (addf x (mulf (broadcastInDim S16x256x2048 ![0, 1, 2] bcast_S1x1x2048_S16x256x2048_0_1_2 g) p)) shapeCasts_S16x256x2048_S4096x2048

/-- The reference's whole result. -/
def allT (h x : FVec Ideal S16x256x2048 .f32) (g : FVec Ideal S1x1x2048 .f32) (W : FVec Ideal S2048x11264 .f32) (w : FVec Ideal S3x11264 .f32) (z : FVec Ideal S11264 .f32)
    (D : FVec Ideal S5632x2048 .f32) (n : FVec Ideal S2048 .f32) : FVec Ideal S4096x2048 .f32 :=
  outT x g (normT (downT (actT (biasT (convT (upT h W) w) z)) D) n)

/-- The up-projection, at an index. -/
theorem upT_at (h : FVec Ideal S16x256x2048 .f32) (W : FVec Ideal S2048x11264 .f32) (b : Fin 16) (l : Fin 256) (d : Fin 11264) :
    upT h W (ix3 b l d) = Cert.FfnPromptIdeal.Ffn.vup h W b l d := by
  pointwise [upT, Cert.FfnPromptIdeal.Ffn.vup]

/-- The convolution with its bias, at an index. -/
theorem convT_at (x : FVec Ideal S16x256x11264 .f32) (w : FVec Ideal S3x11264 .f32) (z : FVec Ideal S11264 .f32) (b : Fin 16) (l : Fin 256) (d : Fin 11264) :
    biasT (convT x w) z (ix3 b l d) = Cert.FfnPromptIdeal.Ffn.taps (w (ix2 0 d)) (w (ix2 1 d)) (w (ix2 2 d)) (z (ix1 d)) (fun l => x (ix3 b l d)) l := by
  pointwise [biasT, convT, Cert.FfnPromptIdeal.Ffn.taps]
  have hz : (FloatOps.sitofp FTy.f32 0#32 : Ideal FTy.f32) = 0 := by
    show (((0#32 : BitVec 32).toInt : ℝ) : EReal) = 0
    norm_num
  rw [hz]
  have e0 : ∀ h h', (x (ix3 b ⟨2 + l.val - 1, h⟩ d)) = x (ix3 b ⟨l.val + 1, h'⟩ d) := fun _ _ => congrArg (fun a => x (ix3 b a d)) (Fin.ext (by show 2 + l.val - 1 = l.val + 1; omega))
  refine congrArg₂ (· + ·) (congrArg₂ (· + ·) (congrArg₂ (· + ·) ?_ (mul_comm _ _)) ?_) rfl
  · by_cases h : l.val = 0
    · rw [dif_neg (by omega), dif_pos h, zero_mul, mul_zero]
    · rw [dif_pos ⟨by omega, by omega⟩, dif_neg h, mul_comm]
  · by_cases h : l.val = 255
    · rw [dif_neg (by omega), dif_pos h, zero_mul, mul_zero]
    · rw [dif_pos ⟨by omega, by omega⟩, dif_neg h, mul_comm, e0]

/-- The gate, at an index. -/
theorem siluT_at (g : FVec Ideal S16x256x5632 .f32) (b : Fin 16) (l : Fin 256) (d : Fin 5632) :
    siluT g (ix3 b l d) = g (ix3 b l d) * Ideal.logistic (g (ix3 b l d)) := by
  have h1 : Ideal.ofBits .f32 0x3F800000#32 = 1 := by
    simp [Ideal.ofBits, Ideal.ieee]
    rw [← EReal.coe_mul]
    norm_num
  pointwise [siluT, h1]
  rfl

/-- The activation, at an index. -/
theorem actT_at (u : FVec Ideal S16x256x11264 .f32) (b : Fin 16) (l : Fin 256) (d : Fin 5632) :
    actT u (ix3 b l d) = u (ix3 b l ⟨d.val, by omega⟩) * Ideal.logistic (u (ix3 b l ⟨d.val, by omega⟩)) * u (ix3 b l ⟨5632 + d.val, by omega⟩) := by
  unfold actT
  generalize hg : extractStridedSlice S16x256x5632 ![0, 0, 0] u slices_S16x256x11264_S16x256x5632_0_0_0 = G
  have eg : u (ix3 b l ⟨d.val, by omega⟩) = G (ix3 b l d) := by
    subst hg
    pointwise
  rw [eg, ← siluT_at]
  generalize siluT G = S
  pointwise

/-- The down-projection, at an index. -/
theorem downT_at (a : FVec Ideal S16x256x5632 .f32) (D : FVec Ideal S5632x2048 .f32) (b : Fin 16) (l : Fin 256) (e : Fin 2048) :
    downT a D (ix3 b l e) = ∑ k : Fin 5632, a (ix3 b l k) * D (ix2 k e) := by
  pointwise [downT]

/-- The normalisation, at an index. -/
theorem normT_at (p : FVec Ideal S16x256x2048 .f32) (n : FVec Ideal S2048 .f32) (b : Fin 16) (l : Fin 256) (e : Fin 2048) :
    normT p n (ix3 b l e) = p (ix3 b l e) * Ideal.rsqrt (Ideal.div (∑ k : Fin 2048, p (ix3 b l k) * p (ix3 b l k)) (Ideal.ofBits .f32 0x45000000#32) + Ideal.ofBits .f32 0x358637BD#32) * n (ix1 e) := by
  pointwise [normT]

/-- The result, at an index. -/
theorem outT_at (x : FVec Ideal S16x256x2048 .f32) (g : FVec Ideal S1x1x2048 .f32) (p : FVec Ideal S16x256x2048 .f32) (r : Fin 4096) (e : Fin 2048) :
    outT x g p (ix2 r e) = x (ix3 ⟨r.val / 256, by omega⟩ ⟨r.val % 256, by omega⟩ e) + g (ix3 (0 : Fin 1) (0 : Fin 1) e) * p (ix3 ⟨r.val / 256, by omega⟩ ⟨r.val % 256, by omega⟩ e) := by
  pointwise [outT]

/-- The whole down-projection, at an index. -/
theorem down_vdown (h : FVec Ideal S16x256x2048 .f32) (W : FVec Ideal S2048x11264 .f32) (w : FVec Ideal S3x11264 .f32) (z : FVec Ideal S11264 .f32) (D : FVec Ideal S5632x2048 .f32) (b : Fin 16) (l : Fin 256) (e : Fin 2048) :
    downT (actT (biasT (convT (upT h W) w) z)) D (ix3 b l e) = Cert.FfnPromptIdeal.Ffn.vdown h W w z D b l e := by
  rw [downT_at]
  unfold Cert.FfnPromptIdeal.Ffn.vdown Cert.FfnPromptIdeal.Ffn.vact Cert.FfnPromptIdeal.Ffn.vconv
  simp only [actT_at, convT_at, upT_at]

/-- The reference's result, at an index. -/
theorem allT_at (h x : FVec Ideal S16x256x2048 .f32) (g : FVec Ideal S1x1x2048 .f32) (W : FVec Ideal S2048x11264 .f32) (w : FVec Ideal S3x11264 .f32) (z : FVec Ideal S11264 .f32)
    (D : FVec Ideal S5632x2048 .f32) (n : FVec Ideal S2048 .f32) (r : Fin 4096) (e : Fin 2048) :
    allT h x g W w z D n (ix2 r e)
      = Cert.FfnPromptIdeal.Ffn.vout x g n ⟨r.val / 256, by omega⟩ ⟨r.val % 256, by omega⟩ (Cert.FfnPromptIdeal.Ffn.vdown h W w z D ⟨r.val / 256, by omega⟩ ⟨r.val % 256, by omega⟩) e := by
  unfold allT Cert.FfnPromptIdeal.Ffn.vout
  rw [outT_at, normT_at]
  simp only [down_vdown]

end Cert.FfnPromptRefIdeal.Ffn

namespace Cert.FfnPromptIdeal.Ffn

open Cert.FfnPromptIdeal Cert.FfnPromptIdeal.Gen

/-- The feed-forward call and its reference end with equal results. -/
theorem algebraic : Cert.algebraic_FfnPromptIdeal_FfnPromptRefIdeal (hFfnPromptIdeal := Cert.FfnPromptIdeal.Gen.facts) (hFfnPromptRefIdeal := Cert.FfnPromptRefIdeal.Gen.facts) := by
  intro m g m' g' _ hag
  refine ⟨fun c => OUT m c, run_call m g, ?_⟩
  refine (θ_run _ _ _).mono (fun r h c => ?_) (Cert.FfnPromptRefIdeal.Value.run (F := Ideal) m' g')
  refine ⟨(h c).1.trans ?_, (h c).2⟩
  obtain ⟨h0, h1, h2, h3, h4, h5, h6, h7⟩ := hag c
  refine Eq.trans (b := Cert.FfnPromptRefIdeal.Ffn.allT (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))) ?_ ?_
  · rw [← h0, ← h1, ← h2, ← h3, ← h4, ← h5, ← h6, ← h7]
    rfl
  · funext i
    rw [eq_ix2 i]
    exact (Cert.FfnPromptRefIdeal.Ffn.allT_at _ _ _ _ _ _ _ _ (i 0) (i 1)).trans (ffn_vout _ _ _ _ _ _ _ _ (i 0) (i 1)).symm

end Cert.FfnPromptIdeal.Ffn

end
-- ==== Proof.lean ====
module

public import proofs.«01_k».proof.Proof.Gen.ReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MlaIn
public import proofs.«01_k».proof.Proof.Gen.MlaIn.Skeleton
public import proofs.«01_k».proof.Proof.Gen.MlaIn.Launch
public import proofs.«01_k».proof.Proof.Gen.MlaIn.Points
public import proofs.«01_k».proof.Proof.Gen.MlaIn.Frame
public import proofs.«01_k».proof.Proof.Gen.MlaInIdeal
public import proofs.«01_k».proof.Proof.Gen.MlaInIdeal.Skeleton
public import proofs.«01_k».proof.Proof.Gen.MlaInIdeal.Launch
public import proofs.«01_k».proof.Proof.Gen.MlaInIdeal.Points
public import proofs.«01_k».proof.Proof.Gen.MlaInIdeal.Frame
public import proofs.«01_k».proof.Proof.Gen.ShortConv
public import proofs.«01_k».proof.Proof.Gen.ShortConv.Skeleton
public import proofs.«01_k».proof.Proof.Gen.ShortConv.Launch
public import proofs.«01_k».proof.Proof.Gen.ShortConv.Points
public import proofs.«01_k».proof.Proof.Gen.ShortConv.Frame
public import proofs.«01_k».proof.Proof.Gen.ShortConvIdeal
public import proofs.«01_k».proof.Proof.Gen.ShortConvIdeal.Skeleton
public import proofs.«01_k».proof.Proof.Gen.ShortConvIdeal.Launch
public import proofs.«01_k».proof.Proof.Gen.ShortConvIdeal.Points
public import proofs.«01_k».proof.Proof.Gen.ShortConvIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal.Run
public import proofs.«01_k».proof.Proof.Gen.FfnPrompt
public import proofs.«01_k».proof.Proof.Gen.FfnPrompt.Skeleton
public import proofs.«01_k».proof.Proof.Gen.FfnPrompt.Launch
public import proofs.«01_k».proof.Proof.Gen.FfnPrompt.Points
public import proofs.«01_k».proof.Proof.Gen.FfnPrompt.Frame
public import proofs.«01_k».proof.Proof.Gen.FfnPromptIdeal
public import proofs.«01_k».proof.Proof.Gen.FfnPromptIdeal.Skeleton
public import proofs.«01_k».proof.Proof.Gen.FfnPromptIdeal.Launch
public import proofs.«01_k».proof.Proof.Gen.FfnPromptIdeal.Points
public import proofs.«01_k».proof.Proof.Gen.FfnPromptIdeal.Frame
public import proofs.«01_k».proof.Proof.Gen.FfnPromptRefIdeal.Run
public import proofs.«01_k».proof.Proof.Gen.MergeIdeal.Value
public import proofs.«01_k».proof.Proof.Gen.MlaInIdeal.Value
public import proofs.«01_k».proof.Proof.Gen.ShortConvIdeal.Value
public import proofs.«01_k».proof.Proof.Gen.MergeRefIdeal.Run
public import proofs.«01_k».proof.Proof.Gen.MlaInRefIdeal.Run
public import proofs.«01_k».proof.Proof.Gen.ShortConvRefIdeal.Run
public import proofs.«01_k».proof.Proof.AttnEq
public import proofs.«01_k».proof.Proof.MergeEq
public import proofs.«01_k».proof.Proof.MlaEq
public import proofs.«01_k».proof.Proof.ScEq
public import proofs.«01_k».proof.Proof.FfnEq
public import proofs.«01_k».proof.Proof.FfnPromptEq
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The attention and its reference end with equal results, from arrays of reals. -/
theorem attention : letI := Cert.Pre_finite.facts
    Cert.algebraic_KernelIdeal_ReferenceIdeal_pre_finite (hKernelIdeal := Cert.KernelIdeal.Gen.facts)
      (hReferenceIdeal := Cert.ReferenceIdeal.Gen.facts) := by
  letI := Cert.Pre_finite.facts
  intro m g m' g' hpre hag
  refine ⟨fun c => Cert.KernelIdeal.Attn.OUT m g c, Cert.KernelIdeal.Attn.run m g, ?_⟩
  refine (θ_run _ _ _).mono (fun r h c => ?_) (Cert.ReferenceIdeal.Value.run (F := Ideal) m' g')
  exact ⟨(h c).1.trans (Cert.KernelIdeal.Attn.out_eq m g m' c (hpre c) (hag c).1 (hag c).2.1 (hag c).2.2.1 (hag c).2.2.2.1 (hag c).2.2.2.2), (h c).2⟩

/-- The attention's reference runs and leaves its arguments unchanged. -/
theorem attention_reference : Cert.quiescent_ReferenceIdeal (hReferenceIdeal := Cert.ReferenceIdeal.Gen.facts) := by
  intro m g _
  exact (θ_run _ _ _).mono (fun r h => ⟨fun c => (h c).2, sem_eq_zero_of_no_sems rfl _⟩) (Cert.ReferenceIdeal.Value.run (F := Ideal) m g)

/-- The merge's reference runs and leaves its arguments unchanged. -/
theorem merge_reference : Cert.quiescent_MergeRefIdeal (hMergeRefIdeal := Cert.MergeRefIdeal.Gen.facts) := by
  intro m g _
  exact (θ_run _ _ _).mono (fun r h => ⟨fun c => (h c).2, sem_eq_zero_of_no_sems rfl _⟩) (Cert.MergeRefIdeal.Value.run (F := Ideal) m g)

/-- The latent projections' reference runs and leaves its arguments unchanged. -/
theorem mlaIn_reference : Cert.quiescent_MlaInRefIdeal (hMlaInRefIdeal := Cert.MlaInRefIdeal.Gen.facts) := by
  intro m g _
  exact (θ_run _ _ _).mono (fun r h => ⟨fun c => (h c).2.2.2.2.2.2, sem_eq_zero_of_no_sems rfl _⟩) (Cert.MlaInRefIdeal.Value.run (F := Ideal) m g)

/-- The short convolution's reference runs and leaves its arguments unchanged. -/
theorem shortConv_reference : Cert.quiescent_ShortConvRefIdeal (hShortConvRefIdeal := Cert.ShortConvRefIdeal.Gen.facts) := by
  intro m g _
  exact (θ_run _ _ _).mono (fun r h => ⟨fun c => (h c).2, sem_eq_zero_of_no_sems rfl _⟩) (Cert.ShortConvRefIdeal.Value.run (F := Ideal) m g)

/-- The feed-forward's reference runs and leaves its arguments unchanged. -/
theorem ffn_reference : Cert.quiescent_FfnRefIdeal (hFfnRefIdeal := Cert.FfnRefIdeal.Gen.facts) := by
  intro m g _
  exact (θ_run _ _ _).mono (fun r h => ⟨fun c => (h c).2, sem_eq_zero_of_no_sems rfl _⟩) (Cert.FfnRefIdeal.Value.run (F := Ideal) m g)

/-- The prompt batch's feed-forward's reference runs and leaves its arguments unchanged. -/
theorem ffn_prompt_reference : Cert.quiescent_FfnPromptRefIdeal (hFfnPromptRefIdeal := Cert.FfnPromptRefIdeal.Gen.facts) := by
  intro m g _
  exact (θ_run _ _ _).mono (fun r h => ⟨fun c => (h c).2, sem_eq_zero_of_no_sems rfl _⟩) (Cert.FfnPromptRefIdeal.Value.run (F := Ideal) m g)

/-- The claim. -/
theorem claim : Cert.Claim := ⟨Cert.Kernel.Gen.facts, Cert.KernelIdeal.Gen.facts, Cert.ReferenceIdeal.Gen.facts, Cert.Merge.Gen.facts, Cert.MergeIdeal.Gen.facts, Cert.MergeRefIdeal.Gen.facts, Cert.MlaIn.Gen.facts, Cert.MlaInIdeal.Gen.facts, Cert.MlaInRefIdeal.Gen.facts, Cert.ShortConv.Gen.facts, Cert.ShortConvIdeal.Gen.facts, Cert.ShortConvRefIdeal.Gen.facts, Cert.Ffn.Gen.facts, Cert.FfnIdeal.Gen.facts, Cert.FfnRefIdeal.Gen.facts, Cert.FfnPrompt.Gen.facts, Cert.FfnPromptIdeal.Gen.facts, Cert.FfnPromptRefIdeal.Gen.facts, Cert.Pre_finite.facts,
  fun m g _ => Cert.Kernel.Gen.frame m g, fun m g _ => Cert.KernelIdeal.Gen.frame m g, fun m g _ => Cert.KernelIdeal.Gen.frame m g,
  attention_reference, fun m g _ => attention_reference m g trivial,
  fun m g _ => Cert.Merge.Gen.frame m g, fun m g _ => Cert.MergeIdeal.Gen.frame m g, merge_reference,
  fun m g _ => Cert.MlaIn.Gen.frame m g, fun m g _ => Cert.MlaInIdeal.Gen.frame m g, mlaIn_reference,
  fun m g _ => Cert.ShortConv.Gen.frame m g, fun m g _ => Cert.ShortConvIdeal.Gen.frame m g, shortConv_reference,
  fun m g _ => Cert.Ffn.Gen.frame m g, fun m g _ => Cert.FfnIdeal.Gen.frame m g, ffn_reference,
  fun m g _ => Cert.FfnPrompt.Gen.frame m g, fun m g _ => Cert.FfnPromptIdeal.Gen.frame m g, ffn_prompt_reference,
  trivial, attention, trivial, Cert.MergeIdeal.Merge.algebraic, trivial, Cert.MlaInIdeal.Mla.algebraic, trivial, Cert.ShortConvIdeal.Conv.algebraic, trivial, Cert.FfnIdeal.Ffn.algebraic, trivial, Cert.FfnPromptIdeal.Ffn.algebraic⟩

end Cert.Proof

end
